-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_KernelInR (m : (ℓ : Loc Cert.KernelInR.nD Cert.KernelInR.τ Cert.KernelInR.sig) → Buf (Elt Bits) ℓ) : Prop :=
  True

def Pre_KernelInRIdeal (m : (ℓ : Loc Cert.KernelInRIdeal.nD Cert.KernelInRIdeal.τ Cert.KernelInRIdeal.sig) → Buf (Elt Ideal) ℓ) : Prop :=
  True

def Pre_ReferenceInRIdeal (m : (ℓ : Loc Cert.ReferenceInRIdeal.nD Cert.ReferenceInRIdeal.τ Cert.ReferenceInRIdeal.sig) → Buf (Elt Ideal) ℓ) : Prop :=
  True

def Pre_KernelInD (m : (ℓ : Loc Cert.KernelInD.nD Cert.KernelInD.τ Cert.KernelInD.sig) → Buf (Elt Bits) ℓ) : Prop :=
  True

def Pre_KernelInDIdeal (m : (ℓ : Loc Cert.KernelInDIdeal.nD Cert.KernelInDIdeal.τ Cert.KernelInDIdeal.sig) → Buf (Elt Ideal) ℓ) : Prop :=
  True

def Pre_ReferenceInDIdeal (m : (ℓ : Loc Cert.ReferenceInDIdeal.nD Cert.ReferenceInDIdeal.τ Cert.ReferenceInDIdeal.sig) → Buf (Elt Ideal) ℓ) : Prop :=
  True

def Pre_KernelGu [hPre_tables : Cert.Pre_tables.Facts] (m : (ℓ : Loc Cert.KernelGu.nD Cert.KernelGu.τ Cert.KernelGu.sig) → Buf (Elt Bits) ℓ) : Prop :=
  ∀ c : Dev Cert.KernelGu.nD,
    (Cert.Pre_tables.fn (F := Bits) (m ((c.tc : Thread Cert.KernelGu.nD Cert.KernelGu.τ).loc Cert.KernelGu.main_arg0)) (m ((c.tc : Thread Cert.KernelGu.nD Cert.KernelGu.τ).loc Cert.KernelGu.main_arg1)) (m ((c.tc : Thread Cert.KernelGu.nD Cert.KernelGu.τ).loc Cert.KernelGu.main_arg2)) (m ((c.tc : Thread Cert.KernelGu.nD Cert.KernelGu.τ).loc Cert.KernelGu.main_arg3)) (m ((c.tc : Thread Cert.KernelGu.nD Cert.KernelGu.τ).loc Cert.KernelGu.main_arg4))).1 = (fun _ => 1#1)
    ∧ (Cert.Pre_tables.fn (F := Bits) (m ((c.tc : Thread Cert.KernelGu.nD Cert.KernelGu.τ).loc Cert.KernelGu.main_arg0)) (m ((c.tc : Thread Cert.KernelGu.nD Cert.KernelGu.τ).loc Cert.KernelGu.main_arg1)) (m ((c.tc : Thread Cert.KernelGu.nD Cert.KernelGu.τ).loc Cert.KernelGu.main_arg2)) (m ((c.tc : Thread Cert.KernelGu.nD Cert.KernelGu.τ).loc Cert.KernelGu.main_arg3)) (m ((c.tc : Thread Cert.KernelGu.nD Cert.KernelGu.τ).loc Cert.KernelGu.main_arg4))).2 = (fun _ => 1#1)

def Pre_KernelGuIdeal [hPre_tables : Cert.Pre_tables.Facts] (m : (ℓ : Loc Cert.KernelGuIdeal.nD Cert.KernelGuIdeal.τ Cert.KernelGuIdeal.sig) → Buf (Elt Ideal) ℓ) : Prop :=
  ∀ c : Dev Cert.KernelGuIdeal.nD,
    (Cert.Pre_tables.fn (F := Ideal) (m ((c.tc : Thread Cert.KernelGuIdeal.nD Cert.KernelGuIdeal.τ).loc Cert.KernelGuIdeal.main_arg0)) (m ((c.tc : Thread Cert.KernelGuIdeal.nD Cert.KernelGuIdeal.τ).loc Cert.KernelGuIdeal.main_arg1)) (m ((c.tc : Thread Cert.KernelGuIdeal.nD Cert.KernelGuIdeal.τ).loc Cert.KernelGuIdeal.main_arg2)) (m ((c.tc : Thread Cert.KernelGuIdeal.nD Cert.KernelGuIdeal.τ).loc Cert.KernelGuIdeal.main_arg3)) (m ((c.tc : Thread Cert.KernelGuIdeal.nD Cert.KernelGuIdeal.τ).loc Cert.KernelGuIdeal.main_arg4))).1 = (fun _ => 1#1)
    ∧ (Cert.Pre_tables.fn (F := Ideal) (m ((c.tc : Thread Cert.KernelGuIdeal.nD Cert.KernelGuIdeal.τ).loc Cert.KernelGuIdeal.main_arg0)) (m ((c.tc : Thread Cert.KernelGuIdeal.nD Cert.KernelGuIdeal.τ).loc Cert.KernelGuIdeal.main_arg1)) (m ((c.tc : Thread Cert.KernelGuIdeal.nD Cert.KernelGuIdeal.τ).loc Cert.KernelGuIdeal.main_arg2)) (m ((c.tc : Thread Cert.KernelGuIdeal.nD Cert.KernelGuIdeal.τ).loc Cert.KernelGuIdeal.main_arg3)) (m ((c.tc : Thread Cert.KernelGuIdeal.nD Cert.KernelGuIdeal.τ).loc Cert.KernelGuIdeal.main_arg4))).2 = (fun _ => 1#1)

def Pre_ReferenceGuIdeal (m : (ℓ : Loc Cert.ReferenceGuIdeal.nD Cert.ReferenceGuIdeal.τ Cert.ReferenceGuIdeal.sig) → Buf (Elt Ideal) ℓ) : Prop :=
  True

def Pre_ReferenceGuIdeal_tables [hPre_tables : Cert.Pre_tables.Facts] (m : (ℓ : Loc Cert.ReferenceGuIdeal.nD Cert.ReferenceGuIdeal.τ Cert.ReferenceGuIdeal.sig) → Buf (Elt Ideal) ℓ) : Prop :=
  ∀ c : Dev Cert.ReferenceGuIdeal.nD,
    (Cert.Pre_tables.fn (F := Ideal) (m ((c.tc : Thread Cert.ReferenceGuIdeal.nD Cert.ReferenceGuIdeal.τ).loc Cert.ReferenceGuIdeal.main_arg0)) (m ((c.tc : Thread Cert.ReferenceGuIdeal.nD Cert.ReferenceGuIdeal.τ).loc Cert.ReferenceGuIdeal.main_arg1)) (m ((c.tc : Thread Cert.ReferenceGuIdeal.nD Cert.ReferenceGuIdeal.τ).loc Cert.ReferenceGuIdeal.main_arg2)) (m ((c.tc : Thread Cert.ReferenceGuIdeal.nD Cert.ReferenceGuIdeal.τ).loc Cert.ReferenceGuIdeal.main_arg3)) (m ((c.tc : Thread Cert.ReferenceGuIdeal.nD Cert.ReferenceGuIdeal.τ).loc Cert.ReferenceGuIdeal.main_arg4))).1 = (fun _ => 1#1)
    ∧ (Cert.Pre_tables.fn (F := Ideal) (m ((c.tc : Thread Cert.ReferenceGuIdeal.nD Cert.ReferenceGuIdeal.τ).loc Cert.ReferenceGuIdeal.main_arg0)) (m ((c.tc : Thread Cert.ReferenceGuIdeal.nD Cert.ReferenceGuIdeal.τ).loc Cert.ReferenceGuIdeal.main_arg1)) (m ((c.tc : Thread Cert.ReferenceGuIdeal.nD Cert.ReferenceGuIdeal.τ).loc Cert.ReferenceGuIdeal.main_arg2)) (m ((c.tc : Thread Cert.ReferenceGuIdeal.nD Cert.ReferenceGuIdeal.τ).loc Cert.ReferenceGuIdeal.main_arg3)) (m ((c.tc : Thread Cert.ReferenceGuIdeal.nD Cert.ReferenceGuIdeal.τ).loc Cert.ReferenceGuIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelInR [hKernelInR : Cert.KernelInR.Facts] : Prop :=
  ∀ (m : (ℓ : Loc Cert.KernelInR.nD Cert.KernelInR.τ Cert.KernelInR.sig) → Buf (Elt Bits) ℓ) (g : Dev Cert.KernelInR.nD → PrngReg), Pre_KernelInR m →
    θ_run (Cert.KernelInR.defs (F := Bits)) (onTc (τ := Cert.KernelInR.τ) (Cert.KernelInR.main (F := Bits))) ⟨m, fun _ => 0, g⟩ (fun r => (∀ c : Dev Cert.KernelInR.nD,
      r.2.mem ((c.tc : Thread Cert.KernelInR.nD Cert.KernelInR.τ).loc Cert.KernelInR.main_arg0) = m ((c.tc : Thread Cert.KernelInR.nD Cert.KernelInR.τ).loc Cert.KernelInR.main_arg0)
      ∧ r.2.mem ((c.tc : Thread Cert.KernelInR.nD Cert.KernelInR.τ).loc Cert.KernelInR.main_arg1) = m ((c.tc : Thread Cert.KernelInR.nD Cert.KernelInR.τ).loc Cert.KernelInR.main_arg1))
      ∧ r.2.sem = fun _ => 0)

def quiescent_KernelInRIdeal [hKernelInRIdeal : Cert.KernelInRIdeal.Facts] : Prop :=
  ∀ (m : (ℓ : Loc Cert.KernelInRIdeal.nD Cert.KernelInRIdeal.τ Cert.KernelInRIdeal.sig) → Buf (Elt Ideal) ℓ) (g : Dev Cert.KernelInRIdeal.nD → PrngReg), Pre_KernelInRIdeal m →
    θ_run (Cert.KernelInRIdeal.defs (F := Ideal)) (onTc (τ := Cert.KernelInRIdeal.τ) (Cert.KernelInRIdeal.main (F := Ideal))) ⟨m, fun _ => 0, g⟩ (fun r => (∀ c : Dev Cert.KernelInRIdeal.nD,
      r.2.mem ((c.tc : Thread Cert.KernelInRIdeal.nD Cert.KernelInRIdeal.τ).loc Cert.KernelInRIdeal.main_arg0) = m ((c.tc : Thread Cert.KernelInRIdeal.nD Cert.KernelInRIdeal.τ).loc Cert.KernelInRIdeal.main_arg0)
      ∧ r.2.mem ((c.tc : Thread Cert.KernelInRIdeal.nD Cert.KernelInRIdeal.τ).loc Cert.KernelInRIdeal.main_arg1) = m ((c.tc : Thread Cert.KernelInRIdeal.nD Cert.KernelInRIdeal.τ).loc Cert.KernelInRIdeal.main_arg1))
      ∧ r.2.sem = fun _ => 0)

def quiescent_ReferenceInRIdeal [hReferenceInRIdeal : Cert.ReferenceInRIdeal.Facts] : Prop :=
  ∀ (m : (ℓ : Loc Cert.ReferenceInRIdeal.nD Cert.ReferenceInRIdeal.τ Cert.ReferenceInRIdeal.sig) → Buf (Elt Ideal) ℓ) (g : Dev Cert.ReferenceInRIdeal.nD → PrngReg), Pre_ReferenceInRIdeal m →
    θ_run (Cert.ReferenceInRIdeal.defs (F := Ideal)) (onTc (τ := Cert.ReferenceInRIdeal.τ) (Cert.ReferenceInRIdeal.main (F := Ideal))) ⟨m, fun _ => 0, g⟩ (fun r => (∀ c : Dev Cert.ReferenceInRIdeal.nD,
      r.2.mem ((c.tc : Thread Cert.ReferenceInRIdeal.nD Cert.ReferenceInRIdeal.τ).loc Cert.ReferenceInRIdeal.main_arg0) = m ((c.tc : Thread Cert.ReferenceInRIdeal.nD Cert.ReferenceInRIdeal.τ).loc Cert.ReferenceInRIdeal.main_arg0)
      ∧ r.2.mem ((c.tc : Thread Cert.ReferenceInRIdeal.nD Cert.ReferenceInRIdeal.τ).loc Cert.ReferenceInRIdeal.main_arg1) = m ((c.tc : Thread Cert.ReferenceInRIdeal.nD Cert.ReferenceInRIdeal.τ).loc Cert.ReferenceInRIdeal.main_arg1))
      ∧ r.2.sem = fun _ => 0)

def quiescent_KernelInD [hKernelInD : Cert.KernelInD.Facts] : Prop :=
  ∀ (m : (ℓ : Loc Cert.KernelInD.nD Cert.KernelInD.τ Cert.KernelInD.sig) → Buf (Elt Bits) ℓ) (g : Dev Cert.KernelInD.nD → PrngReg), Pre_KernelInD m →
    θ_run (Cert.KernelInD.defs (F := Bits)) (onTc (τ := Cert.KernelInD.τ) (Cert.KernelInD.main (F := Bits))) ⟨m, fun _ => 0, g⟩ (fun r => (∀ c : Dev Cert.KernelInD.nD,
      r.2.mem ((c.tc : Thread Cert.KernelInD.nD Cert.KernelInD.τ).loc Cert.KernelInD.main_arg0) = m ((c.tc : Thread Cert.KernelInD.nD Cert.KernelInD.τ).loc Cert.KernelInD.main_arg0)
      ∧ r.2.mem ((c.tc : Thread Cert.KernelInD.nD Cert.KernelInD.τ).loc Cert.KernelInD.main_arg1) = m ((c.tc : Thread Cert.KernelInD.nD Cert.KernelInD.τ).loc Cert.KernelInD.main_arg1))
      ∧ r.2.sem = fun _ => 0)

def quiescent_KernelInDIdeal [hKernelInDIdeal : Cert.KernelInDIdeal.Facts] : Prop :=
  ∀ (m : (ℓ : Loc Cert.KernelInDIdeal.nD Cert.KernelInDIdeal.τ Cert.KernelInDIdeal.sig) → Buf (Elt Ideal) ℓ) (g : Dev Cert.KernelInDIdeal.nD → PrngReg), Pre_KernelInDIdeal m →
    θ_run (Cert.KernelInDIdeal.defs (F := Ideal)) (onTc (τ := Cert.KernelInDIdeal.τ) (Cert.KernelInDIdeal.main (F := Ideal))) ⟨m, fun _ => 0, g⟩ (fun r => (∀ c : Dev Cert.KernelInDIdeal.nD,
      r.2.mem ((c.tc : Thread Cert.KernelInDIdeal.nD Cert.KernelInDIdeal.τ).loc Cert.KernelInDIdeal.main_arg0) = m ((c.tc : Thread Cert.KernelInDIdeal.nD Cert.KernelInDIdeal.τ).loc Cert.KernelInDIdeal.main_arg0)
      ∧ r.2.mem ((c.tc : Thread Cert.KernelInDIdeal.nD Cert.KernelInDIdeal.τ).loc Cert.KernelInDIdeal.main_arg1) = m ((c.tc : Thread Cert.KernelInDIdeal.nD Cert.KernelInDIdeal.τ).loc Cert.KernelInDIdeal.main_arg1))
      ∧ r.2.sem = fun _ => 0)

def quiescent_ReferenceInDIdeal [hReferenceInDIdeal : Cert.ReferenceInDIdeal.Facts] : Prop :=
  ∀ (m : (ℓ : Loc Cert.ReferenceInDIdeal.nD Cert.ReferenceInDIdeal.τ Cert.ReferenceInDIdeal.sig) → Buf (Elt Ideal) ℓ) (g : Dev Cert.ReferenceInDIdeal.nD → PrngReg), Pre_ReferenceInDIdeal m →
    θ_run (Cert.ReferenceInDIdeal.defs (F := Ideal)) (onTc (τ := Cert.ReferenceInDIdeal.τ) (Cert.ReferenceInDIdeal.main (F := Ideal))) ⟨m, fun _ => 0, g⟩ (fun r => (∀ c : Dev Cert.ReferenceInDIdeal.nD,
      r.2.mem ((c.tc : Thread Cert.ReferenceInDIdeal.nD Cert.ReferenceInDIdeal.τ).loc Cert.ReferenceInDIdeal.main_arg0) = m ((c.tc : Thread Cert.ReferenceInDIdeal.nD Cert.ReferenceInDIdeal.τ).loc Cert.ReferenceInDIdeal.main_arg0)
      ∧ r.2.mem ((c.tc : Thread Cert.ReferenceInDIdeal.nD Cert.ReferenceInDIdeal.τ).loc Cert.ReferenceInDIdeal.main_arg1) = m ((c.tc : Thread Cert.ReferenceInDIdeal.nD Cert.ReferenceInDIdeal.τ).loc Cert.ReferenceInDIdeal.main_arg1))
      ∧ r.2.sem = fun _ => 0)

def quiescent_KernelGu [hKernelGu : Cert.KernelGu.Facts] [hPre_tables : Cert.Pre_tables.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1)
      ∧ r.2.mem ((c.tc : Thread Cert.KernelGu.nD Cert.KernelGu.τ).loc Cert.KernelGu.main_arg2) = m ((c.tc : Thread Cert.KernelGu.nD Cert.KernelGu.τ).loc Cert.KernelGu.main_arg2)
      ∧ r.2.mem ((c.tc : Thread Cert.KernelGu.nD Cert.KernelGu.τ).loc Cert.KernelGu.main_arg3) = m ((c.tc : Thread Cert.KernelGu.nD Cert.KernelGu.τ).loc Cert.KernelGu.main_arg3)
      ∧ r.2.mem ((c.tc : Thread Cert.KernelGu.nD Cert.KernelGu.τ).loc Cert.KernelGu.main_arg4) = m ((c.tc : Thread Cert.KernelGu.nD Cert.KernelGu.τ).loc Cert.KernelGu.main_arg4))
      ∧ r.2.sem = fun _ => 0)

def quiescent_KernelGuIdeal [hKernelGuIdeal : Cert.KernelGuIdeal.Facts] [hPre_tables : Cert.Pre_tables.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
      ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2)
      ∧ r.2.mem ((c.tc : Thread Cert.KernelGuIdeal.nD Cert.KernelGuIdeal.τ).loc Cert.KernelGuIdeal.main_arg3) = m ((c.tc : Thread Cert.KernelGuIdeal.nD Cert.KernelGuIdeal.τ).loc Cert.KernelGuIdeal.main_arg3)
      ∧ r.2.mem ((c.tc : Thread Cert.KernelGuIdeal.nD Cert.KernelGuIdeal.τ).loc Cert.KernelGuIdeal.main_arg4) = m ((c.tc : Thread Cert.KernelGuIdeal.nD Cert.KernelGuIdeal.τ).loc Cert.KernelGuIdeal.main_arg4))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2)
      ∧ r.2.mem ((c.tc : Thread Cert.ReferenceGuIdeal.nD Cert.ReferenceGuIdeal.τ).loc Cert.ReferenceGuIdeal.main_arg3) = m ((c.tc : Thread Cert.ReferenceGuIdeal.nD Cert.ReferenceGuIdeal.τ).loc Cert.ReferenceGuIdeal.main_arg3)
      ∧ r.2.mem ((c.tc : Thread Cert.ReferenceGuIdeal.nD Cert.ReferenceGuIdeal.τ).loc Cert.ReferenceGuIdeal.main_arg4) = m ((c.tc : Thread Cert.ReferenceGuIdeal.nD Cert.ReferenceGuIdeal.τ).loc Cert.ReferenceGuIdeal.main_arg4))
      ∧ r.2.sem = fun _ => 0)

def quiescent_ReferenceGuIdeal_pre_tables [hReferenceGuIdeal : Cert.ReferenceGuIdeal.Facts] [hPre_tables : Cert.Pre_tables.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal_tables m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2)
      ∧ r.2.mem ((c.tc : Thread Cert.ReferenceGuIdeal.nD Cert.ReferenceGuIdeal.τ).loc Cert.ReferenceGuIdeal.main_arg3) = m ((c.tc : Thread Cert.ReferenceGuIdeal.nD Cert.ReferenceGuIdeal.τ).loc Cert.ReferenceGuIdeal.main_arg3)
      ∧ r.2.mem ((c.tc : Thread Cert.ReferenceGuIdeal.nD Cert.ReferenceGuIdeal.τ).loc Cert.ReferenceGuIdeal.main_arg4) = m ((c.tc : Thread Cert.ReferenceGuIdeal.nD Cert.ReferenceGuIdeal.τ).loc Cert.ReferenceGuIdeal.main_arg4))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelInR_KernelInRIdeal : Prop :=
  True

def algebraic_KernelInRIdeal_ReferenceInRIdeal [hKernelInRIdeal : Cert.KernelInRIdeal.Facts] [hReferenceInRIdeal : Cert.ReferenceInRIdeal.Facts] : Prop :=
  ∀ (m : (ℓ : Loc Cert.KernelInRIdeal.nD Cert.KernelInRIdeal.τ Cert.KernelInRIdeal.sig) → Buf (Elt Ideal) ℓ) (g : Dev Cert.KernelInRIdeal.nD → PrngReg)
    (m' : (ℓ : Loc Cert.ReferenceInRIdeal.nD Cert.ReferenceInRIdeal.τ Cert.ReferenceInRIdeal.sig) → Buf (Elt Ideal) ℓ) (g' : Dev Cert.ReferenceInRIdeal.nD → PrngReg), Pre_KernelInRIdeal m →
    (∀ c : Dev Cert.KernelInRIdeal.nD,
      m' ((c.tc : Thread Cert.ReferenceInRIdeal.nD Cert.ReferenceInRIdeal.τ).loc Cert.ReferenceInRIdeal.main_arg0) = m ((c.tc : Thread Cert.KernelInRIdeal.nD Cert.KernelInRIdeal.τ).loc Cert.KernelInRIdeal.main_arg0)
      ∧ m' ((c.tc : Thread Cert.ReferenceInRIdeal.nD Cert.ReferenceInRIdeal.τ).loc Cert.ReferenceInRIdeal.main_arg1) = m ((c.tc : Thread Cert.KernelInRIdeal.nD Cert.KernelInRIdeal.τ).loc Cert.KernelInRIdeal.main_arg1)) →
    ∃ (v0 : (c : Dev Cert.KernelInRIdeal.nD) → Buf (Elt Ideal) ((c.tc : Thread Cert.KernelInRIdeal.nD Cert.KernelInRIdeal.τ).loc Cert.KernelInRIdeal.main_v13)),
      θ_run (Cert.KernelInRIdeal.defs (F := Ideal)) (onTc (τ := Cert.KernelInRIdeal.τ) (Cert.KernelInRIdeal.main (F := Ideal))) ⟨m, fun _ => 0, g⟩ (fun r => ∀ c : Dev Cert.KernelInRIdeal.nD,
          r.2.mem ((c.tc : Thread Cert.KernelInRIdeal.nD Cert.KernelInRIdeal.τ).loc Cert.KernelInRIdeal.main_v13) = v0 c
          ∧ r.2.mem ((c.tc : Thread Cert.KernelInRIdeal.nD Cert.KernelInRIdeal.τ).loc Cert.KernelInRIdeal.main_arg0) = m ((c.tc : Thread Cert.KernelInRIdeal.nD Cert.KernelInRIdeal.τ).loc Cert.KernelInRIdeal.main_arg0)
          ∧ r.2.mem ((c.tc : Thread Cert.KernelInRIdeal.nD Cert.KernelInRIdeal.τ).loc Cert.KernelInRIdeal.main_arg1) = m ((c.tc : Thread Cert.KernelInRIdeal.nD Cert.KernelInRIdeal.τ).loc Cert.KernelInRIdeal.main_arg1))
      ∧ θ_run (Cert.ReferenceInRIdeal.defs (F := Ideal)) (onTc (τ := Cert.ReferenceInRIdeal.τ) (Cert.ReferenceInRIdeal.main (F := Ideal))) ⟨m', fun _ => 0, g'⟩ (fun r => ∀ c : Dev Cert.ReferenceInRIdeal.nD,
          r.2.mem ((c.tc : Thread Cert.ReferenceInRIdeal.nD Cert.ReferenceInRIdeal.τ).loc Cert.ReferenceInRIdeal.main_v10) = v0 c
          ∧ r.2.mem ((c.tc : Thread Cert.ReferenceInRIdeal.nD Cert.ReferenceInRIdeal.τ).loc Cert.ReferenceInRIdeal.main_arg0) = m' ((c.tc : Thread Cert.ReferenceInRIdeal.nD Cert.ReferenceInRIdeal.τ).loc Cert.ReferenceInRIdeal.main_arg0)
          ∧ r.2.mem ((c.tc : Thread Cert.ReferenceInRIdeal.nD Cert.ReferenceInRIdeal.τ).loc Cert.ReferenceInRIdeal.main_arg1) = m' ((c.tc : Thread Cert.ReferenceInRIdeal.nD Cert.ReferenceInRIdeal.τ).loc Cert.ReferenceInRIdeal.main_arg1))

def preserves_KernelInD_KernelInDIdeal : Prop :=
  True

def algebraic_KernelInDIdeal_ReferenceInDIdeal [hKernelInDIdeal : Cert.KernelInDIdeal.Facts] [hReferenceInDIdeal : Cert.ReferenceInDIdeal.Facts] : Prop :=
  ∀ (m : (ℓ : Loc Cert.KernelInDIdeal.nD Cert.KernelInDIdeal.τ Cert.KernelInDIdeal.sig) → Buf (Elt Ideal) ℓ) (g : Dev Cert.KernelInDIdeal.nD → PrngReg)
    (m' : (ℓ : Loc Cert.ReferenceInDIdeal.nD Cert.ReferenceInDIdeal.τ Cert.ReferenceInDIdeal.sig) → Buf (Elt Ideal) ℓ) (g' : Dev Cert.ReferenceInDIdeal.nD → PrngReg), Pre_KernelInDIdeal m →
    (∀ c : Dev Cert.KernelInDIdeal.nD,
      m' ((c.tc : Thread Cert.ReferenceInDIdeal.nD Cert.ReferenceInDIdeal.τ).loc Cert.ReferenceInDIdeal.main_arg0) = m ((c.tc : Thread Cert.KernelInDIdeal.nD Cert.KernelInDIdeal.τ).loc Cert.KernelInDIdeal.main_arg0)
      ∧ m' ((c.tc : Thread Cert.ReferenceInDIdeal.nD Cert.ReferenceInDIdeal.τ).loc Cert.ReferenceInDIdeal.main_arg1) = m ((c.tc : Thread Cert.KernelInDIdeal.nD Cert.KernelInDIdeal.τ).loc Cert.KernelInDIdeal.main_arg1)) →
    ∃ (v0 : (c : Dev Cert.KernelInDIdeal.nD) → Buf (Elt Ideal) ((c.tc : Thread Cert.KernelInDIdeal.nD Cert.KernelInDIdeal.τ).loc Cert.KernelInDIdeal.main_v4)),
      θ_run (Cert.KernelInDIdeal.defs (F := Ideal)) (onTc (τ := Cert.KernelInDIdeal.τ) (Cert.KernelInDIdeal.main (F := Ideal))) ⟨m, fun _ => 0, g⟩ (fun r => ∀ c : Dev Cert.KernelInDIdeal.nD,
          r.2.mem ((c.tc : Thread Cert.KernelInDIdeal.nD Cert.KernelInDIdeal.τ).loc Cert.KernelInDIdeal.main_v4) = v0 c
          ∧ r.2.mem ((c.tc : Thread Cert.KernelInDIdeal.nD Cert.KernelInDIdeal.τ).loc Cert.KernelInDIdeal.main_arg0) = m ((c.tc : Thread Cert.KernelInDIdeal.nD Cert.KernelInDIdeal.τ).loc Cert.KernelInDIdeal.main_arg0)
          ∧ r.2.mem ((c.tc : Thread Cert.KernelInDIdeal.nD Cert.KernelInDIdeal.τ).loc Cert.KernelInDIdeal.main_arg1) = m ((c.tc : Thread Cert.KernelInDIdeal.nD Cert.KernelInDIdeal.τ).loc Cert.KernelInDIdeal.main_arg1))
      ∧ θ_run (Cert.ReferenceInDIdeal.defs (F := Ideal)) (onTc (τ := Cert.ReferenceInDIdeal.τ) (Cert.ReferenceInDIdeal.main (F := Ideal))) ⟨m', fun _ => 0, g'⟩ (fun r => ∀ c : Dev Cert.ReferenceInDIdeal.nD,
          r.2.mem ((c.tc : Thread Cert.ReferenceInDIdeal.nD Cert.ReferenceInDIdeal.τ).loc Cert.ReferenceInDIdeal.main_v3) = v0 c
          ∧ r.2.mem ((c.tc : Thread Cert.ReferenceInDIdeal.nD Cert.ReferenceInDIdeal.τ).loc Cert.ReferenceInDIdeal.main_arg0) = m' ((c.tc : Thread Cert.ReferenceInDIdeal.nD Cert.ReferenceInDIdeal.τ).loc Cert.ReferenceInDIdeal.main_arg0)
          ∧ r.2.mem ((c.tc : Thread Cert.ReferenceInDIdeal.nD Cert.ReferenceInDIdeal.τ).loc Cert.ReferenceInDIdeal.main_arg1) = m' ((c.tc : Thread Cert.ReferenceInDIdeal.nD Cert.ReferenceInDIdeal.τ).loc Cert.ReferenceInDIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] [hPre_tables : Cert.Pre_tables.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)
      ∧ m' ((c.tc : Thread Cert.ReferenceGuIdeal.nD Cert.ReferenceGuIdeal.τ).loc Cert.ReferenceGuIdeal.main_arg2) = m ((c.tc : Thread Cert.KernelGuIdeal.nD Cert.KernelGuIdeal.τ).loc Cert.KernelGuIdeal.main_arg2)
      ∧ m' ((c.tc : Thread Cert.ReferenceGuIdeal.nD Cert.ReferenceGuIdeal.τ).loc Cert.ReferenceGuIdeal.main_arg3) = m ((c.tc : Thread Cert.KernelGuIdeal.nD Cert.KernelGuIdeal.τ).loc Cert.KernelGuIdeal.main_arg3)
      ∧ m' ((c.tc : Thread Cert.ReferenceGuIdeal.nD Cert.ReferenceGuIdeal.τ).loc Cert.ReferenceGuIdeal.main_arg4) = m ((c.tc : Thread Cert.KernelGuIdeal.nD Cert.KernelGuIdeal.τ).loc Cert.KernelGuIdeal.main_arg4)) →
    ∃ (v0 : (c : Dev Cert.KernelGuIdeal.nD) → Buf (Elt Ideal) ((c.tc : Thread Cert.KernelGuIdeal.nD Cert.KernelGuIdeal.τ).loc Cert.KernelGuIdeal.main_v2)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v2) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
          ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2)
          ∧ r.2.mem ((c.tc : Thread Cert.KernelGuIdeal.nD Cert.KernelGuIdeal.τ).loc Cert.KernelGuIdeal.main_arg3) = m ((c.tc : Thread Cert.KernelGuIdeal.nD Cert.KernelGuIdeal.τ).loc Cert.KernelGuIdeal.main_arg3)
          ∧ r.2.mem ((c.tc : Thread Cert.KernelGuIdeal.nD Cert.KernelGuIdeal.τ).loc Cert.KernelGuIdeal.main_arg4) = m ((c.tc : Thread Cert.KernelGuIdeal.nD Cert.KernelGuIdeal.τ).loc Cert.KernelGuIdeal.main_arg4))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v57) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1)
          ∧ r.2.mem ((c.tc : Thread Cert.ReferenceGuIdeal.nD Cert.ReferenceGuIdeal.τ).loc Cert.ReferenceGuIdeal.main_arg2) = m' ((c.tc : Thread Cert.ReferenceGuIdeal.nD Cert.ReferenceGuIdeal.τ).loc Cert.ReferenceGuIdeal.main_arg2)
          ∧ r.2.mem ((c.tc : Thread Cert.ReferenceGuIdeal.nD Cert.ReferenceGuIdeal.τ).loc Cert.ReferenceGuIdeal.main_arg3) = m' ((c.tc : Thread Cert.ReferenceGuIdeal.nD Cert.ReferenceGuIdeal.τ).loc Cert.ReferenceGuIdeal.main_arg3)
          ∧ r.2.mem ((c.tc : Thread Cert.ReferenceGuIdeal.nD Cert.ReferenceGuIdeal.τ).loc Cert.ReferenceGuIdeal.main_arg4) = m' ((c.tc : Thread Cert.ReferenceGuIdeal.nD Cert.ReferenceGuIdeal.τ).loc Cert.ReferenceGuIdeal.main_arg4))

def Claim : Prop :=
  ∃ (hKernel : Cert.Kernel.Facts) (hKernelIdeal : Cert.KernelIdeal.Facts) (hReferenceIdeal : Cert.ReferenceIdeal.Facts) (hKernelInR : Cert.KernelInR.Facts) (hKernelInRIdeal : Cert.KernelInRIdeal.Facts) (hReferenceInRIdeal : Cert.ReferenceInRIdeal.Facts) (hKernelInD : Cert.KernelInD.Facts) (hKernelInDIdeal : Cert.KernelInDIdeal.Facts) (hReferenceInDIdeal : Cert.ReferenceInDIdeal.Facts) (hKernelGu : Cert.KernelGu.Facts) (hKernelGuIdeal : Cert.KernelGuIdeal.Facts) (hReferenceGuIdeal : Cert.ReferenceGuIdeal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelInR (hKernelInR := hKernelInR)
    ∧ quiescent_KernelInRIdeal (hKernelInRIdeal := hKernelInRIdeal)
    ∧ quiescent_ReferenceInRIdeal (hReferenceInRIdeal := hReferenceInRIdeal)
    ∧ quiescent_KernelInD (hKernelInD := hKernelInD)
    ∧ quiescent_KernelInDIdeal (hKernelInDIdeal := hKernelInDIdeal)
    ∧ quiescent_ReferenceInDIdeal (hReferenceInDIdeal := hReferenceInDIdeal)
    ∧ quiescent_KernelGu (hKernelGu := hKernelGu) (hPre_tables := hPre_tables)
    ∧ quiescent_KernelGuIdeal (hKernelGuIdeal := hKernelGuIdeal) (hPre_tables := hPre_tables)
    ∧ quiescent_ReferenceGuIdeal (hReferenceGuIdeal := hReferenceGuIdeal)
    ∧ quiescent_ReferenceGuIdeal_pre_tables (hReferenceGuIdeal := hReferenceGuIdeal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelInR_KernelInRIdeal
    ∧ algebraic_KernelInRIdeal_ReferenceInRIdeal (hKernelInRIdeal := hKernelInRIdeal) (hReferenceInRIdeal := hReferenceInRIdeal)
    ∧ preserves_KernelInD_KernelInDIdeal
    ∧ algebraic_KernelInDIdeal_ReferenceInDIdeal (hKernelInDIdeal := hKernelInDIdeal) (hReferenceInDIdeal := hReferenceInDIdeal)
    ∧ preserves_KernelGu_KernelGuIdeal
    ∧ algebraic_KernelGuIdeal_ReferenceGuIdeal (hKernelGuIdeal := hKernelGuIdeal) (hReferenceGuIdeal := hReferenceGuIdeal) (hPre_tables := hPre_tables)
-- ==== Pre_finite.lean ====
abbrev S8x2048x3072 : Shape := ⟨3, ![8, 2048, 3072]⟩
abbrev S64 : Shape := ⟨1, ![64]⟩
abbrev S128 : Shape := ⟨1, ![128]⟩
abbrev S_ : Shape := ⟨0, ![]⟩

class Facts : Prop where
  bcast_S_S8x2048x3072 : S_.BroadcastsInDim S8x2048x3072 (![] : Fin 0 → Fin S8x2048x3072.rank)
  bcast_S_S64 : S_.BroadcastsInDim S64 (![] : Fin 0 → Fin S64.rank)

variable [Facts]

def fn {F : FTy → Type} [FloatOps F] (main_arg0 : FVec F S8x2048x3072 .f32) (main_arg1 : FVec F S64 .f32) (main_arg2 : FVec F S64 .f32) (main_arg3 : FVec F S64 .f32) (main_arg4 : FVec F S64 .f32) (main_arg5 : FVec F S128 .f32) : IVec S8x2048x3072 1 × IVec S64 1 × IVec S64 1 × IVec S64 1 × IVec S64 1 :=
  let main_v0 : FVec F S8x2048x3072 .f32 := Host.absf main_arg0
  let main_cst : FVec F S_ .f32 := constant S_ .f32 0x7F800000#32
  let main_v1 : FVec F S8x2048x3072 .f32 := broadcastInDim S8x2048x3072 ![] bcast_S_S8x2048x3072 main_cst
  let main_v2 : IVec S8x2048x3072 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Pre_tables.lean ====
abbrev S160 : Shape := ⟨1, ![160]⟩
abbrev S81920x8x128 : Shape := ⟨3, ![81920, 8, 128]⟩
abbrev S32x2048x4096 : Shape := ⟨3, ![32, 2048, 4096]⟩
abbrev S32x4096 : Shape := ⟨2, ![32, 4096]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S160 32) (main_arg2 : IVec S81920x8x128 32) (main_arg3 : FVec F S32x2048x4096 .f32) (main_arg4 : FVec F S32x4096 .f32) : IVec S160 1 × IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 0#32
  let main_v5 : IVec S160 32 := broadcastInDim S160 ![] bcast_S_S160 main_c_1
  let main_v6 : IVec S160 1 := cmpi .sge main_arg1 main_v5
  let main_c_2 : IVec S_ 32 := constantI S_ 32 512#32
  let main_v7 : IVec S160 32 := broadcastInDim S160 ![] bcast_S_S160 main_c_2
  let main_v8 : IVec S160 1 := cmpi .sle main_arg1 main_v7
  let main_v9 : IVec S160 1 := andi main_v6 main_v8
  (main_v4, main_v9)
-- ==== Kernel.lean ====
abbrev S8x2048x3072 : Shape := ⟨3, ![8, 2048, 3072]⟩
abbrev S64 : Shape := ⟨1, ![64]⟩
abbrev S128 : Shape := ⟨1, ![128]⟩
abbrev S16384x3072 : Shape := ⟨2, ![16384, 3072]⟩
abbrev S1x64 : Shape := ⟨2, ![1, 64]⟩
abbrev S1x128 : Shape := ⟨2, ![1, 128]⟩
abbrev S128x1 : Shape := ⟨2, ![128, 1]⟩
abbrev S16384x1024 : Shape := ⟨2, ![16384, 1024]⟩
abbrev S512x128 : Shape := ⟨2, ![512, 128]⟩
abbrev S2048x128 : Shape := ⟨2, ![2048, 128]⟩
abbrev S4x144x512 : Shape := ⟨3, ![4, 144, 512]⟩
abbrev S16x512 : Shape := ⟨2, ![16, 512]⟩
abbrev S128x512 : Shape := ⟨2, ![128, 512]⟩
abbrev S144x512 : Shape := ⟨2, ![144, 512]⟩
abbrev S1x144x512 : Shape := ⟨3, ![1, 144, 512]⟩
abbrev S1 : Shape := ⟨1, ![1]⟩
abbrev S1x1 : Shape := ⟨2, ![1, 1]⟩
abbrev S512x512 : Shape := ⟨2, ![512, 512]⟩
abbrev S1x512 : Shape := ⟨2, ![1, 512]⟩
abbrev S512 : Shape := ⟨1, ![512]⟩

abbrev nBuf : Space → Nat
  | .hbm => 15
  | .vmem => 14
  | .smem => 0
  | _ => 0

abbrev bufTy : (tb : Table) → Fin (tcTables nBuf tb) → BufTy
  | .hbm, ⟨0, _⟩ => ⟨S8x2048x3072, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x3072, .f32⟩
  | .hbm, ⟨7, _⟩ => ⟨S16384x3072, .bf16⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S128x1, .f32⟩
  | .hbm, ⟨14, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S512x128, .bf16⟩
  | .local _ .vmem, ⟨12, _⟩ => ⟨S512x128, .bf16⟩
  | .local _ .vmem, ⟨13, _⟩ => ⟨S4x144x512, .bf16⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c0_i32_18 : BitVec 32 := 0#32
  let v47 : BitVec 1 := Scalar.cmpi .eq arg2 c0_i32_18
  let v48 : BitVec 32 := Scalar.extui v47
  let c0_i32_19 : BitVec 32 := 0#32
  let v49 : BitVec 1 := Scalar.cmpi .ne v48 c0_i32_19
  v49

def k0_cond3 (i : grid0.Coords) : BitVec 1 :=
  let arg2 : BitVec 32 := BitVec.ofNat 32 (i 2).val
  let c1_i32 : BitVec 32 := 1#32
  let v50 : BitVec 1 := Scalar.cmpi .eq arg2 c1_i32
  let v51 : BitVec 32 := Scalar.extui v50
  let c0_i32_20 : BitVec 32 := 0#32
  let v52 : BitVec 1 := Scalar.cmpi .ne v51 c0_i32_20
  v52

def k0_cond4 (i : grid0.Coords) : BitVec 1 :=
  let arg2 : BitVec 32 := BitVec.ofNat 32 (i 2).val
  let c2_i32 : BitVec 32 := 2#32
  let v53 : BitVec 1 := Scalar.cmpi .eq arg2 c2_i32
  let v54 : BitVec 32 := Scalar.extui v53
  let c0_i32_21 : BitVec 32 := 0#32
  let v55 : BitVec 1 := Scalar.cmpi .ne v54 c0_i32_21
  v55

def k0_cond5 (i : grid0.Coords) : BitVec 1 :=
  let arg2 : BitVec 32 := BitVec.ofNat 32 (i 2).val
  let c3_i32 : BitVec 32 := 3#32
  let v56 : BitVec 1 := Scalar.cmpi .eq arg2 c3_i32
  let v57 : BitVec 32 := Scalar.extui v56
  let c0_i32_22 : BitVec 32 := 0#32
  let v58 : BitVec 1 := Scalar.cmpi .ne v57 c0_i32_22
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | "scale_log2e" => some (((8 * (Real.log 2))⁻¹ : ℝ) : EReal)
  | _ => none
-- ==== ReferenceIdeal.lean ====
abbrev S8x2048x3072 : Shape := ⟨3, ![8, 2048, 3072]⟩
abbrev S64 : Shape := ⟨1, ![64]⟩
abbrev S128 : Shape := ⟨1, ![128]⟩
abbrev S8x2048x1024 : Shape := ⟨3, ![8, 2048, 1024]⟩
abbrev S8x2048x8x2x64 : Shape := ⟨5, ![8, 2048, 8, 2, 64]⟩
abbrev S8x2048x8x128 : Shape := ⟨4, ![8, 2048, 8, 128]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2x8x2048x2048 : Shape := ⟨5, ![8, 2, 8, 2048, 2048]⟩
abbrev S8x2x8x2048 : Shape := ⟨4, ![8, 2, 8, 2048]⟩
abbrev S8x2x8x2048x1 : Shape := ⟨5, ![8, 2, 8, 2048, 1]⟩
abbrev S8x1x8x2048x2048 : Shape := ⟨5, ![8, 1, 8, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x8x2x64, .f32⟩
  | .hbm, ⟨10, _⟩ => ⟨S8x2048x8x2x64, .f32⟩
  | .hbm, ⟨11, _⟩ => ⟨S8x2048x8x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S8x2x8x2048x2048, .f32⟩
  | .hbm, ⟨30, _⟩ => ⟨S_, .f32⟩
  | .hbm, ⟨31, _⟩ => ⟨S8x2x8x2048x2048, .f32⟩
  | .hbm, ⟨32, _⟩ => ⟨S8x2x8x2048x2048, .f32⟩
  | .hbm, ⟨33, _⟩ => ⟨S_, .f32⟩
  | .hbm, ⟨34, _⟩ => ⟨S_, .f32⟩
  | .hbm, ⟨35, _⟩ => ⟨S8x2x8x2048x2048, .i1⟩
  | .hbm, ⟨36, _⟩ => ⟨S8x2x8x2048x2048, .f32⟩
  | .hbm, ⟨37, _⟩ => ⟨S8x2x8x2048x2048, .f32⟩
  | .hbm, ⟨38, _⟩ => ⟨S_, .f32⟩
  | .hbm, ⟨39, _⟩ => ⟨S8x2x8x2048, .f32⟩
  | .hbm, ⟨40, _⟩ => ⟨S_, .f32⟩
  | .hbm, ⟨41, _⟩ => ⟨S8x2x8x2048, .f32⟩
  | .hbm, ⟨42, _⟩ => ⟨S8x2x8x2048, .f32⟩
  | .hbm, ⟨43, _⟩ => ⟨S8x2x8x2048x1, .f32⟩
  | .hbm, ⟨44, _⟩ => ⟨S8x2x8x2048x2048, .f32⟩
  | .hbm, ⟨45, _⟩ => ⟨S8x2x8x2048x2048, .f32⟩
  | .hbm, ⟨46, _⟩ => ⟨S8x2x8x2048x2048, .f32⟩
  | .hbm, ⟨47, _⟩ => ⟨S_, .f32⟩
  | .hbm, ⟨48, _⟩ => ⟨S8x2x8x2048, .f32⟩
  | .hbm, ⟨49, _⟩ => ⟨S8x2x8x2048x1, .f32⟩
  | .hbm, ⟨50, _⟩ => ⟨S8x2x8x2048x2048, .f32⟩
  | .hbm, ⟨51, _⟩ => ⟨S8x2x8x2048x2048, .f32⟩
  | .hbm, ⟨52, _⟩ => ⟨S8x1x8x2048x2048, .f32⟩
  | .hbm, ⟨53, _⟩ => ⟨S8x8x2048x2048, .f32⟩
  | .hbm, ⟨54, _⟩ => ⟨S8x1x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x128x2048, .f32⟩
  | .hbm, ⟨60, _⟩ => ⟨S8x2048x8x128, .f32⟩
  | .hbm, ⟨61, _⟩ => ⟨S8x2048x8x128, .f32⟩
  | .hbm, ⟨62, _⟩ => ⟨S_, .f32⟩
  | .hbm, ⟨63, _⟩ => ⟨S8x2048x8, .f32⟩
  | .hbm, ⟨64, _⟩ => ⟨S8x2048x8x1, .f32⟩
  | .hbm, ⟨65, _⟩ => ⟨S_, .f32⟩
  | .hbm, ⟨66, _⟩ => ⟨S8x2048x8x1, .f32⟩
  | .hbm, ⟨67, _⟩ => ⟨S8x2048x8x1, .f32⟩
  | .hbm, ⟨68, _⟩ => ⟨S_, .f32⟩
  | .hbm, ⟨69, _⟩ => ⟨S8x2048x8x1, .f32⟩
  | .hbm, ⟨70, _⟩ => ⟨S8x2048x8x1, .f32⟩
  | .hbm, ⟨71, _⟩ => ⟨S8x2048x8x1, .f32⟩
  | .hbm, ⟨72, _⟩ => ⟨S8x2048x8x128, .f32⟩
  | .hbm, ⟨73, _⟩ => ⟨S8x2048x8x128, .f32⟩
  | .hbm, ⟨74, _⟩ => ⟨S1x1x1x128, .f32⟩
  | .hbm, ⟨75, _⟩ => ⟨S8x2048x8x128, .f32⟩
  | .hbm, ⟨76, _⟩ => ⟨S8x2048x8x128, .f32⟩
  | .hbm, ⟨77, _⟩ => ⟨S_, .f32⟩
  | .hbm, ⟨78, _⟩ => ⟨S8x2048x8x128, .f32⟩
  | .hbm, ⟨79, _⟩ => ⟨S8x2048x8x128, .f32⟩
  | .hbm, ⟨80, _⟩ => ⟨S16384x1024, .f32⟩
  | .hbm, ⟨81, _⟩ => ⟨S16384x1024, .bf16⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== KernelInR.lean ====
abbrev S8x2048x2048 : Shape := ⟨3, ![8, 2048, 2048]⟩
abbrev S2048x6432 : Shape := ⟨2, ![2048, 6432]⟩
abbrev S16384x2048 : Shape := ⟨2, ![16384, 2048]⟩
abbrev S2048x3072 : Shape := ⟨2, ![2048, 3072]⟩
abbrev S2048x288 : Shape := ⟨2, ![2048, 288]⟩
abbrev S2048x64 : Shape := ⟨2, ![2048, 64]⟩
abbrev S2048x160 : Shape := ⟨2, ![2048, 160]⟩
abbrev S_ : Shape := ⟨0, ![]⟩
abbrev S2048x128 : Shape := ⟨2, ![2048, 128]⟩
abbrev S2048x256 : Shape := ⟨2, ![2048, 256]⟩
abbrev S2048x512 : Shape := ⟨2, ![2048, 512]⟩
abbrev S2048x3584 : Shape := ⟨2, ![2048, 3584]⟩
abbrev S16384x3584 : Shape := ⟨2, ![16384, 3584]⟩
abbrev S2048x2048 : Shape := ⟨2, ![2048, 2048]⟩

abbrev nBuf : Space → Nat
  | .hbm => 22
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x6432, .f32⟩
  | .hbm, ⟨2, _⟩ => ⟨S16384x2048, .f32⟩
  | .hbm, ⟨3, _⟩ => ⟨S16384x2048, .bf16⟩
  | .hbm, ⟨4, _⟩ => ⟨S2048x3072, .f32⟩
  | .hbm, ⟨5, _⟩ => ⟨S2048x288, .f32⟩
  | .hbm, ⟨6, _⟩ => ⟨S2048x64, .f32⟩
  | .hbm, ⟨7, _⟩ => ⟨S2048x64, .f32⟩
  | .hbm, ⟨8, _⟩ => ⟨S2048x160, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S_, .f32⟩
  | .hbm, ⟨17, _⟩ => ⟨S2048x256, .f32⟩
  | .hbm, ⟨18, _⟩ => ⟨S2048x512, .f32⟩
  | .hbm, ⟨19, _⟩ => ⟨S2048x3584, .f32⟩
  | .hbm, ⟨20, _⟩ => ⟨S2048x3584, .bf16⟩
  | .hbm, ⟨21, _⟩ => ⟨S16384x3584, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_c_1 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInRIdeal.lean ====
abbrev S8x2048x2048 : Shape := ⟨3, ![8, 2048, 2048]⟩
abbrev S2048x6432 : Shape := ⟨2, ![2048, 6432]⟩
abbrev S8x2048x6432 : Shape := ⟨3, ![8, 2048, 6432]⟩
abbrev S8x2048x3360 : Shape := ⟨3, ![8, 2048, 3360]⟩
abbrev S8x2048x3072 : Shape := ⟨3, ![8, 2048, 3072]⟩
abbrev S8x2048x64 : Shape := ⟨3, ![8, 2048, 64]⟩
abbrev S8x2048x160 : Shape := ⟨3, ![8, 2048, 160]⟩
abbrev S_ : Shape := ⟨0, ![]⟩
abbrev S8x2048x128 : Shape := ⟨3, ![8, 2048, 128]⟩
abbrev S8x2048x256 : Shape := ⟨3, ![8, 2048, 256]⟩
abbrev S8x2048x3584 : Shape := ⟨3, ![8, 2048, 3584]⟩
abbrev S16384x3584 : Shape := ⟨2, ![16384, 3584]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x6432, .f32⟩
  | .hbm, ⟨2, _⟩ => ⟨S8x2048x6432, .f32⟩
  | .hbm, ⟨3, _⟩ => ⟨S8x2048x3360, .f32⟩
  | .hbm, ⟨4, _⟩ => ⟨S8x2048x3072, .f32⟩
  | .hbm, ⟨5, _⟩ => ⟨S8x2048x64, .f32⟩
  | .hbm, ⟨6, _⟩ => ⟨S8x2048x64, .f32⟩
  | .hbm, ⟨7, _⟩ => ⟨S8x2048x160, .f32⟩
  | .hbm, ⟨8, _⟩ => ⟨S_, .i32⟩
  | .hbm, ⟨9, _⟩ => ⟨S_, .f32⟩
  | .hbm, ⟨10, _⟩ => ⟨S8x2048x128, .f32⟩
  | .hbm, ⟨11, _⟩ => ⟨S_, .i32⟩
  | .hbm, ⟨12, _⟩ => ⟨S_, .f32⟩
  | .hbm, ⟨13, _⟩ => ⟨S8x2048x128, .f32⟩
  | .hbm, ⟨14, _⟩ => ⟨S_, .i32⟩
  | .hbm, ⟨15, _⟩ => ⟨S_, .f32⟩
  | .hbm, ⟨16, _⟩ => ⟨S8x2048x256, .f32⟩
  | .hbm, ⟨17, _⟩ => ⟨S8x2048x3584, .f32⟩
  | .hbm, ⟨18, _⟩ => ⟨S16384x3584, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== KernelInD.lean ====
abbrev S8x2048x2048 : Shape := ⟨3, ![8, 2048, 2048]⟩
abbrev S2048x6432 : Shape := ⟨2, ![2048, 6432]⟩
abbrev S16384x2048 : Shape := ⟨2, ![16384, 2048]⟩
abbrev S2048x3072 : Shape := ⟨2, ![2048, 3072]⟩
abbrev S16384x3072 : Shape := ⟨2, ![16384, 3072]⟩
abbrev S2048x2048 : Shape := ⟨2, ![2048, 2048]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x6432, .f32⟩
  | .hbm, ⟨2, _⟩ => ⟨S16384x2048, .f32⟩
  | .hbm, ⟨3, _⟩ => ⟨S16384x2048, .bf16⟩
  | .hbm, ⟨4, _⟩ => ⟨S2048x3072, .f32⟩
  | .hbm, ⟨5, _⟩ => ⟨S2048x3072, .bf16⟩
  | .hbm, ⟨6, _⟩ => ⟨S16384x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInDIdeal.lean ====
abbrev S8x2048x2048 : Shape := ⟨3, ![8, 2048, 2048]⟩
abbrev S2048x6432 : Shape := ⟨2, ![2048, 6432]⟩
abbrev S8x2048x6432 : Shape := ⟨3, ![8, 2048, 6432]⟩
abbrev S8x2048x3072 : Shape := ⟨3, ![8, 2048, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x6432, .f32⟩
  | .hbm, ⟨2, _⟩ => ⟨S8x2048x6432, .f32⟩
  | .hbm, ⟨3, _⟩ => ⟨S8x2048x3072, .f32⟩
  | .hbm, ⟨4, _⟩ => ⟨S16384x3072, .f32⟩
  | .hbm, ⟨5, _⟩ => ⟨S16384x3072, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGu.lean ====
abbrev S160 : Shape := ⟨1, ![160]⟩
abbrev S81920x8x128 : Shape := ⟨3, ![81920, 8, 128]⟩
abbrev S32x2048x4096 : Shape := ⟨3, ![32, 2048, 4096]⟩
abbrev S32x4096 : Shape := ⟨2, ![32, 4096]⟩
abbrev S655360x128 : Shape := ⟨2, ![655360, 128]⟩
abbrev S32x1x4096 : Shape := ⟨3, ![32, 1, 4096]⟩
abbrev S81920x2048 : Shape := ⟨2, ![81920, 2048]⟩
abbrev S4096x128 : Shape := ⟨2, ![4096, 128]⟩
abbrev S1x2048x1024 : Shape := ⟨3, ![1, 2048, 1024]⟩
abbrev S1 : Shape := ⟨1, ![1]⟩
abbrev S1x1x1024 : Shape := ⟨3, ![1, 1, 1024]⟩
abbrev S512x1024 : Shape := ⟨2, ![512, 1024]⟩
abbrev S64x128 : Shape := ⟨2, ![64, 128]⟩
abbrev S64x1024 : Shape := ⟨2, ![64, 1024]⟩
abbrev S64x2048 : Shape := ⟨2, ![64, 2048]⟩
abbrev S64x256 : Shape := ⟨2, ![64, 256]⟩
abbrev S1x256x1024 : Shape := ⟨3, ![1, 256, 1024]⟩
abbrev S256x1024 : Shape := ⟨2, ![256, 1024]⟩
abbrev S1x1024 : Shape := ⟨2, ![1, 1024]⟩
abbrev S448x1024 : Shape := ⟨2, ![448, 1024]⟩
abbrev S128x128 : Shape := ⟨2, ![128, 128]⟩
abbrev S128x1024 : Shape := ⟨2, ![128, 1024]⟩
abbrev S128x2048 : Shape := ⟨2, ![128, 2048]⟩
abbrev S128x256 : Shape := ⟨2, ![128, 256]⟩
abbrev S384x1024 : Shape := ⟨2, ![384, 1024]⟩
abbrev S192x128 : Shape := ⟨2, ![192, 128]⟩
abbrev S192x1024 : Shape := ⟨2, ![192, 1024]⟩
abbrev S192x2048 : Shape := ⟨2, ![192, 2048]⟩
abbrev S192x256 : Shape := ⟨2, ![192, 256]⟩
abbrev S320x1024 : Shape := ⟨2, ![320, 1024]⟩
abbrev S256x128 : Shape := ⟨2, ![256, 128]⟩
abbrev S256x2048 : Shape := ⟨2, ![256, 2048]⟩
abbrev S256x256 : Shape := ⟨2, ![256, 256]⟩
abbrev S320x128 : Shape := ⟨2, ![320, 128]⟩
abbrev S320x2048 : Shape := ⟨2, ![320, 2048]⟩
abbrev S320x256 : Shape := ⟨2, ![320, 256]⟩
abbrev S384x128 : Shape := ⟨2, ![384, 128]⟩
abbrev S384x2048 : Shape := ⟨2, ![384, 2048]⟩
abbrev S384x256 : Shape := ⟨2, ![384, 256]⟩
abbrev S448x128 : Shape := ⟨2, ![448, 128]⟩
abbrev S448x2048 : Shape := ⟨2, ![448, 2048]⟩
abbrev S448x256 : Shape := ⟨2, ![448, 256]⟩
abbrev S512x128 : Shape := ⟨2, ![512, 128]⟩
abbrev S512x2048 : Shape := ⟨2, ![512, 2048]⟩
abbrev S512x256 : Shape := ⟨2, ![512, 256]⟩

abbrev nBuf : Space → Nat
  | .hbm => 6
  | .vmem => 12
  | .smem => 2
  | _ => 0

abbrev bufTy : (tb : Table) → Fin (tcTables nBuf tb) → BufTy
  | .hbm, ⟨0, _⟩ => ⟨S81920x8x128, .i32⟩
  | .hbm, ⟨1, _⟩ => ⟨S32x2048x4096, .f32⟩
  | .hbm, ⟨2, _⟩ => ⟨S32x4096, .f32⟩
  | .hbm, ⟨3, _⟩ => ⟨S655360x128, .i32⟩
  | .hbm, ⟨4, _⟩ => ⟨S32x1x4096, .f32⟩
  | .hbm, ⟨5, _⟩ => ⟨S81920x2048, .bf16⟩
  | .local _ .vmem, ⟨0, _⟩ => ⟨S4096x128, .i32⟩
  | .local _ .vmem, ⟨1, _⟩ => ⟨S4096x128, .i32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S160, .i32⟩
  | .local _ .smem, ⟨1, _⟩ => ⟨S160, .i32⟩
  | _, _ => ⟨S81920x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c0_i32 : BitVec 32 := 0#32
  let v2 : BitVec 1 := Scalar.cmpi .sgt v1 c0_i32
  let c64_i32 : BitVec 32 := 64#32
  let v3 : BitVec 1 := Scalar.cmpi .sle v1 c64_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (v1 : BitVec 32) : BitVec 1 :=
  let c64_i32_1 : BitVec 32 := 64#32
  let v7 : BitVec 1 := Scalar.cmpi .sgt v1 c64_i32_1
  let c128_i32 : BitVec 32 := 128#32
  let v8 : BitVec 1 := Scalar.cmpi .sle v1 c128_i32
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (v1 : BitVec 32) : BitVec 1 :=
  let c128_i32_3 : BitVec 32 := 128#32
  let v12 : BitVec 1 := Scalar.cmpi .sgt v1 c128_i32_3
  let c192_i32 : BitVec 32 := 192#32
  let v13 : BitVec 1 := Scalar.cmpi .sle v1 c192_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond4 (v1 : BitVec 32) : BitVec 1 :=
  let c192_i32_5 : BitVec 32 := 192#32
  let v17 : BitVec 1 := Scalar.cmpi .sgt v1 c192_i32_5
  let c256_i32 : BitVec 32 := 256#32
  let v18 : BitVec 1 := Scalar.cmpi .sle v1 c256_i32
  let v19 : BitVec 1 := Scalar.andi v17 v18
  let v20 : BitVec 32 := Scalar.extui v19
  let c0_i32_6 : BitVec 32 := 0#32
  let v21 : BitVec 1 := Scalar.cmpi .ne v20 c0_i32_6
  v21

def k0_cond5 (v1 : BitVec 32) : BitVec 1 :=
  let c256_i32_7 : BitVec 32 := 256#32
  let v22 : BitVec 1 := Scalar.cmpi .sgt v1 c256_i32_7
  let c320_i32 : BitVec 32 := 320#32
  let v23 : BitVec 1 := Scalar.cmpi .sle v1 c320_i32
  let v24 : BitVec 1 := Scalar.andi v22 v23
  let v25 : BitVec 32 := Scalar.extui v24
  let c0_i32_8 : BitVec 32 := 0#32
  let v26 : BitVec 1 := Scalar.cmpi .ne v25 c0_i32_8
  v26

def k0_cond6 (v1 : BitVec 32) : BitVec 1 :=
  let c320_i32_9 : BitVec 32 := 320#32
  let v27 : BitVec 1 := Scalar.cmpi .sgt v1 c320_i32_9
  let c384_i32 : BitVec 32 := 384#32
  let v28 : BitVec 1 := Scalar.cmpi .sle v1 c384_i32
  let v29 : BitVec 1 := Scalar.andi v27 v28
  let v30 : BitVec 32 := Scalar.extui v29
  let c0_i32_10 : BitVec 32 := 0#32
  let v31 : BitVec 1 := Scalar.cmpi .ne v30 c0_i32_10
  v31

def k0_cond7 (v1 : BitVec 32) : BitVec 1 :=
  let c384_i32_11 : BitVec 32 := 384#32
  let v32 : BitVec 1 := Scalar.cmpi .sgt v1 c384_i32_11
  let c448_i32 : BitVec 32 := 448#32
  let v33 : BitVec 1 := Scalar.cmpi .sle v1 c448_i32
  let v34 : BitVec 1 := Scalar.andi v32 v33
  let v35 : BitVec 32 := Scalar.extui v34
  let c0_i32_12 : BitVec 32 := 0#32
  let v36 : BitVec 1 := Scalar.cmpi .ne v35 c0_i32_12
  v36

def k0_cond8 (v1 : BitVec 32) : BitVec 1 :=
  let c448_i32_13 : BitVec 32 := 448#32
  let v37 : BitVec 1 := Scalar.cmpi .sgt v1 c448_i32_13
  let c512_i32 : BitVec 32 := 512#32
  let v38 : BitVec 1 := Scalar.cmpi .sle v1 c512_i32
  let v39 : BitVec 1 := Scalar.andi v37 v38
  let v40 : BitVec 32 := Scalar.extui v39
  let c0_i32_14 : BitVec 32 := 0#32
  let v41 : BitVec 1 := Scalar.cmpi .ne v40 c0_i32_14
  v41

def k0_cond9 (v1 : BitVec 32) : BitVec 1 :=
  let c0_i32_15 : BitVec 32 := 0#32
  let v42 : BitVec 1 := Scalar.cmpi .eq v1 c0_i32_15
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGuIdeal.lean ====
abbrev S160 : Shape := ⟨1, ![160]⟩
abbrev S81920x8x128 : Shape := ⟨3, ![81920, 8, 128]⟩
abbrev S32x2048x4096 : Shape := ⟨3, ![32, 2048, 4096]⟩
abbrev S32x4096 : Shape := ⟨2, ![32, 4096]⟩
abbrev S160x512x1024 : Shape := ⟨3, ![160, 512, 1024]⟩
abbrev S_ : Shape := ⟨0, ![]⟩
abbrev S160x512x2048 : Shape := ⟨3, ![160, 512, 2048]⟩
abbrev S160x1 : Shape := ⟨2, ![160, 1]⟩
abbrev S160x2048x4096 : Shape := ⟨3, ![160, 2048, 4096]⟩
abbrev S160x512x4096 : Shape := ⟨3, ![160, 512, 4096]⟩
abbrev S160x4096 : Shape := ⟨2, ![160, 4096]⟩
abbrev S160x1x4096 : Shape := ⟨3, ![160, 1, 4096]⟩
abbrev S160x8x64x2048 : Shape := ⟨4, ![160, 8, 64, 2048]⟩
abbrev S8 : Shape := ⟨1, ![8]⟩
abbrev S1x8 : Shape := ⟨2, ![1, 8]⟩
abbrev S160x8 : Shape := ⟨2, ![160, 8]⟩
abbrev S160x8x1x1 : Shape := ⟨4, ![160, 8, 1, 1]⟩
abbrev S81920x2048 : Shape := ⟨2, ![81920, 2048]⟩

abbrev nBuf : Space → Nat
  | .hbm => 87
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S81920x8x128, .i32⟩
  | .hbm, ⟨3, _⟩ => ⟨S32x2048x4096, .f32⟩
  | .hbm, ⟨4, _⟩ => ⟨S32x4096, .f32⟩
  | .hbm, ⟨5, _⟩ => ⟨S160x512x1024, .i32⟩
  | .hbm, ⟨6, _⟩ => ⟨S_, .i32⟩
  | .hbm, ⟨7, _⟩ => ⟨S160x512x1024, .i32⟩
  | .hbm, ⟨8, _⟩ => ⟨S160x512x1024, .i32⟩
  | .hbm, ⟨9, _⟩ => ⟨S160x512x1024, .f32⟩
  | .hbm, ⟨10, _⟩ => ⟨S_, .i32⟩
  | .hbm, ⟨11, _⟩ => ⟨S160x512x1024, .i32⟩
  | .hbm, ⟨12, _⟩ => ⟨S160x512x1024, .i32⟩
  | .hbm, ⟨13, _⟩ => ⟨S160x512x1024, .f32⟩
  | .hbm, ⟨14, _⟩ => ⟨S160x512x2048, .f32⟩
  | .hbm, ⟨15, _⟩ => ⟨S_, .i32⟩
  | .hbm, ⟨16, _⟩ => ⟨S160, .i32⟩
  | .hbm, ⟨17, _⟩ => ⟨S160, .i1⟩
  | .hbm, ⟨18, _⟩ => ⟨S_, .i32⟩
  | .hbm, ⟨19, _⟩ => ⟨S160, .i32⟩
  | .hbm, ⟨20, _⟩ => ⟨S160, .i32⟩
  | .hbm, ⟨21, _⟩ => ⟨S160, .i32⟩
  | .hbm, ⟨22, _⟩ => ⟨S160x1, .i32⟩
  | .hbm, ⟨23, _⟩ => ⟨S160x2048x4096, .f32⟩
  | .hbm, ⟨24, _⟩ => ⟨S160x512x4096, .f32⟩
  | .hbm, ⟨25, _⟩ => ⟨S_, .i32⟩
  | .hbm, ⟨26, _⟩ => ⟨S160, .i32⟩
  | .hbm, ⟨27, _⟩ => ⟨S160, .i1⟩
  | .hbm, ⟨28, _⟩ => ⟨S_, .i32⟩
  | .hbm, ⟨29, _⟩ => ⟨S160, .i32⟩
  | .hbm, ⟨30, _⟩ => ⟨S160, .i32⟩
  | .hbm, ⟨31, _⟩ => ⟨S160, .i32⟩
  | .hbm, ⟨32, _⟩ => ⟨S160x1, .i32⟩
  | .hbm, ⟨33, _⟩ => ⟨S160x4096, .f32⟩
  | .hbm, ⟨34, _⟩ => ⟨S160x1x4096, .f32⟩
  | .hbm, ⟨35, _⟩ => ⟨S160x512x4096, .f32⟩
  | .hbm, ⟨36, _⟩ => ⟨S160x512x4096, .f32⟩
  | .hbm, ⟨37, _⟩ => ⟨S160x512x2048, .f32⟩
  | .hbm, ⟨38, _⟩ => ⟨S160x512x2048, .f32⟩
  | .hbm, ⟨39, _⟩ => ⟨S_, .f32⟩
  | .hbm, ⟨40, _⟩ => ⟨S160x512x2048, .f32⟩
  | .hbm, ⟨41, _⟩ => ⟨S160x512x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S160x512x2048, .f32⟩
  | .hbm, ⟨46, _⟩ => ⟨S160x512x2048, .f32⟩
  | .hbm, ⟨47, _⟩ => ⟨S_, .f32⟩
  | .hbm, ⟨48, _⟩ => ⟨S160x512x2048, .f32⟩
  | .hbm, ⟨49, _⟩ => ⟨S160x512x2048, .f32⟩
  | .hbm, ⟨50, _⟩ => ⟨S_, .f32⟩
  | .hbm, ⟨51, _⟩ => ⟨S160x512x2048, .f32⟩
  | .hbm, ⟨52, _⟩ => ⟨S160x512x2048, .f32⟩
  | .hbm, ⟨53, _⟩ => ⟨S_, .f32⟩
  | .hbm, ⟨54, _⟩ => ⟨S160x512x2048, .f32⟩
  | .hbm, ⟨55, _⟩ => ⟨S160x512x2048, .f32⟩
  | .hbm, ⟨56, _⟩ => ⟨S160x512x2048, .f32⟩
  | .hbm, ⟨57, _⟩ => ⟨S160x512x2048, .f32⟩
  | .hbm, ⟨58, _⟩ => ⟨S_, .f32⟩
  | .hbm, ⟨59, _⟩ => ⟨S160x512x2048, .f32⟩
  | .hbm, ⟨60, _⟩ => ⟨S160x512x2048, .f32⟩
  | .hbm, ⟨61, _⟩ => ⟨S_, .f32⟩
  | .hbm, ⟨62, _⟩ => ⟨S160x512x2048, .f32⟩
  | .hbm, ⟨63, _⟩ => ⟨S160x512x2048, .f32⟩
  | .hbm, ⟨64, _⟩ => ⟨S160x512x2048, .f32⟩
  | .hbm, ⟨65, _⟩ => ⟨S160x512x2048, .f32⟩
  | .hbm, ⟨66, _⟩ => ⟨S160x8x64x2048, .f32⟩
  | .hbm, ⟨67, _⟩ => ⟨S160x1, .i32⟩
  | .hbm, ⟨68, _⟩ => ⟨S8, .i32⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S1x8, .i32⟩
  | .hbm, ⟨76, _⟩ => ⟨S160x8, .i32⟩
  | .hbm, ⟨77, _⟩ => ⟨S160x8, .i32⟩
  | .hbm, ⟨78, _⟩ => ⟨S160x8, .i1⟩
  | .hbm, ⟨79, _⟩ => ⟨S160x8x1x1, .i1⟩
  | .hbm, ⟨80, _⟩ => ⟨S_, .f32⟩
  | .hbm, ⟨81, _⟩ => ⟨S_, .f32⟩
  | .hbm, ⟨82, _⟩ => ⟨S160x8x64x2048, .i1⟩
  | .hbm, ⟨83, _⟩ => ⟨S160x8x64x2048, .f32⟩
  | .hbm, ⟨84, _⟩ => ⟨S160x8x64x2048, .f32⟩
  | .hbm, ⟨85, _⟩ => ⟨S81920x2048, .f32⟩
  | .hbm, ⟨86, _⟩ => ⟨S81920x2048, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== Proof.Softmax.lean ====
/- The softmax absorbed block by block, over the extended reals: a running maximum and running weighted sums, in base two, against
   the plain weighted sums. Nothing here mentions the kernel. -/
module

public import Idealize.ShloMosaic.PureOps.Ideal.Laws
public import Mathlib.Analysis.SpecialFunctions.Pow.Real
public import Mathlib.Data.Finset.Fold

@[expose] public section

noncomputable section

open scoped BigOperators
open Idealize.ShloMosaic

namespace Cert.Attn

/-- `w` is the base-two weight of the score `σ`: `2 ^ σ`, a masked score (`⊥`) weighing nothing. -/
def Weighs (σ : EReal) (w : ℝ) : Prop := (σ = ⊥ ∧ w = 0) ∨ ∃ s : ℝ, σ = (s : EReal) ∧ w = (2 : ℝ) ^ s

/-- The running maximum is a real `M`, and every running sum is the plain sum `A r` scaled by `2 ^ (-M)`. -/
def Held {ι : Type} (μ : EReal) (acc : ι → EReal) (A : ι → ℝ) : Prop :=
  ∃ M : ℝ, μ = (M : EReal) ∧ ∀ r, acc r = (((2 : ℝ) ^ (-M) * A r : ℝ) : EReal)

/-- The kernel's exponential of a real. -/
theorem exp2_real (x : ℝ) : Ideal.exp2 (x : EReal) = (((2 : ℝ) ^ x : ℝ) : EReal) := Ideal.exp2_coe x

/-- The exponential of a score less a real is its weight scaled. -/
theorem exp2_sub_of_weighs {σ : EReal} {w : ℝ} (h : Weighs σ w) (M : ℝ) :
    Ideal.exp2 (σ - (M : EReal)) = (((2 : ℝ) ^ (-M) * w : ℝ) : EReal) := by
  rcases h with ⟨rfl, rfl⟩ | ⟨s, rfl, rfl⟩
  · rw [EReal.bot_sub, Ideal.exp2_bot, mul_zero, EReal.coe_zero]
  · rw [← EReal.coe_sub, exp2_real, ← Real.rpow_add two_pos]
    congr 2; ring

/-- A score is below `⊤`. -/
theorem Weighs.lt_top {σ : EReal} {w : ℝ} (h : Weighs σ w) : σ < ⊤ := by
  rcases h with ⟨rfl, _⟩ | ⟨s, rfl, _⟩
  · exact bot_lt_top
  · exact EReal.coe_lt_top s

/-- A weight is not negative. -/
theorem Weighs.nonneg {σ : EReal} {w : ℝ} (h : Weighs σ w) : 0 ≤ w := by
  rcases h with ⟨_, rfl⟩ | ⟨s, _, rfl⟩
  · exact le_rfl
  · exact (Real.rpow_pos_of_pos two_pos s).le

/-- An extended real strictly between the infinities is a real. -/
theorem real_of_between {x : EReal} (h₁ : ⊥ < x) (h₂ : x < ⊤) : ∃ r : ℝ, x = (r : EReal) :=
  ⟨x.toReal, (EReal.coe_toReal h₂.ne h₁.ne').symm⟩

/-- The greatest of finitely many values below `⊤`, one of them above `⊥`, is a real. -/
theorem fold_max_real {ι : Type} [Fintype ι] (σ : ι → EReal) (hlt : ∀ a, σ a < ⊤) (hgt : ∃ a, ⊥ < σ a) :
    ∃ M : ℝ, (Finset.univ : Finset ι).fold max ⊥ σ = (M : EReal) := by
  obtain ⟨a, ha⟩ := hgt
  exact real_of_between ((Finset.lt_fold_max _).mpr (Or.inr ⟨a, Finset.mem_univ a, ha⟩))
    ((Finset.fold_max_lt _).mpr ⟨bot_lt_top, fun x _ => hlt x⟩)

/-- … and with a real in front. -/
theorem max_fold_max_real {ι : Type} [Fintype ι] (m : ℝ) (σ : ι → EReal) (hlt : ∀ a, σ a < ⊤) :
    ∃ M : ℝ, max (m : EReal) ((Finset.univ : Finset ι).fold max ⊥ σ) = (M : EReal) :=
  real_of_between (lt_max_of_lt_left (EReal.bot_lt_coe m))
    (max_lt (EReal.coe_lt_top m) ((Finset.fold_max_lt _).mpr ⟨bot_lt_top, fun x _ => hlt x⟩))

/-- A finite sum of reals read as extended reals is the real sum. -/
theorem coe_sum {ι : Type} (s : Finset ι) (f : ι → ℝ) : ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-- The block's own contribution: values times exponentials sum to the scaled weighted sum. -/
theorem block_sum {κ : Type} [Fintype κ] {σ : κ → EReal} {w : κ → ℝ} (hσ : ∀ a, Weighs (σ a) (w a)) (x : κ → ℝ) (M : ℝ) :
    ∑ a, (x a : EReal) * Ideal.exp2 (σ a - (M : EReal)) = (((2 : ℝ) ^ (-M) * ∑ a, w a * x a : ℝ) : EReal) := by
  rw [Finset.mul_sum, ← coe_sum]
  refine Finset.sum_congr rfl fun a _ => ?_
  rw [exp2_sub_of_weighs (hσ a), ← EReal.coe_mul]
  congr 1; ring

/-- THE FIRST BLOCK: from the empty state (`⊥`, zero) to the block's weighted sums. -/
theorem held_first {ι κ : Type} [Fintype κ] {σ : κ → EReal} {w : κ → ℝ} (hσ : ∀ a, Weighs (σ a) (w a)) (hgt : ∃ a, ⊥ < σ a)
    (x : ι → κ → ℝ) :
    Held (max ⊥ ((Finset.univ : Finset κ).fold max ⊥ σ))
      (fun r => Ideal.exp2 (⊥ - max ⊥ ((Finset.univ : Finset κ).fold max ⊥ σ)) * 0
        + ∑ a, (x r a : EReal) * Ideal.exp2 (σ a - max ⊥ ((Finset.univ : Finset κ).fold max ⊥ σ)))
      (fun r => ∑ a, w a * x r a) := by
  obtain ⟨M, hM⟩ := fold_max_real σ (fun a => (hσ a).lt_top) hgt
  rw [hM, max_eq_right bot_le]
  refine ⟨M, rfl, fun r => ?_⟩
  show Ideal.exp2 (⊥ - (M : EReal)) * 0 + _ = _
  rw [mul_zero, zero_add, block_sum hσ]

/-- A FURTHER BLOCK: the running sums are rescaled to the new maximum and the block's weighted sums added. -/
theorem held_next {ι κ : Type} [Fintype κ] {σ : κ → EReal} {w : κ → ℝ} (hσ : ∀ a, Weighs (σ a) (w a))
    (x : ι → κ → ℝ) {μ : EReal} {acc : ι → EReal} {A : ι → ℝ} (h : Held μ acc A) :
    Held (max μ ((Finset.univ : Finset κ).fold max ⊥ σ))
      (fun r => Ideal.exp2 (μ - max μ ((Finset.univ : Finset κ).fold max ⊥ σ)) * acc r
        + ∑ a, (x r a : EReal) * Ideal.exp2 (σ a - max μ ((Finset.univ : Finset κ).fold max ⊥ σ)))
      (fun r => A r + ∑ a, w a * x r a) := by
  obtain ⟨m, rfl, hacc⟩ := h
  obtain ⟨M, hM⟩ := max_fold_max_real m σ (fun a => (hσ a).lt_top)
  rw [hM]
  refine ⟨M, rfl, fun r => ?_⟩
  show Ideal.exp2 ((m : EReal) - (M : EReal)) * acc r + _ = _
  rw [block_sum hσ, hacc r, ← EReal.coe_sub, exp2_real, ← EReal.coe_mul, ← EReal.coe_add]
  congr 1
  rw [← mul_assoc, ← Real.rpow_add two_pos, mul_add]
  congr 3; ring

/-- The quotient of two running sums does not depend on the maximum. -/
theorem Held.div {ι : Type} {μ : EReal} {acc : ι → EReal} {A : ι → ℝ} (h : Held μ acc A) (r l : ι) (hl : A l ≠ 0) :
    Ideal.div (acc r) (acc l) = ((A r / A l : ℝ) : EReal) := by
  obtain ⟨M, _, hacc⟩ := h
  have h2 : (2 : ℝ) ^ (-M) ≠ 0 := (Real.rpow_pos_of_pos two_pos _).ne'
  rw [hacc r, hacc l, Ideal.div_coe (mul_ne_zero h2 hl), ← EReal.coe_mul]
  congr 1
  field_simp

/-- The softmax in base `e` over one row: the exponentials less the row's maximum, over their sum, are the weights over theirs. -/
theorem softmax_row {κ : Type} [Fintype κ] (τ : κ → EReal) (w : κ → ℝ)
    (hτ : ∀ a, (τ a = ⊥ ∧ w a = 0) ∨ ∃ t : ℝ, τ a = (t : EReal) ∧ w a = Real.exp t) (hgt : ∃ a, ⊥ < τ a) (a : κ) :
    Ideal.div (Ideal.exp (τ a - (Finset.univ : Finset κ).fold max ⊥ τ))
        (∑ b, Ideal.exp (τ b - (Finset.univ : Finset κ).fold max ⊥ τ))
      = ((w a / ∑ b, w b : ℝ) : EReal) := by
  have hlt : ∀ a, τ a < ⊤ := fun a => by
    rcases hτ a with ⟨h, _⟩ | ⟨t, h, _⟩
    · rw [h]; exact bot_lt_top
    · rw [h]; exact EReal.coe_lt_top t
  obtain ⟨M, hM⟩ := fold_max_real τ hlt hgt
  have he : ∀ a, Ideal.exp (τ a - (M : EReal)) = ((Real.exp (-M) * w a : ℝ) : EReal) := fun a => by
    rcases hτ a with ⟨h, h'⟩ | ⟨t, h, h'⟩
    · rw [h, h', EReal.bot_sub, Ideal.exp_bot, mul_zero, EReal.coe_zero]
    · rw [h, h', ← EReal.coe_sub, Ideal.exp_coe, ← Real.exp_add]; congr 2; ring
  have hw : ∀ a, 0 ≤ w a := fun a => by
    rcases hτ a with ⟨_, h'⟩ | ⟨t, _, h'⟩
    · rw [h']
    · rw [h']; exact (Real.exp_pos t).le
  have hpos : 0 < ∑ b, w b := by
    obtain ⟨a, ha⟩ := hgt
    refine Finset.sum_pos' (fun b _ => hw b) ⟨a, Finset.mem_univ a, ?_⟩
    rcases hτ a with ⟨h, _⟩ | ⟨t, _, h'⟩
    · rw [h] at ha; exact absurd ha (lt_irrefl _)
    · rw [h']; exact Real.exp_pos t
  have h2 : Real.exp (-M) ≠ 0 := Real.exp_ne_zero _
  rw [hM]
  simp only [he]
  rw [coe_sum, ← Finset.mul_sum, Ideal.div_coe (mul_ne_zero h2 hpos.ne'), ← EReal.coe_mul]
  congr 1
  field_simp

end Cert.Attn

end
-- ==== Proof.Tile.lean ====
/- The kernel's tile operations, each named once and read at an index: the scores of a key tile, the running maximum, the running
   weighted sums, the quotient and its normalisation, and the transposed values with their rows of ones. -/
module

public import proofs.«01_k».proof.Proof.Gen.KernelIdeal.Skeleton
public import Idealize.ShloMosaic.Lib.Pointwise
public import Idealize.ShloMosaic.Lib.ValueIdx
public import Idealize.ShloMosaic.Lib.WordCmp
public import Idealize.ShloMosaic.Lib.ValueLayout

@[expose] public section

set_option maxRecDepth 8192

noncomputable section

namespace Cert.Attn

open Cert.KernelIdeal Cert.KernelIdeal.Gen Idealize.ShloMosaic

/-- The scores of a key tile: keys down the rows, queries along the columns. -/
def score (q : FVec Ideal S128x512 .bf16) (k : Vec Ideal S512x128 .bf16) : FVec Ideal S512x512 .f32 :=
  matmul (φ₁ := .bf16) dot_S512x128_S128x512_S512x512_1_0_0_1_n_n none (shapeCast (α := Elt Ideal .bf16) S512x128 k shapeCasts_S512x128_S512x128 : FVec Ideal S512x128 .bf16) q
    (constant S512x512 .f32 0x00000000#32)

/-- The causal mask on the scores of the diagonal tile. -/
def causal (s : FVec Ideal S512x512 .f32) : FVec Ideal S512x512 .f32 :=
  select (cmpi .sle (iota .tc S512x512 32 [0] iota_S512x512_d0_w32) (iota .tc S512x512 32 [1] iota_S512x512_d1_w32)) s
    (broadcast S512x512 (Named.named κ "mask" 0xF149F2CA#32))

/-- The running maximum after a tile of scores. -/
def runMax (s : FVec Ideal S512x512 .f32) (μ : FVec Ideal S1x512 .f32) : FVec Ideal S1x512 .f32 :=
  maximumf μ (shapeCast S1x512 (multiReduction .maximumf [0] S512 s 0xFF800000#32 reduces_S512x512_S512 (.inl rfl) rfl)
    shapeCasts_S512_S1x512)

/-- The running weighted sums after a tile of scores and its values. -/
def runSum (s : FVec Ideal S512x512 .f32) (μ : FVec Ideal S1x512 .f32) (acc : FVec Ideal S144x512 .f32)
    (v : Vec Ideal S1x144x512 .bf16) : FVec Ideal S144x512 .f32 :=
  addf (mulf (broadcastTo S144x512 (exp2 (subf μ (runMax s μ))) broadcasts_S1x512_S144x512) acc)
    (matmul (φ₁ := .bf16) dot_S144x512_S512x512_S144x512_1_0_0_1_n_n none (shapeCast (α := Elt Ideal .bf16) S144x512 v shapeCasts_S1x144x512_S144x512 : FVec Ideal S144x512 .bf16)
      (truncf .bf16 (exp2 (subf s (broadcastTo S512x512 (runMax s μ) broadcasts_S1x512_S512x512))) bitsLt_bf16_f32)
      (constant S144x512 .f32 0x00000000#32))

/-- The weighted mean of the values: the first 128 running sums over the row the ones gave. -/
def wmean (acc : FVec Ideal S144x512 .f32) : FVec Ideal S128x512 .f32 :=
  divf (extractStridedSlice S128x512 ![0, 0] acc slices_S144x512_o0_0_S128x512)
    (broadcastTo S128x512 (extractStridedSlice S1x512 ![128, 0] acc slices_S144x512_o128_0_S1x512) broadcasts_S1x512_S128x512)

/-- The difference of the two attentions. -/
def differ (a b : FVec Ideal S144x512 .f32) (lam : FVec Ideal S1x1 .f32) : FVec Ideal S128x512 .f32 :=
  subf (wmean a) (mulf (broadcastTo S128x512 lam broadcasts_S1x1_S128x512) (wmean b))

/-- The normalised, scaled and transposed result tile. -/
def finish (o : FVec Ideal S128x512 .f32) (g : Vec Ideal S128x1 .f32) : FVec Ideal S512x128 .bf16 :=
  truncf .bf16 (transpose S512x128 [1, 0]
    (mulf (mulf (mulf o (broadcastTo S128x512 (rsqrt (addf (divf (shapeCast S1x512
      (multiReduction .add [0] S512 (mulf o o) 0x00000000#32 reduces_S128x512_S512 (.inl rfl) rfl) shapeCasts_S512_S1x512)
      (broadcast S1x512 (Scalar.ofBits .f32 0x43000000#32))) (broadcast S1x512 (Scalar.ofBits .f32 0x3727C5AC#32))))
      broadcasts_S1x512_S128x512))
      (broadcastTo S128x512 (shapeCast S128x1 g shapeCasts_S128x1_S128x1) broadcasts_S128x1_S128x512))
      (broadcast S128x512 (Scalar.ofBits .f32 0x3F4CCCCD#32)))
    transposes_S128x512_p1_0_S512x128) bitsLt_bf16_f32

/-- The scale of the two attentions' difference. -/
def lamTile (a b c d : Vec Ideal S1x64 .f32) : FVec Ideal S1x1 .f32 := k0_pay1 (k0_pay89 a b) (k0_pay90 c d)

/-- The transposed values of one key tile over sixteen rows of ones. -/
def valTile (v : Vec Ideal S512x128 .bf16) : FVec Ideal S1x144x512 .bf16 := k0_pay9 v

/-- The word of minus infinity. -/
theorem negInf : Ideal.ofBits .f32 0xFF800000#32 = (⊥ : EReal) := by
  simp [Ideal.ofBits, Ideal.ieee]

/-- The mask's named value: minus infinity. -/
theorem maskVal : (Named.named κ "mask" 0xF149F2CA#32 : Ideal .f32) = (⊥ : EReal) :=
  IdealRules.named_const.ideal_named_scalar _ _ _ _ rfl

/-- The scale's named value. -/
theorem scaleVal : (Named.named κ "scale_log2e" 0x3E38AA3B#32 : Ideal .f32) = (((8 * (Real.log 2))⁻¹ : ℝ) : EReal) :=
  IdealRules.named_const.ideal_named_scalar _ _ _ _ rfl

theorem score_apply (q : FVec Ideal S128x512 .bf16) (k : Vec Ideal S512x128 .bf16) (a b : Fin 512) :
    score q k (ix2 a b) = ∑ d : Fin 128, (k (ix2 a d) : EReal) * q (ix2 d b) := by
  pointwise [score]

theorem causal_apply (s : FVec Ideal S512x512 .f32) (a b : Fin 512) :
    causal s (ix2 a b) = if a.val ≤ b.val then s (ix2 a b) else (⊥ : EReal) := by
  pointwise [causal]
  rw [maskVal, Idealize.ShloMosaic.WordCmp.cmpi_sle_ofNat (by omega) (by omega)]
  by_cases h : a.val ≤ b.val
  · rw [if_pos h, decide_eq_true h]; rfl
  · rw [if_neg h, decide_eq_false h]; rfl

theorem runMax_apply (s : FVec Ideal S512x512 .f32) (μ : FVec Ideal S1x512 .f32) (b : Fin 512) :
    runMax s μ (ix2 (0 : Fin 1) b) = max (μ (ix2 (0 : Fin 1) b)) ((Finset.univ : Finset (Fin 512)).fold max (⊥ : EReal) fun a => s (ix2 a b)) := by
  pointwise [runMax]
  rw [negInf]

theorem runSum_apply (s : FVec Ideal S512x512 .f32) (μ : FVec Ideal S1x512 .f32) (acc : FVec Ideal S144x512 .f32)
    (v : Vec Ideal S1x144x512 .bf16) (r : Fin 144) (b : Fin 512) :
    runSum s μ acc v (ix2 r b)
      = Ideal.exp2 (μ (ix2 (0 : Fin 1) b) - runMax s μ (ix2 (0 : Fin 1) b)) * acc (ix2 r b)
        + ∑ a : Fin 512, (v (ix3 (0 : Fin 1) r a) : EReal) * Ideal.exp2 (s (ix2 a b) - runMax s μ (ix2 (0 : Fin 1) b)) := by
  unfold runSum
  generalize runMax s μ = μ'
  pointwise []
  rfl

theorem wmean_apply (acc : FVec Ideal S144x512 .f32) (d : Fin 128) (b : Fin 512) :
    wmean acc (ix2 d b) = Ideal.div (acc (ix2 (⟨d.val, by omega⟩ : Fin 144) b)) (acc (ix2 (⟨128, by omega⟩ : Fin 144) b)) := by
  pointwise [wmean]

theorem differ_apply (x y : FVec Ideal S144x512 .f32) (lam : FVec Ideal S1x1 .f32) (d : Fin 128) (b : Fin 512) :
    differ x y lam (ix2 d b) = wmean x (ix2 d b) - lam (ix2 (0 : Fin 1) (0 : Fin 1)) * wmean y (ix2 d b) := by
  unfold differ
  generalize wmean x = x'
  generalize wmean y = y'
  pointwise []

theorem finish_apply (o : FVec Ideal S128x512 .f32) (g : Vec Ideal S128x1 .f32) (b : Fin 512) (d : Fin 128) :
    finish o g (ix2 b d) = o (ix2 d b) * Ideal.rsqrt (Ideal.div (∑ e : Fin 128, o (ix2 e b) * o (ix2 e b)) (Ideal.ofBits .f32 0x43000000#32)
      + Ideal.ofBits .f32 0x3727C5AC#32) * g (ix2 d (0 : Fin 1)) * Ideal.ofBits .f32 0x3F4CCCCD#32 := by
  pointwise [finish]

theorem valTile_apply (v : Vec Ideal S512x128 .bf16) (r : Fin 144) (a : Fin 512) :
    valTile v (ix3 (0 : Fin 1) r a) = if h : r.val < 128 then v (ix2 a (⟨r.val, h⟩ : Fin 128)) else (1 : EReal) := by
  pointwise [valTile, k0_pay9, k0_pay8]

theorem lam_apply (a b c d : Vec Ideal S1x64 .f32) :
    lamTile a b c d (ix2 (0 : Fin 1) (0 : Fin 1)) = Ideal.exp (∑ e : Fin 64, (a (ix2 (0 : Fin 1) e) : EReal) * b (ix2 (0 : Fin 1) e))
      - Ideal.exp (∑ e : Fin 64, (c (ix2 (0 : Fin 1) e) : EReal) * d (ix2 (0 : Fin 1) e)) + Ideal.ofBits .f32 0x3E4CCCCD#32 := by
  pointwise [lamTile, k0_pay1, k0_pay89, k0_pay90]

theorem q1_apply (x : Vec Ideal S512x128 .bf16) (d : Fin 128) (b : Fin 512) :
    k0_pay87 (F := Ideal) x (ix2 d b) = if d.val < 64 then (x (ix2 b d) : EReal) * (((8 * (Real.log 2))⁻¹ : ℝ) : EReal) else 0 := by
  pointwise [k0_pay87, k0_pay86]
  rw [scaleVal, Idealize.ShloMosaic.WordCmp.cmpi_slt_ofNat (b := 64) (by omega) (by omega)]
  by_cases h : d.val < 64
  · rw [if_pos h, decide_eq_true h]; rfl
  · rw [if_neg h, decide_eq_false h]; rfl

theorem q2_apply (x : Vec Ideal S512x128 .bf16) (d : Fin 128) (b : Fin 512) :
    k0_pay88 (F := Ideal) x (ix2 d b) = if 64 ≤ d.val then (x (ix2 b d) : EReal) * (((8 * (Real.log 2))⁻¹ : ℝ) : EReal) else 0 := by
  pointwise [k0_pay88, k0_pay86]
  rw [scaleVal, Idealize.ShloMosaic.WordCmp.cmpi_sge_ofNat (b := 64) (by omega) (by omega)]
  by_cases h : 64 ≤ d.val
  · rw [if_pos h, decide_eq_true h]; rfl
  · rw [if_neg h, decide_eq_false h]; rfl

end Cert.Attn

end
-- ==== Proof.Body.lean ====
/- What the kernel leaves at a point: its block of the result as the composition of the named tile operations, one reading per case of
   the query tile's number, and the scratch the first case fills. -/
module

public import proofs.«01_k».proof.Proof.Tile
public import proofs.«01_k».proof.Proof.Gen.KernelIdeal.Frame
public import Idealize.ShloMosaic.Lib.Pipeline.ValueKit.Tiles

@[expose] public section

set_option maxRecDepth 65536

noncomputable section

namespace Cert.Attn

open Cert.KernelIdeal Cert.KernelIdeal.Gen Idealize.ShloMosaic Idealize.SL.Sem

/-- The running maximum and the running sums after one more key tile. -/
def absorb (s : FVec Ideal S512x512 .f32) (v : Vec Ideal S1x144x512 .bf16) (p : FVec Ideal S1x512 .f32 × FVec Ideal S144x512 .f32) :
    FVec Ideal S1x512 .f32 × FVec Ideal S144x512 .f32 := (runMax s p.1, runSum s p.1 p.2 v)

/-- The empty running state. -/
def start : FVec Ideal S1x512 .f32 × FVec Ideal S144x512 .f32 := (k0_pay2 (F := Ideal), k0_pay3 (F := Ideal))

/-- Key tile `j` of the keys. -/
abbrev keyTile (x : Vec Ideal S2048x128 .bf16) (o : Nat) (h : ∀ a, (![o, 0] : Fin 2 → Nat) a + S512x128.size a ≤ S2048x128.size a) : Vec Ideal S512x128 .bf16 :=
  View.ld x (Rect.unit ![o, 0] S512x128.size h)

/-- Tile `j` of the stacked transposed values. -/
abbrev stackTile (x : Vec Ideal S4x144x512 .bf16) (j : Nat) (h : ∀ a, (![j, 0, 0] : Fin 3 → Nat) a + S1x144x512.size a ≤ S4x144x512.size a) : Vec Ideal S1x144x512 .bf16 :=
  View.ld x (Rect.unit ![j, 0, 0] S1x144x512.size h)

/-- The running state after the first key tile on, unmasked. -/
def after1 (q : FVec Ideal S128x512 .bf16) (k : Vec Ideal S2048x128 .bf16) (v : Vec Ideal S4x144x512 .bf16) :=
  absorb (score q (keyTile k 0 inb_S2048x128_S512x128_0_0)) (stackTile v 0 inb_S4x144x512_S1x144x512_0_0_0) start

/-- … after the second … -/
def after2 (q : FVec Ideal S128x512 .bf16) (k : Vec Ideal S2048x128 .bf16) (v : Vec Ideal S4x144x512 .bf16) :=
  absorb (score q (keyTile k 512 inb_S2048x128_S512x128_512_0)) (stackTile v 1 inb_S4x144x512_S1x144x512_1_0_0) (after1 q k v)

/-- … and after the third. -/
def after3 (q : FVec Ideal S128x512 .bf16) (k : Vec Ideal S2048x128 .bf16) (v : Vec Ideal S4x144x512 .bf16) :=
  absorb (score q (keyTile k 1024 inb_S2048x128_S512x128_1024_0)) (stackTile v 2 inb_S4x144x512_S1x144x512_2_0_0) (after2 q k v)

/-- The running sums of query tile 0: its one key tile is on the diagonal. -/
def sums0 (q : FVec Ideal S128x512 .bf16) (k : Vec Ideal S2048x128 .bf16) (v : Vec Ideal S4x144x512 .bf16) : FVec Ideal S144x512 .f32 :=
  (absorb (causal (score q (keyTile k 0 inb_S2048x128_S512x128_0_0))) (stackTile v 0 inb_S4x144x512_S1x144x512_0_0_0) start).2

/-- The running sums of query tile 1. -/
def sums1 (q : FVec Ideal S128x512 .bf16) (k : Vec Ideal S2048x128 .bf16) (v : Vec Ideal S4x144x512 .bf16) : FVec Ideal S144x512 .f32 :=
  (absorb (causal (score q (keyTile k 512 inb_S2048x128_S512x128_512_0))) (stackTile v 1 inb_S4x144x512_S1x144x512_1_0_0) (after1 q k v)).2

/-- The running sums of query tile 2. -/
def sums2 (q : FVec Ideal S128x512 .bf16) (k : Vec Ideal S2048x128 .bf16) (v : Vec Ideal S4x144x512 .bf16) : FVec Ideal S144x512 .f32 :=
  (absorb (causal (score q (keyTile k 1024 inb_S2048x128_S512x128_1024_0))) (stackTile v 2 inb_S4x144x512_S1x144x512_2_0_0) (after2 q k v)).2

/-- The running sums of query tile 3. -/
def sums3 (q : FVec Ideal S128x512 .bf16) (k : Vec Ideal S2048x128 .bf16) (v : Vec Ideal S4x144x512 .bf16) : FVec Ideal S144x512 .f32 :=
  (absorb (causal (score q (keyTile k 1536 inb_S2048x128_S512x128_1536_0))) (stackTile v 3 inb_S4x144x512_S1x144x512_3_0_0) (after3 q k v)).2

/-- The scratch the first query tile fills: at `(j, r, a)` value `r` of key `512 j + a`, and ones below the 128 value rows. -/
def stacked (x : Vec Ideal S2048x128 .bf16) : Vec Ideal S4x144x512 .bf16 := fun y =>
  if h : (y 1).val < 128 then x (ix2 (⟨512 * (y 0).val + (y 2).val, by
    have := (y 0).isLt; have := (y 2).isLt; simp only [S4x144x512, Matrix.cons_val_zero, Matrix.cons_val] at *; omega⟩ : Fin 2048) (⟨(y 1).val, h⟩ : Fin 128)) else (1 : EReal)

theorem tile_piece (x X : Vec Ideal S2048x128 .bf16) (hX : X = x) (j o : Nat) (ho : o = 512 * j) (h h') (z : (Rect.unit (s := S4x144x512) ![j, 0, 0] S1x144x512.size h).shape.Idx) :
    valTile (View.ld X (Rect.unit ![o, 0] S512x128.size h')) z = stacked x ((Rect.unit (s := S4x144x512) ![j, 0, 0] S1x144x512.size h).emb z) := by
  subst ho hX
  obtain ⟨r, a, rfl⟩ : ∃ (r : Fin 144) (a : Fin 512), z = ix3 (0 : Fin 1) r a :=
    ⟨z 1, z 2, funext fun b => by fin_cases b; exact Subsingleton.elim (α := Fin 1) _ _; rfl; rfl⟩
  have e0 : (((Rect.unit (s := S4x144x512) ![j, 0, 0] S1x144x512.size h).emb (ix3 (0 : Fin 1) r a)) 0).val = j :=
    (Rect.idx_unit_val _ _ h (ix3 (0 : Fin 1) r a) 0).trans (Nat.add_zero j)
  have e1 : (((Rect.unit (s := S4x144x512) ![j, 0, 0] S1x144x512.size h).emb (ix3 (0 : Fin 1) r a)) 1).val = r.val :=
    (Rect.idx_unit_val _ _ h (ix3 (0 : Fin 1) r a) 1).trans (Nat.zero_add _)
  have e2 : (((Rect.unit (s := S4x144x512) ![j, 0, 0] S1x144x512.size h).emb (ix3 (0 : Fin 1) r a)) 2).val = a.val :=
    (Rect.idx_unit_val _ _ h (ix3 (0 : Fin 1) r a) 2).trans (Nat.zero_add _)
  rw [valTile_apply]
  unfold stacked
  by_cases hr : r.val < 128
  · rw [dif_pos hr, dif_pos (by rw [e1]; exact hr)]
    refine View.ld_unit_apply_of X _ _ h' _ _ fun b => ?_
    fin_cases b
    · show 512 * _ + _ = 512 * j + a.val
      rw [e0, e2]
    · show _ = 0 + r.val
      exact e1.trans (Nat.zero_add _).symm
  · rw [dif_neg hr, dif_neg (by rw [e1]; exact hr)]

/-- A load from the scratch over pieces that all agree with the stacked values reads the stacked values. -/
theorem readCov_stacked {sig : RefSig} {κ : Kind} {sp : Space} (v : View sig κ sp S4x144x512 .bf16) (L : List (View.Piece (Elt Ideal) S4x144x512 .bf16))
    (x : Vec Ideal S2048x128 .bf16) (r : Rect S4x144x512) (hL : ∀ p ∈ L, ∀ z : p.1.shape.Idx, p.2 z = stacked x (p.1.emb z))
    (hcov : ∀ y, ∃ p ∈ L, y ∈ p.1.set) : v.readCov L r.toLoadRect = View.ld (stacked x) r :=
  (View.readAt_writes_junk_eq_canon v L r.toLoadRect).trans (funext fun z => View.canon_apply_of_pieces (stacked x) L hL _ (hcov _))

theorem soutA (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S512x128 .bf16) (harg11 : arg11.IsWhole) (arg12 : Memref sig .tc .vmem S4x144x512 .bf16) (harg12 : arg12.IsWhole) (hc0) (hc1) (hc2) (hc3) (hc4)
    (x0 : Vec Ideal S512x128 .bf16) (x1 : Vec Ideal S2048x128 .bf16) (x2 : Vec Ideal S2048x128 .bf16) (x3 : Vec Ideal S1x64 .f32) (x4 : Vec Ideal S1x64 .f32) (x5 : Vec Ideal S1x64 .f32) (x6 : Vec Ideal S1x64 .f32) (x7 : Vec Ideal S128x1 .f32) :
    sout0_A_0 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7
      = stacked x2 := by
  funext y
  have hcov := scover0_A_0 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 y
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_A
  dsimp only
  sl_unfold_words
  simp only [View.readAt_eq_ld]
  refine View.canon_apply_of_pieces (stacked x2) _ ?_ y hcov
  refine List.forall_mem_cons.mpr ⟨tile_piece x2 _ (harg5.read_unread x2) 3 1536 rfl inb_S4x144x512_S1x144x512_3_0_0 inb_S2048x128_S512x128_1536_0, List.forall_mem_cons.mpr ⟨tile_piece x2 _ (harg5.read_unread x2) 2 1024 rfl inb_S4x144x512_S1x144x512_2_0_0 inb_S2048x128_S512x128_1024_0,
    List.forall_mem_cons.mpr ⟨tile_piece x2 _ (harg5.read_unread x2) 1 512 rfl inb_S4x144x512_S1x144x512_1_0_0 inb_S2048x128_S512x128_512_0, List.forall_mem_cons.mpr ⟨tile_piece x2 _ (harg5.read_unread x2) 0 0 rfl inb_S4x144x512_S1x144x512_0_0_0 inb_S2048x128_S512x128_0_0, fun _ h => absurd h List.not_mem_nil⟩⟩⟩⟩

theorem outA (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S512x128 .bf16) (harg11 : arg11.IsWhole) (arg12 : Memref sig .tc .vmem S4x144x512 .bf16) (harg12 : arg12.IsWhole) (hc0) (hc1) (hc2) (hc3) (hc4)
    (x0 : Vec Ideal S512x128 .bf16) (x1 : Vec Ideal S2048x128 .bf16) (x2 : Vec Ideal S2048x128 .bf16) (x3 : Vec Ideal S1x64 .f32) (x4 : Vec Ideal S1x64 .f32) (x5 : Vec Ideal S1x64 .f32) (x6 : Vec Ideal S1x64 .f32) (x7 : Vec Ideal S128x1 .f32) :
    out0_A_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7
      = finish (differ (sums0 (k0_pay87 x0) x1 (stacked x2)) (sums0 (k0_pay88 x0) x1 (stacked x2)) (lamTile x3 x4 x5 x6)) x7 := by
  have hcov := scover0_A_0 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_A
  dsimp only
  sl_unfold_words
  simp only [View.readAt_eq_ld, harg3.read_unread, harg4.read_unread, harg6.read_unread, harg7.read_unread, harg8.read_unread, harg9.read_unread, harg10.read_unread]
  rw [View.canon_unit_zero (by decide)]
  rw [readCov_stacked arg12.view _ x2 _ ?_ ?_, View.ld_unit_zero (by decide) _ x0, View.ld_unit_zero (by decide) _ x3, View.ld_unit_zero (by decide) _ x4, View.ld_unit_zero (by decide) _ x5, View.ld_unit_zero (by decide) _ x6, View.ld_unit_zero (by decide) _ x7]
  · rfl
  · exact List.forall_mem_cons.mpr ⟨tile_piece x2 _ (harg5.read_unread x2) 3 1536 rfl inb_S4x144x512_S1x144x512_3_0_0 inb_S2048x128_S512x128_1536_0, List.forall_mem_cons.mpr ⟨tile_piece x2 _ (harg5.read_unread x2) 2 1024 rfl inb_S4x144x512_S1x144x512_2_0_0 inb_S2048x128_S512x128_1024_0,
      List.forall_mem_cons.mpr ⟨tile_piece x2 _ (harg5.read_unread x2) 1 512 rfl inb_S4x144x512_S1x144x512_1_0_0 inb_S2048x128_S512x128_512_0, List.forall_mem_cons.mpr ⟨tile_piece x2 _ (harg5.read_unread x2) 0 0 rfl inb_S4x144x512_S1x144x512_0_0_0 inb_S2048x128_S512x128_0_0, fun _ h => absurd h List.not_mem_nil⟩⟩⟩⟩
  · exact hcov

theorem outB (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S512x128 .bf16) (harg11 : arg11.IsWhole) (arg12 : Memref sig .tc .vmem S4x144x512 .bf16) (harg12 : arg12.IsWhole) (hc0) (hc1) (hc2) (hc3) (hc4)
    (x0 : Vec Ideal S512x128 .bf16) (x1 : Vec Ideal S2048x128 .bf16) (x2 : Vec Ideal S2048x128 .bf16) (x3 : Vec Ideal S1x64 .f32) (x4 : Vec Ideal S1x64 .f32) (x5 : Vec Ideal S1x64 .f32) (x6 : Vec Ideal S1x64 .f32) (x7 : Vec Ideal S128x1 .f32)  (xs0 : Vec Ideal S4x144x512 .bf16) :
    out0_B_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0
      = finish (differ (sums1 (k0_pay87 x0) x1 xs0) (sums1 (k0_pay88 x0) x1 xs0) (lamTile x3 x4 x5 x6)) x7 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0)]
  unfold kernelRun0_B
  dsimp only
  sl_unfold_words
  simp only [View.readAt_eq_ld, harg3.read_unread, harg4.read_unread, harg5.read_unread, harg6.read_unread, harg7.read_unread, harg8.read_unread, harg9.read_unread, harg10.read_unread, harg12.read_unread]
  rw [View.canon_unit_zero (by decide), View.ld_unit_zero (by decide) _ x0, View.ld_unit_zero (by decide) _ x3, View.ld_unit_zero (by decide) _ x4, View.ld_unit_zero (by decide) _ x5, View.ld_unit_zero (by decide) _ x6, View.ld_unit_zero (by decide) _ x7]
  rfl

theorem outC (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S512x128 .bf16) (harg11 : arg11.IsWhole) (arg12 : Memref sig .tc .vmem S4x144x512 .bf16) (harg12 : arg12.IsWhole) (hc0) (hc1) (hc2) (hc3) (hc4)
    (x0 : Vec Ideal S512x128 .bf16) (x1 : Vec Ideal S2048x128 .bf16) (x2 : Vec Ideal S2048x128 .bf16) (x3 : Vec Ideal S1x64 .f32) (x4 : Vec Ideal S1x64 .f32) (x5 : Vec Ideal S1x64 .f32) (x6 : Vec Ideal S1x64 .f32) (x7 : Vec Ideal S128x1 .f32)  (xs0 : Vec Ideal S4x144x512 .bf16) :
    out0_C_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0
      = finish (differ (sums2 (k0_pay87 x0) x1 xs0) (sums2 (k0_pay88 x0) x1 xs0) (lamTile x3 x4 x5 x6)) x7 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0)]
  unfold kernelRun0_C
  dsimp only
  sl_unfold_words
  simp only [View.readAt_eq_ld, harg3.read_unread, harg4.read_unread, harg5.read_unread, harg6.read_unread, harg7.read_unread, harg8.read_unread, harg9.read_unread, harg10.read_unread, harg12.read_unread]
  rw [View.canon_unit_zero (by decide), View.ld_unit_zero (by decide) _ x0, View.ld_unit_zero (by decide) _ x3, View.ld_unit_zero (by decide) _ x4, View.ld_unit_zero (by decide) _ x5, View.ld_unit_zero (by decide) _ x6, View.ld_unit_zero (by decide) _ x7]
  rfl

theorem outD (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S512x128 .bf16) (harg11 : arg11.IsWhole) (arg12 : Memref sig .tc .vmem S4x144x512 .bf16) (harg12 : arg12.IsWhole) (hc0) (hc1) (hc2) (hc3) (hc4)
    (x0 : Vec Ideal S512x128 .bf16) (x1 : Vec Ideal S2048x128 .bf16) (x2 : Vec Ideal S2048x128 .bf16) (x3 : Vec Ideal S1x64 .f32) (x4 : Vec Ideal S1x64 .f32) (x5 : Vec Ideal S1x64 .f32) (x6 : Vec Ideal S1x64 .f32) (x7 : Vec Ideal S128x1 .f32)  (xs0 : Vec Ideal S4x144x512 .bf16) :
    out0_D_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0
      = finish (differ (sums3 (k0_pay87 x0) x1 xs0) (sums3 (k0_pay88 x0) x1 xs0) (lamTile x3 x4 x5 x6)) x7 := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0)]
  unfold kernelRun0_D
  dsimp only
  sl_unfold_words
  simp only [View.readAt_eq_ld, harg3.read_unread, harg4.read_unread, harg5.read_unread, harg6.read_unread, harg7.read_unread, harg8.read_unread, harg9.read_unread, harg10.read_unread, harg12.read_unread]
  rw [View.canon_unit_zero (by decide), View.ld_unit_zero (by decide) _ x0, View.ld_unit_zero (by decide) _ x3, View.ld_unit_zero (by decide) _ x4, View.ld_unit_zero (by decide) _ x5, View.ld_unit_zero (by decide) _ x6, View.ld_unit_zero (by decide) _ x7]
  rfl

end Cert.Attn

end
-- ==== Proof.Row.lean ====
/- One query's column through the kernel: the running state after each key tile holds the plain weighted sums over the keys absorbed. -/
module

public import proofs.«01_k».proof.Proof.Softmax
public import proofs.«01_k».proof.Proof.Body

@[expose] public section

noncomputable section

namespace Cert.Attn

open Cert.KernelIdeal Cert.KernelIdeal.Gen Idealize.ShloMosaic
open scoped BigOperators

/-- The unmasked weight of key `n` for the query `q` (scaled for base two). -/
def wgt (K : ℕ → Fin 128 → ℝ) (q : Fin 128 → ℝ) (n : ℕ) : ℝ := (2 : ℝ) ^ (∑ d, K n d * q d)

/-- The causal weight of key `n` for query number `i`. -/
def mwgt (K : ℕ → Fin 128 → ℝ) (q : Fin 128 → ℝ) (i n : ℕ) : ℝ := if n ≤ i then wgt K q n else 0

theorem wgt_pos (K : ℕ → Fin 128 → ℝ) (q : Fin 128 → ℝ) (n : ℕ) : 0 < wgt K q n := Real.rpow_pos_of_pos two_pos _

/-- The whole tiles below the diagonal and the masked diagonal tile make the causal sum over all keys. -/
theorem causal_sum (f : ℕ → ℝ) (i : ℕ) (hi : i < 4) (b : Fin 512) :
    ∑ n ∈ Finset.range (512 * i), f n + ∑ a : Fin 512, (if a.val ≤ b.val then f (512 * i + a.val) else 0)
      = ∑ n ∈ Finset.range 2048, if n ≤ 512 * i + b.val then f n else 0 := by
  have e : 2048 = 512 * i + (512 + (2048 - 512 * i - 512)) := by omega
  conv_rhs => rw [e, Finset.sum_range_add, Finset.sum_range_add]
  have h1 : ∑ n ∈ Finset.range (512 * i), (if n ≤ 512 * i + b.val then f n else 0) = ∑ n ∈ Finset.range (512 * i), f n :=
    Finset.sum_congr rfl fun n hn => if_pos (by have := Finset.mem_range.mp hn; omega)
  have h2 : ∑ n ∈ Finset.range 512, (if 512 * i + n ≤ 512 * i + b.val then f (512 * i + n) else 0)
      = ∑ a : Fin 512, (if a.val ≤ b.val then f (512 * i + a.val) else 0) := by
    rw [Finset.sum_range]
    exact Finset.sum_congr rfl fun a _ => by simp only [Nat.add_le_add_iff_left]
  have h3 : ∑ n ∈ Finset.range (2048 - 512 * i - 512), (if 512 * i + (512 + n) ≤ 512 * i + b.val then f (512 * i + (512 + n)) else 0) = 0 :=
    Finset.sum_eq_zero fun n _ => if_neg (by have := b.isLt; omega)
  rw [h1, h2, h3, add_zero]

/-- One more whole tile extends the plain sum. -/
theorem next_sum (f : ℕ → ℝ) (j : ℕ) :
    ∑ n ∈ Finset.range (512 * j), f n + ∑ a : Fin 512, f (512 * j + a.val) = ∑ n ∈ Finset.range (512 * (j + 1)), f n := by
  rw [Nat.mul_add, Nat.mul_one, Finset.sum_range_add, Finset.sum_range (n := 512)]

section

variable {q : FVec Ideal S128x512 .bf16} {k : Vec Ideal S2048x128 .bf16} {v : Vec Ideal S4x144x512 .bf16}
  {K : ℕ → Fin 128 → ℝ} {qr : Fin 128 → ℝ} {W : Fin 144 → ℕ → ℝ} {b : Fin 512}

/-- The keys are the reals `K`. -/
def IsKeys (k : Vec Ideal S2048x128 .bf16) (K : ℕ → Fin 128 → ℝ) : Prop := ∀ (n : Fin 2048) (d : Fin 128), k (ix2 n d) = ((K n.val d : ℝ) : EReal)
/-- The query column `b` is the reals `qr`. -/
def IsQuery (q : FVec Ideal S128x512 .bf16) (b : Fin 512) (qr : Fin 128 → ℝ) : Prop := ∀ d : Fin 128, q (ix2 d b) = ((qr d : ℝ) : EReal)
/-- The stacked values are the reals `W`. -/
def IsVals (v : Vec Ideal S4x144x512 .bf16) (W : Fin 144 → ℕ → ℝ) : Prop :=
  ∀ (j : Fin 4) (r : Fin 144) (a : Fin 512), v (ix3 j r a) = ((W r (512 * j.val + a.val) : ℝ) : EReal)

theorem keyTile_apply (x : Vec Ideal S2048x128 .bf16) (o : Nat) (h) (a : Fin 512) (d : Fin 128) (ho : o + a.val < 2048) :
    keyTile x o h (ix2 a d) = x (ix2 (⟨o + a.val, ho⟩ : Fin 2048) d) :=
  View.ld_unit_apply_of x _ _ h _ _ fun c => by
    fin_cases c
    · rfl
    · exact (Nat.zero_add _).symm

theorem stackTile_apply (x : Vec Ideal S4x144x512 .bf16) (j : Nat) (h) (r : Fin 144) (a : Fin 512) (hj : j < 4) :
    stackTile x j h (ix3 (0 : Fin 1) r a) = x (ix3 (⟨j, hj⟩ : Fin 4) r a) :=
  View.ld_unit_apply_of x _ _ h _ _ fun c => by
    fin_cases c
    · rfl
    · exact (Nat.zero_add _).symm
    · exact (Nat.zero_add _).symm

theorem score_real (hq : IsQuery q b qr) (hk : IsKeys k K) (o : Nat) (h) (a : Fin 512) (ho : o + 512 ≤ 2048) :
    score q (keyTile k o h) (ix2 a b) = ((∑ d, K (o + a.val) d * qr d : ℝ) : EReal) := by
  rw [score_apply, ← coe_sum]
  refine Finset.sum_congr rfl fun d _ => ?_
  rw [keyTile_apply k o h a d (by omega), hk, hq, EReal.coe_mul]

/-- A whole tile's scores weigh the unmasked weights. -/
theorem weighs_score (hq : IsQuery q b qr) (hk : IsKeys k K) (o : Nat) (h) (ho : o + 512 ≤ 2048) (a : Fin 512) :
    Weighs (score q (keyTile k o h) (ix2 a b)) (wgt K qr (o + a.val)) :=
  Or.inr ⟨_, score_real hq hk o h a ho, rfl⟩

/-- The diagonal tile's scores weigh the causal weights. -/
theorem weighs_causal (hq : IsQuery q b qr) (hk : IsKeys k K) (o : Nat) (h) (ho : o + 512 ≤ 2048) (a : Fin 512) :
    Weighs (causal (score q (keyTile k o h)) (ix2 a b)) (if a.val ≤ b.val then wgt K qr (o + a.val) else 0) := by
  rw [causal_apply]
  by_cases hab : a.val ≤ b.val
  · rw [if_pos hab, if_pos hab]; exact weighs_score hq hk o h ho a
  · rw [if_neg hab, if_neg hab]; exact Or.inl ⟨rfl, rfl⟩

theorem absorb_next (s : FVec Ideal S512x512 .f32) (w : Fin 512 → ℝ) (hs : ∀ a, Weighs (s (ix2 a b)) (w a)) (hv : IsVals v W)
    (j : Nat) (h) (hj : j < 4) (p : FVec Ideal S1x512 .f32 × FVec Ideal S144x512 .f32) {A : Fin 144 → ℝ}
    (hp : Held (p.1 (ix2 (0 : Fin 1) b)) (fun r => p.2 (ix2 r b)) A) :
    Held ((absorb s (stackTile v j h) p).1 (ix2 (0 : Fin 1) b)) (fun r => (absorb s (stackTile v j h) p).2 (ix2 r b))
      (fun r => A r + ∑ a : Fin 512, w a * W r (512 * j + a.val)) := by
  have hw : ∀ (r : Fin 144) (a : Fin 512), v (ix3 (⟨j, hj⟩ : Fin 4) r a) = ((W r (512 * j + a.val) : ℝ) : EReal) := fun r a => hv ⟨j, hj⟩ r a
  have H := held_next hs (fun (r : Fin 144) (a : Fin 512) => W r (512 * j + a.val)) hp
  unfold absorb
  dsimp only
  simp only [runSum_apply, runMax_apply, stackTile_apply v j h _ _ hj, hw]
  exact H

theorem absorb_first (s : FVec Ideal S512x512 .f32) (w : Fin 512 → ℝ) (hs : ∀ a, Weighs (s (ix2 a b)) (w a)) (hgt : ∃ a : Fin 512, ⊥ < s (ix2 a b))
    (hv : IsVals v W) (h) :
    Held ((absorb s (stackTile v 0 h) start).1 (ix2 (0 : Fin 1) b)) (fun r => (absorb s (stackTile v 0 h) start).2 (ix2 r b))
      (fun r => ∑ a : Fin 512, w a * W r (512 * 0 + a.val)) := by
  have hw : ∀ (r : Fin 144) (a : Fin 512), v (ix3 (⟨0, by omega⟩ : Fin 4) r a) = ((W r (512 * 0 + a.val) : ℝ) : EReal) := fun r a => hv ⟨0, by omega⟩ r a
  have H := held_first hs hgt (fun (r : Fin 144) (a : Fin 512) => W r (512 * 0 + a.val))
  have e1 : ∀ b : Fin 512, start.1 (ix2 (0 : Fin 1) b) = (⊥ : EReal) := fun _ => maskVal
  have e2 : ∀ (r : Fin 144) (b : Fin 512), start.2 (ix2 r b) = (0 : EReal) := fun _ _ => Ideal.ofBits_zero_f32
  unfold absorb
  dsimp only
  simp only [runSum_apply, runMax_apply, stackTile_apply v 0 h _ _ (by omega : (0 : Nat) < 4), hw, e1, e2]
  exact H

theorem after1_held (hq : IsQuery q b qr) (hk : IsKeys k K) (hv : IsVals v W) :
    Held ((after1 q k v).1 (ix2 (0 : Fin 1) b)) (fun r => (after1 q k v).2 (ix2 r b))
      (fun r => ∑ n ∈ Finset.range (512 * 1), wgt K qr n * W r n) := by
  have H := absorb_first (b := b) _ _ (weighs_score hq hk 0 inb_S2048x128_S512x128_0_0 (by omega))
    ⟨0, by rw [score_real hq hk _ _ _ (by omega)]; exact EReal.bot_lt_coe _⟩ hv inb_S4x144x512_S1x144x512_0_0_0
  have e : ∀ r, ∑ a : Fin 512, wgt K qr (0 + a.val) * W r (512 * 0 + a.val) = ∑ n ∈ Finset.range (512 * 1), wgt K qr n * W r n := fun r => by
    have := next_sum (fun n => wgt K qr n * W r n) 0
    simpa using this
  simp only [e] at H
  exact H

theorem after2_held (hq : IsQuery q b qr) (hk : IsKeys k K) (hv : IsVals v W) :
    Held ((after2 q k v).1 (ix2 (0 : Fin 1) b)) (fun r => (after2 q k v).2 (ix2 r b))
      (fun r => ∑ n ∈ Finset.range (512 * 2), wgt K qr n * W r n) := by
  have H := absorb_next _ _ (weighs_score hq hk 512 inb_S2048x128_S512x128_512_0 (by omega)) hv 1 inb_S4x144x512_S1x144x512_1_0_0 (by omega) _
    (after1_held hq hk hv)
  have e : ∀ r, _ = _ := fun r => next_sum (fun n => wgt K qr n * W r n) 1
  simp only [Nat.reduceMul] at H e ⊢
  simp only [e] at H
  exact H

theorem after3_held (hq : IsQuery q b qr) (hk : IsKeys k K) (hv : IsVals v W) :
    Held ((after3 q k v).1 (ix2 (0 : Fin 1) b)) (fun r => (after3 q k v).2 (ix2 r b))
      (fun r => ∑ n ∈ Finset.range (512 * 3), wgt K qr n * W r n) := by
  have H := absorb_next _ _ (weighs_score hq hk 1024 inb_S2048x128_S512x128_1024_0 (by omega)) hv 2 inb_S4x144x512_S1x144x512_2_0_0 (by omega) _
    (after2_held hq hk hv)
  have e : ∀ r, _ = _ := fun r => next_sum (fun n => wgt K qr n * W r n) 2
  simp only [Nat.reduceMul] at H e ⊢
  simp only [e] at H
  exact H

theorem causal_total (r : Fin 144) (i : ℕ) (hi : i < 4) :
    ∑ n ∈ Finset.range (512 * i), wgt K qr n * W r n
        + ∑ a : Fin 512, (if a.val ≤ b.val then wgt K qr (512 * i + a.val) else 0) * W r (512 * i + a.val)
      = ∑ n ∈ Finset.range 2048, mwgt K qr (512 * i + b.val) n * W r n := by
  have := causal_sum (fun n => wgt K qr n * W r n) i hi b
  simp only [mwgt, ite_mul, zero_mul]
  exact this

/-- Query tile 0. -/
theorem sums0_held (hq : IsQuery q b qr) (hk : IsKeys k K) (hv : IsVals v W) :
    ∃ μ, Held μ (fun r => sums0 q k v (ix2 r b)) (fun r => ∑ n ∈ Finset.range 2048, mwgt K qr (512 * 0 + b.val) n * W r n) := by
  have H := absorb_first (b := b) _ _ (weighs_causal hq hk 0 inb_S2048x128_S512x128_0_0 (by omega))
    ⟨0, by rw [causal_apply, if_pos (show (0 : Fin 512).val ≤ b.val from Nat.zero_le _), score_real hq hk _ _ _ (by omega)]; exact EReal.bot_lt_coe _⟩ hv inb_S4x144x512_S1x144x512_0_0_0
  have e : ∀ r, _ = _ := fun r => causal_total (K := K) (qr := qr) (W := W) (b := b) r 0 (by omega)
  simp only [Nat.reduceMul, Finset.range_zero, Finset.sum_empty, zero_add] at H e ⊢
  simp only [e] at H
  exact ⟨_, H⟩

/-- Query tile 1. -/
theorem sums1_held (hq : IsQuery q b qr) (hk : IsKeys k K) (hv : IsVals v W) :
    ∃ μ, Held μ (fun r => sums1 q k v (ix2 r b)) (fun r => ∑ n ∈ Finset.range 2048, mwgt K qr (512 * 1 + b.val) n * W r n) := by
  have H := absorb_next _ _ (weighs_causal hq hk 512 inb_S2048x128_S512x128_512_0 (by omega)) hv 1 inb_S4x144x512_S1x144x512_1_0_0 (by omega) _
    (after1_held hq hk hv)
  have e : ∀ r, _ = _ := fun r => causal_total (K := K) (qr := qr) (W := W) (b := b) r 1 (by omega)
  simp only [Nat.reduceMul] at H e ⊢
  simp only [e] at H
  exact ⟨_, H⟩

/-- Query tile 2. -/
theorem sums2_held (hq : IsQuery q b qr) (hk : IsKeys k K) (hv : IsVals v W) :
    ∃ μ, Held μ (fun r => sums2 q k v (ix2 r b)) (fun r => ∑ n ∈ Finset.range 2048, mwgt K qr (512 * 2 + b.val) n * W r n) := by
  have H := absorb_next _ _ (weighs_causal hq hk 1024 inb_S2048x128_S512x128_1024_0 (by omega)) hv 2 inb_S4x144x512_S1x144x512_2_0_0 (by omega) _
    (after2_held hq hk hv)
  have e : ∀ r, _ = _ := fun r => causal_total (K := K) (qr := qr) (W := W) (b := b) r 2 (by omega)
  simp only [Nat.reduceMul] at H e ⊢
  simp only [e] at H
  exact ⟨_, H⟩

/-- Query tile 3. -/
theorem sums3_held (hq : IsQuery q b qr) (hk : IsKeys k K) (hv : IsVals v W) :
    ∃ μ, Held μ (fun r => sums3 q k v (ix2 r b)) (fun r => ∑ n ∈ Finset.range 2048, mwgt K qr (512 * 3 + b.val) n * W r n) := by
  have H := absorb_next _ _ (weighs_causal hq hk 1536 inb_S2048x128_S512x128_1536_0 (by omega)) hv 3 inb_S4x144x512_S1x144x512_3_0_0 (by omega) _
    (after3_held hq hk hv)
  have e : ∀ r, _ = _ := fun r => causal_total (K := K) (qr := qr) (W := W) (b := b) r 3 (by omega)
  simp only [Nat.reduceMul] at H e ⊢
  simp only [e] at H
  exact ⟨_, H⟩

end

end Cert.Attn

end
-- ==== Proof.Meaning.lean ====
/- What the layer's attention computes, in plain real numbers, and that the kernel's tiles compute it. -/
module

public import proofs.«01_k».proof.Proof.Row

@[expose] public section

noncomputable section

namespace Cert.Attn

open Cert.KernelIdeal Cert.KernelIdeal.Gen Idealize.ShloMosaic
open scoped BigOperators

/-- The dot product of query `i` and key `n` in map `μ` of head `h`, over eight: `R` is one batch of the projection. -/
def logit (R : ℕ → ℕ → ℝ) (h μ i n : ℕ) : ℝ := ∑ d : Fin 64, R i (128 * h + 64 * μ + d.val) * R n (1024 + 128 * h + 64 * μ + d.val) / 8

/-- The causal softmax's weight before it is normalised. -/
def weight (R : ℕ → ℕ → ℝ) (h μ i n : ℕ) : ℝ := if n ≤ i then Real.exp (logit R h μ i n) else 0

/-- The softmax's denominator. -/
def total (R : ℕ → ℕ → ℝ) (h μ i : ℕ) : ℝ := ∑ n ∈ Finset.range 2048, weight R h μ i n

/-- The weighted mean of the values' component `d`. -/
def mean (R : ℕ → ℕ → ℝ) (h μ i d : ℕ) : ℝ := (∑ n ∈ Finset.range 2048, weight R h μ i n * R n (2048 + 128 * h + d)) / total R h μ i

/-- Differential attention: the first map's mean less `lam` times the second's. -/
def diffAttn (R : ℕ → ℕ → ℝ) (lam : ℝ) (h i d : ℕ) : ℝ := mean R h 0 i d - lam * mean R h 1 i d

/-- The head's normalisation: divide by the root mean square, multiply by the gain and by 0.8. -/
def normed (o : Fin 128 → EReal) (g : EReal) (d : Fin 128) : EReal :=
  o d * Ideal.rsqrt (Ideal.div (∑ e, o e * o e) (Ideal.ofBits .f32 0x43000000#32) + Ideal.ofBits .f32 0x3727C5AC#32) * g * Ideal.ofBits .f32 0x3F4CCCCD#32

/-- The layer's attention output at batch, position, head and component. -/
def attnOut (R : ℕ → ℕ → ℕ → ℝ) (lam : ℝ) (g : Fin 128 → EReal) (b i h : ℕ) (d : Fin 128) : EReal :=
  normed (fun e => ((diffAttn (R b) lam h i e.val : ℝ) : EReal)) (g d) d

theorem total_pos (R : ℕ → ℕ → ℝ) (h μ i : ℕ) : 0 < total R h μ i := by
  refine Finset.sum_pos' (fun n _ => ?_) ⟨0, Finset.mem_range.mpr (by omega), ?_⟩
  · unfold weight; split
    · exact (Real.exp_pos _).le
    · exact le_rfl
  · unfold weight; rw [if_pos (Nat.zero_le _)]; exact Real.exp_pos _

/-- The keys of head `h`. -/
def keysOf (R : ℕ → ℕ → ℝ) (h n : ℕ) (d : Fin 128) : ℝ := R n (1024 + 128 * h + d.val)
/-- The values of head `h`, then rows of ones. -/
def valsOf (R : ℕ → ℕ → ℝ) (h : ℕ) (r : Fin 144) (n : ℕ) : ℝ := if r.val < 128 then R n (2048 + 128 * h + r.val) else 1
/-- The scaled query of map 0: the second half of the lanes is zero. -/
def query0 (R : ℕ → ℕ → ℝ) (h i : ℕ) (d : Fin 128) : ℝ := if d.val < 64 then R i (128 * h + d.val) * (8 * Real.log 2)⁻¹ else 0
/-- The scaled query of map 1: the first half of the lanes is zero. -/
def query1 (R : ℕ → ℕ → ℝ) (h i : ℕ) (d : Fin 128) : ℝ := if 64 ≤ d.val then R i (128 * h + d.val) * (8 * Real.log 2)⁻¹ else 0

theorem exp_of_scaled (s : ℝ) : (2 : ℝ) ^ (s * (8 * Real.log 2)⁻¹) = Real.exp (s / 8) := by
  rw [Real.rpow_def_of_pos two_pos]
  have : Real.log 2 ≠ 0 := (Real.log_pos one_lt_two).ne'
  congr 1
  field_simp

theorem wgt_query0 (R : ℕ → ℕ → ℝ) (h i n : ℕ) : wgt (keysOf R h) (query0 R h i) n = Real.exp (logit R h 0 i n) := by
  unfold wgt logit
  rw [← Finset.sum_div, ← exp_of_scaled, Fin.sum_univ_add (a := 64) (b := 64), Finset.sum_mul]
  have z : ∑ x : Fin 64, keysOf R h n (Fin.natAdd 64 x) * query0 R h i (Fin.natAdd 64 x) = 0 :=
    Finset.sum_eq_zero fun x _ => by unfold query0; rw [if_neg (by simp), mul_zero]
  rw [z, add_zero]
  congr 1
  refine Finset.sum_congr rfl fun x _ => ?_
  unfold query0 keysOf
  rw [if_pos (by simp)]
  simp only [Fin.val_castAdd, Nat.mul_zero, Nat.add_zero]
  ring

theorem wgt_query1 (R : ℕ → ℕ → ℝ) (h i n : ℕ) : wgt (keysOf R h) (query1 R h i) n = Real.exp (logit R h 1 i n) := by
  unfold wgt logit
  rw [← Finset.sum_div, ← exp_of_scaled, Fin.sum_univ_add (a := 64) (b := 64), Finset.sum_mul]
  have z : ∑ x : Fin 64, keysOf R h n (Fin.castAdd 64 x) * query1 R h i (Fin.castAdd 64 x) = 0 :=
    Finset.sum_eq_zero fun x _ => by unfold query1; rw [if_neg (by simp), mul_zero]
  rw [z, zero_add]
  congr 1
  refine Finset.sum_congr rfl fun x _ => ?_
  unfold query1 keysOf
  rw [if_pos (by simp)]
  simp only [Fin.val_natAdd, Nat.mul_one, ← Nat.add_assoc]
  ring

theorem mwgt_query0 (R : ℕ → ℕ → ℝ) (h i n : ℕ) : mwgt (keysOf R h) (query0 R h i) i n = weight R h 0 i n := by
  unfold mwgt weight; rw [wgt_query0]

theorem mwgt_query1 (R : ℕ → ℕ → ℝ) (h i n : ℕ) : mwgt (keysOf R h) (query1 R h i) i n = weight R h 1 i n := by
  unfold mwgt weight; rw [wgt_query1]

/-- The kernel's quotient of a finished column is the softmax-weighted mean. -/
theorem wmean_mean (R : ℕ → ℕ → ℝ) (h μ i : ℕ) (x : FVec Ideal S144x512 .f32) (b : Fin 512)
    (hx : ∃ m, Held m (fun r => x (ix2 r b)) (fun r => ∑ n ∈ Finset.range 2048, weight R h μ i n * valsOf R h r n)) (d : Fin 128) :
    wmean x (ix2 d b) = ((mean R h μ i d.val : ℝ) : EReal) := by
  obtain ⟨m, hx⟩ := hx
  have e1 : (fun n => weight R h μ i n * valsOf R h (⟨128, by omega⟩ : Fin 144) n) = weight R h μ i := by
    funext n; unfold valsOf; rw [if_neg (by simp), mul_one]
  have e2 : (fun n => weight R h μ i n * valsOf R h (⟨d.val, by omega⟩ : Fin 144) n) = fun n => weight R h μ i n * R n (2048 + 128 * h + d.val) := by
    funext n; unfold valsOf; rw [if_pos d.isLt]
  have H := hx.div (⟨d.val, by omega⟩ : Fin 144) (⟨128, by omega⟩ : Fin 144) (by
    show ∑ n ∈ Finset.range 2048, (fun n => weight R h μ i n * valsOf R h (⟨128, by omega⟩ : Fin 144) n) n ≠ 0
    rw [e1]; exact (total_pos R h μ i).ne')
  rw [wmean_apply]
  refine H.trans ?_
  congr 1
  show (∑ n ∈ Finset.range 2048, (fun n => weight R h μ i n * valsOf R h (⟨d.val, by omega⟩ : Fin 144) n) n) / (∑ n ∈ Finset.range 2048, (fun n => weight R h μ i n * valsOf R h (⟨128, by omega⟩ : Fin 144) n) n) = _
  rw [e1, e2]; rfl

/-- The kernel's last steps on two finished columns are the layer's attention output. -/
theorem finish_attn (R : ℕ → ℕ → ℕ → ℝ) (lam : ℝ) (bb h i : ℕ) (x y : FVec Ideal S144x512 .f32) (b : Fin 512) (l : FVec Ideal S1x1 .f32) (g : Vec Ideal S128x1 .f32)
    (hl : l (ix2 (0 : Fin 1) (0 : Fin 1)) = (lam : EReal))
    (hx : ∃ m, Held m (fun r => x (ix2 r b)) (fun r => ∑ n ∈ Finset.range 2048, mwgt (keysOf (R bb) h) (query0 (R bb) h i) i n * valsOf (R bb) h r n))
    (hy : ∃ m, Held m (fun r => y (ix2 r b)) (fun r => ∑ n ∈ Finset.range 2048, mwgt (keysOf (R bb) h) (query1 (R bb) h i) i n * valsOf (R bb) h r n))
    (d : Fin 128) :
    finish (differ x y l) g (ix2 b d) = attnOut R lam (fun d => g (ix2 d (0 : Fin 1))) bb i h d := by
  simp only [mwgt_query0] at hx
  simp only [mwgt_query1] at hy
  have e : ∀ d : Fin 128, differ x y l (ix2 d b) = ((diffAttn (R bb) lam h i d.val : ℝ) : EReal) := fun d => by
    rw [differ_apply, hl, wmean_mean (R bb) h 0 i x b hx, wmean_mean (R bb) h 1 i y b hy, ← EReal.coe_mul, ← EReal.coe_sub]; rfl
  rw [finish_apply]
  simp only [e]
  rfl

end Cert.Attn

end
-- ==== Proof.Blocks.lean ====
/- Where each block of a point lies in its array. -/
module

public import proofs.«01_k».proof.Proof.Body
public import proofs.«01_k».proof.Proof.Gen.KernelIdeal.Value
public import proofs.«01_k».proof.Proof.Gen.KernelIdeal.Launch
public import proofs.«01_k».proof.Proof.Gen.KernelIdeal.Points
public import Idealize.ShloMosaic.Lib.Pipeline.ValueKit
public import Idealize.ShloMosaic.Lib.Claim
public import Idealize.ShloMosaic.Lib.Pipeline.ValueKit.Held

@[expose] public section

set_option maxRecDepth 65536

noncomputable section

namespace Cert.Attn

open Cert.KernelIdeal Cert.KernelIdeal.Gen Idealize.ShloMosaic Idealize.SL.Sem

variable (m : (ℓ : Loc nD τ sig) → Buf (Elt Ideal) ℓ) (c : Dev nD)

theorem idx0 : ∀ t : Fin cfg0.N, win0_0.index t = ![4 * (t.val / 32) + t.val % 4, t.val / 4 % 8] := by decide +kernel
theorem idx1 : ∀ t : Fin cfg0.N, win0_1.index t = ![t.val / 32, 8 + t.val / 4 % 8] := by decide +kernel
theorem idx2 : ∀ t : Fin cfg0.N, win0_2.index t = ![t.val / 32, 16 + t.val / 4 % 8] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![4 * (t.val / 32) + t.val % 4, t.val / 4 % 8] := by decide +kernel

/-- The projection the launch is given is the argument with batch and position merged. -/
theorem entry1 (j : S16384x3072.Idx) : V m c main_v1 j = m ((c.tc : Thread nD τ).loc main_arg0)
    (ix3 (⟨(j 0).val / 2048, by have := (j 0).isLt; simp at this; omega⟩ : Fin 8) (⟨(j 0).val % 2048, by omega⟩ : Fin 2048) (j 1)) := by
  entry_read
  pointwise

theorem entry2 (e : Fin 64) : V m c main_v2 (ix2 (0 : Fin 1) e) = m ((c.tc : Thread nD τ).loc main_arg1) (ix1 e) := by
  entry_read
  pointwise

theorem entry3 (e : Fin 64) : V m c main_v3 (ix2 (0 : Fin 1) e) = m ((c.tc : Thread nD τ).loc main_arg2) (ix1 e) := by
  entry_read
  pointwise

theorem entry4 (e : Fin 64) : V m c main_v4 (ix2 (0 : Fin 1) e) = m ((c.tc : Thread nD τ).loc main_arg3) (ix1 e) := by
  entry_read
  pointwise

theorem entry5 (e : Fin 64) : V m c main_v5 (ix2 (0 : Fin 1) e) = m ((c.tc : Thread nD τ).loc main_arg4) (ix1 e) := by
  entry_read
  pointwise

/-- The query block of a point. -/
theorem blk0 (t : Fin cfg0.N) (r : Fin 512) (d : Fin 128) (bb : Fin 8) (n : Fin 2048) (col : Fin 3072) (hb : bb.val = t.val / 32)
    (hn : n.val = 512 * (t.val % 4) + r.val) (hc : col.val = 128 * (t.val / 4 % 8) + d.val) :
    (iblk m c 0 t : Vec Ideal S512x128 .bf16) (ix2 r d) = m ((c.tc : Thread nD τ).loc main_arg0) (ix3 bb n col) := by
  have e := entry1 m c (((cfg0.win 0).blk t).view.emb (ix2 r d))
  refine Eq.trans e ?_
  clear e
  blk_ext [idx0 t]

/-- The key block of a point: all keys of the batch and head. -/
theorem blk1 (t : Fin cfg0.N) (n : Fin 2048) (d : Fin 128) (bb : Fin 8) (col : Fin 3072) (hb : bb.val = t.val / 32)
    (hc : col.val = 1024 + 128 * (t.val / 4 % 8) + d.val) :
    (iblk m c 1 t : Vec Ideal S2048x128 .bf16) (ix2 n d) = m ((c.tc : Thread nD τ).loc main_arg0) (ix3 bb n col) := by
  have e := entry1 m c (((cfg0.win 1).blk t).view.emb (ix2 n d))
  refine Eq.trans e ?_
  clear e
  blk_ext [idx1 t]

/-- The value block of a point: all values of the batch and head. -/
theorem blk2 (t : Fin cfg0.N) (n : Fin 2048) (d : Fin 128) (bb : Fin 8) (col : Fin 3072) (hb : bb.val = t.val / 32)
    (hc : col.val = 2048 + 128 * (t.val / 4 % 8) + d.val) :
    (iblk m c 2 t : Vec Ideal S2048x128 .bf16) (ix2 n d) = m ((c.tc : Thread nD τ).loc main_arg0) (ix3 bb n col) := by
  have e := entry1 m c (((cfg0.win 2).blk t).view.emb (ix2 n d))
  refine Eq.trans e ?_
  clear e
  blk_ext [idx2 t]

theorem blk3 (t : Fin cfg0.N) (e : Fin 64) :
    (iblk m c 3 t : Vec Ideal S1x64 .f32) (ix2 (0 : Fin 1) e) = m ((c.tc : Thread nD τ).loc main_arg1) (ix1 e) := by
  refine Eq.trans ?_ (entry2 m c e)
  change V m c main_v2 (((cfg0.win 3).blk t).view.emb (ix2 (0 : Fin 1) e)) = _
  blk_ext [idx3 t]

theorem blk4 (t : Fin cfg0.N) (e : Fin 64) :
    (iblk m c 4 t : Vec Ideal S1x64 .f32) (ix2 (0 : Fin 1) e) = m ((c.tc : Thread nD τ).loc main_arg2) (ix1 e) := by
  refine Eq.trans ?_ (entry3 m c e)
  change V m c main_v3 (((cfg0.win 4).blk t).view.emb (ix2 (0 : Fin 1) e)) = _
  blk_ext [idx4 t]

theorem blk5 (t : Fin cfg0.N) (e : Fin 64) :
    (iblk m c 5 t : Vec Ideal S1x64 .f32) (ix2 (0 : Fin 1) e) = m ((c.tc : Thread nD τ).loc main_arg3) (ix1 e) := by
  refine Eq.trans ?_ (entry4 m c e)
  change V m c main_v4 (((cfg0.win 5).blk t).view.emb (ix2 (0 : Fin 1) e)) = _
  blk_ext [idx5 t]

theorem blk6 (t : Fin cfg0.N) (e : Fin 64) :
    (iblk m c 6 t : Vec Ideal S1x64 .f32) (ix2 (0 : Fin 1) e) = m ((c.tc : Thread nD τ).loc main_arg4) (ix1 e) := by
  refine Eq.trans ?_ (entry5 m c e)
  change V m c main_v5 (((cfg0.win 6).blk t).view.emb (ix2 (0 : Fin 1) e)) = _
  blk_ext [idx6 t]

theorem entry7 (d : Fin 128) : V m c main_v7 (ix2 d (0 : Fin 1)) = m ((c.tc : Thread nD τ).loc main_arg5) (ix1 d) := by
  entry_read
  pointwise

/-- The gain column. -/
theorem blk7 (t : Fin cfg0.N) (d : Fin 128) :
    (iblk m c 7 t : Vec Ideal S128x1 .f32) (ix2 d (0 : Fin 1)) = m ((c.tc : Thread nD τ).loc main_arg5) (ix1 d) := by
  refine Eq.trans ?_ (entry7 m c d)
  change V m c main_v7 (((cfg0.win 7).blk t).view.emb (ix2 d (0 : Fin 1))) = _
  blk_ext [idx7 t]

/-- The scratch after every point holds the stacked values of the point's batch and head. -/
theorem scratch (t : Fin cfg0.N) :
    (outsAt0 m c t.val t.isLt).2 = stacked (iblk m c 2 ⟨4 * (t.val / 4), Pipeline.run_start_lt t⟩ : Vec Ideal S2048x128 .bf16) := by
  refine Pipeline.eq_of_write_hold (fun n h => (outsAt0 m c n h).2) 4 (fun t => stacked (iblk m c 2 t : Vec Ideal S2048x128 .bf16)) ?_ ?_ t
  · intro t ht
    rw [outsAt0_A m c t ht ht (by omega) (by omega) (by omega)]
    dsimp only
    rw [soutA]
  · intro t ht
    rcases (by omega : t.val % 4 = 1 ∨ t.val % 4 = 2 ∨ t.val % 4 = 3) with h | h | h
    · rw [outsAt0_B m c t ht ht h (by omega) (by omega)]; rfl
    · rw [outsAt0_C m c t ht ht (by omega) h (by omega)]; rfl
    · rw [outsAt0_D m c t ht ht (by omega) (by omega) h]; rfl

end Cert.Attn

end
-- ==== Proof.Point.lean ====
/- Every point of the launch writes the layer's attention output, so the array it leaves is that output. -/
module

public import proofs.«01_k».proof.Proof.Meaning
public import proofs.«01_k».proof.Proof.Blocks

@[expose] public section

set_option maxRecDepth 65536

noncomputable section

namespace Cert.Attn

open Cert.KernelIdeal Cert.KernelIdeal.Gen Idealize.ShloMosaic Idealize.SL.Sem
open scoped BigOperators

variable (m : (ℓ : Loc nD τ sig) → Buf (Elt Ideal) ℓ) (c : Dev nD)

/-- The projection argument holds the reals `R`. -/
def IsProj (p : Vec Ideal S8x2048x3072 .f32) (R : ℕ → ℕ → ℕ → ℝ) : Prop :=
  ∀ (b : Fin 8) (n : Fin 2048) (k : Fin 3072), p (ix3 b n k) = ((R b.val n.val k.val : ℝ) : EReal)

/-- The mixing weight from its four vectors. -/
def mixing (a b x y : Fin 64 → EReal) : EReal :=
  Ideal.exp (∑ e, a e * b e) - Ideal.exp (∑ e, x e * y e) + Ideal.ofBits .f32 0x3E4CCCCD#32

section

variable {R : ℕ → ℕ → ℕ → ℝ} {lam : ℝ} (hR : IsProj (m ((c.tc : Thread nD τ).loc main_arg0)) R)
  (hlam : mixing (fun e => m ((c.tc : Thread nD τ).loc main_arg1) (ix1 e)) (fun e => m ((c.tc : Thread nD τ).loc main_arg2) (ix1 e))
    (fun e => m ((c.tc : Thread nD τ).loc main_arg3) (ix1 e)) (fun e => m ((c.tc : Thread nD τ).loc main_arg4) (ix1 e)) = (lam : EReal))

include hR in
theorem keys_pt (t : Fin cfg0.N) : IsKeys (iblk m c 1 t : Vec Ideal S2048x128 .bf16) (keysOf (R (t.val / 32)) (t.val / 4 % 8)) := fun n d => by
  have ht : t.val < 256 := t.isLt
  rw [blk1 m c t n d ⟨t.val / 32, by omega⟩ ⟨1024 + 128 * (t.val / 4 % 8) + d.val, by omega⟩ rfl rfl, hR]
  rfl

include hR in
theorem vals_pt (t : Fin cfg0.N) : IsVals (stacked (iblk m c 2 t : Vec Ideal S2048x128 .bf16)) (valsOf (R (t.val / 32)) (t.val / 4 % 8)) := fun j r a => by
  have ht : t.val < 256 := t.isLt
  unfold stacked valsOf
  by_cases h : r.val < 128
  · rw [if_pos h]
    refine (dif_pos h).trans ?_
    exact (blk2 m c t _ ⟨r.val, h⟩ ⟨t.val / 32, by omega⟩ ⟨2048 + 128 * (t.val / 4 % 8) + r.val, by omega⟩ rfl rfl).trans (hR _ _ _)
  · rw [if_neg h]
    exact dif_neg h

include hR in
theorem query_pt0 (t : Fin cfg0.N) (i : ℕ) (hi : t.val % 4 = i) (b : Fin 512) :
    IsQuery (k0_pay87 (iblk m c 0 t : Vec Ideal S512x128 .bf16)) b (query0 (R (t.val / 32)) (t.val / 4 % 8) (512 * i + b.val)) := fun d => by
  have ht : t.val < 256 := t.isLt
  rw [q1_apply]
  unfold query0
  split
  · rw [blk0 m c t b d ⟨t.val / 32, by omega⟩ ⟨512 * i + b.val, by omega⟩ ⟨128 * (t.val / 4 % 8) + d.val, by omega⟩ rfl (by rw [hi]) rfl, hR, ← EReal.coe_mul]
  · rfl

include hR in
theorem query_pt1 (t : Fin cfg0.N) (i : ℕ) (hi : t.val % 4 = i) (b : Fin 512) :
    IsQuery (k0_pay88 (iblk m c 0 t : Vec Ideal S512x128 .bf16)) b (query1 (R (t.val / 32)) (t.val / 4 % 8) (512 * i + b.val)) := fun d => by
  have ht : t.val < 256 := t.isLt
  rw [q2_apply]
  unfold query1
  split
  · rw [blk0 m c t b d ⟨t.val / 32, by omega⟩ ⟨512 * i + b.val, by omega⟩ ⟨128 * (t.val / 4 % 8) + d.val, by omega⟩ rfl (by rw [hi]) rfl, hR, ← EReal.coe_mul]
  · rfl

include hlam in
theorem lam_pt (t : Fin cfg0.N) :
    lamTile (iblk m c 3 t) (iblk m c 4 t) (iblk m c 5 t) (iblk m c 6 t) (ix2 (0 : Fin 1) (0 : Fin 1)) = (lam : EReal) := by
  rw [lam_apply, ← hlam]
  unfold mixing
  simp only [blk3 m c t, blk4 m c t, blk5 m c t, blk6 m c t]

include hR in
/-- The scratch at any point of a head holds the head's values. -/
theorem vals_scratch (t : Fin cfg0.N) (h0 : ¬t.val % 4 = 0) :
    IsVals (outsAt0 m c (t.val - 1) (Nat.lt_of_le_of_lt (Nat.sub_le _ _) t.isLt)).2 (valsOf (R (t.val / 32)) (t.val / 4 % 8)) := by
  have e := scratch m c ⟨t.val - 1, Nat.lt_of_le_of_lt (Nat.sub_le _ _) t.isLt⟩
  dsimp only at e
  rw [e]
  have H := vals_pt m c hR ⟨4 * ((t.val - 1) / 4), Pipeline.run_start_lt (⟨t.val - 1, Nat.lt_of_le_of_lt (Nat.sub_le _ _) t.isLt⟩ : Fin cfg0.N)⟩
  dsimp only at H
  have e1 : 4 * ((t.val - 1) / 4) / 32 = t.val / 32 := by omega
  have e2 : 4 * ((t.val - 1) / 4) / 4 % 8 = t.val / 4 % 8 := by omega
  rw [e1, e2] at H
  exact H

include hR hlam in
/-- What a point leaves in its output block. -/
theorem outs_point (t : Fin cfg0.N) (b : Fin 512) (d : Fin 128) :
    (outsAt0 m c t.val t.isLt).1 (ix2 b d)
      = attnOut R lam (fun d => m ((c.tc : Thread nD τ).loc main_arg5) (ix1 d)) (t.val / 32) (512 * (t.val % 4) + b.val) (t.val / 4 % 8) d := by
  have hg : (fun d : Fin 128 => m ((c.tc : Thread nD τ).loc main_arg5) (ix1 d)) = fun d => (iblk m c 7 t : Vec Ideal S128x1 .f32) (ix2 d (0 : Fin 1)) := by
    funext d; rw [blk7 m c t]
  rw [hg]
  rcases (by omega : t.val % 4 = 0 ∨ t.val % 4 = 1 ∨ t.val % 4 = 2 ∨ t.val % 4 = 3) with h | h | h | h
  · rw [outsAt0_A m c t h h (by omega) (by omega) (by omega)]
    dsimp only
    rw [outA, h]
    exact finish_attn R lam _ _ _ _ _ b _ _ (lam_pt m c hlam t) (sums0_held (query_pt0 m c hR t 0 h b) (keys_pt m c hR t) (vals_pt m c hR t))
      (sums0_held (query_pt1 m c hR t 0 h b) (keys_pt m c hR t) (vals_pt m c hR t)) d
  · rw [outsAt0_B m c t (by omega) (by omega) h (by omega) (by omega)]
    dsimp only
    rw [outB, h]
    exact finish_attn R lam _ _ _ _ _ b _ _ (lam_pt m c hlam t) (sums1_held (query_pt0 m c hR t 1 h b) (keys_pt m c hR t) (vals_scratch m c hR t (by omega)))
      (sums1_held (query_pt1 m c hR t 1 h b) (keys_pt m c hR t) (vals_scratch m c hR t (by omega))) d
  · rw [outsAt0_C m c t (by omega) (by omega) (by omega) h (by omega)]
    dsimp only
    rw [outC, h]
    exact finish_attn R lam _ _ _ _ _ b _ _ (lam_pt m c hlam t) (sums2_held (query_pt0 m c hR t 2 h b) (keys_pt m c hR t) (vals_scratch m c hR t (by omega)))
      (sums2_held (query_pt1 m c hR t 2 h b) (keys_pt m c hR t) (vals_scratch m c hR t (by omega))) d
  · rw [outsAt0_D m c t (by omega) (by omega) (by omega) (by omega) h]
    dsimp only
    rw [outD, h]
    exact finish_attn R lam _ _ _ _ _ b _ _ (lam_pt m c hlam t) (sums3_held (query_pt0 m c hR t 3 h b) (keys_pt m c hR t) (vals_scratch m c hR t (by omega)))
      (sums3_held (query_pt1 m c hR t 3 h b) (keys_pt m c hR t) (vals_scratch m c hR t (by omega))) d

/-- The attention output laid out as the launch's array: rows are batch and position, lanes are head and component. -/
def attnArr (R : ℕ → ℕ → ℕ → ℝ) (lam : ℝ) (g : Fin 128 → EReal) : Vec Ideal S16384x1024 .bf16 := fun j =>
  attnOut R lam g ((j 0).val / 2048) ((j 0).val % 2048) ((j 1).val / 128) ⟨(j 1).val % 128, by omega⟩

include hR hlam in
/-- The array the launch leaves. -/
theorem arr_eq : (dats m 0 c).arrAt 8 cfg0.N = attnArr R lam (fun d => m ((c.tc : Thread nD τ).loc main_arg5) (ix1 d)) := by
  refine (dats m 0 c).arrAt_eq_of_covers 8 _ (by decide +kernel) fun t hf y => ?_
  rw [after0_8]
  have ht : t.val < 256 := t.isLt
  have y0 : (y 0).val < 512 := (y 0).isLt
  have y1 : (y 1).val < 128 := (y 1).isLt
  have ey : (cfg0.win 8).xinj (cfg0.grid.coords t) y = (ix2 (⟨(y 0).val, y0⟩ : Fin 512) (⟨(y 1).val, y1⟩ : Fin 128) : S512x128.Idx) := by
    funext a
    match a with
    | ⟨0, _⟩ => rfl
    | ⟨1, _⟩ => rfl
  have e0 : ((((cfg0.win 8).blk t).view.emb y) 0).val = (4 * (t.val / 32) + t.val % 4) * 512 + (y 0).val := by blk_simp [idx8 t]
  have e1 : ((((cfg0.win 8).blk t).view.emb y) 1).val = t.val / 4 % 8 * 128 + (y 1).val := by blk_simp [idx8 t]
  change (outsAt0 m c t.val t.isLt).1 ((cfg0.win 8).xinj (cfg0.grid.coords t) y) = _
  rw [ey, outs_point m c hR hlam t]
  unfold attnArr
  have k0 : ∀ T Y : ℕ, Y < 512 → T / 32 = ((4 * (T / 32) + T % 4) * 512 + Y) / 2048 := by intro T Y hY; omega
  have k1 : ∀ T Y : ℕ, Y < 512 → 512 * (T % 4) + Y = ((4 * (T / 32) + T % 4) * 512 + Y) % 2048 := by intro T Y hY; omega
  have k2 : ∀ H Y : ℕ, Y < 128 → H = (H * 128 + Y) / 128 := by intro H Y hY; omega
  have k3 : ∀ H Y : ℕ, Y < 128 → Y = (H * 128 + Y) % 128 := by intro H Y hY; omega
  congr 1
  · rw [e0]; exact k0 _ _ y0
  · rw [e0]; exact k1 _ _ y0
  · rw [e1]; exact k2 _ _ y1
  · refine Fin.ext ?_
    show (y 1).val = _ % 128
    rw [e1]; exact k3 _ _ y1

end

end Cert.Attn

end
-- ==== Proof.Finite.lean ====
/- What the precondition says: the projection and the four mixing vectors are real numbers. -/
module

public import proofs.«01_k».proof.Defs
public import proofs.«01_k».proof.Proof.Point

@[expose] public section

noncomputable section

namespace Cert.Attn

open Idealize.ShloMosaic
open scoped BigOperators

/-- The side conditions of the precondition's own operations. -/
theorem preFacts : Cert.Pre_finite.Facts where
  bcast_S_S8x2048x3072 := ⟨fun i => i.elim0, fun i => i.elim0⟩
  bcast_S_S64 := ⟨fun i => i.elim0, fun i => i.elim0⟩

/-- A value whose magnitude compares below infinity is a real number. -/
theorem real_of_finite (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have e : (FloatOps.ofBits (F := Ideal) .f32 0x7F800000#32 : EReal) = ⊤ := by
    show Ideal.ofBits .f32 0x7F800000#32 = ⊤
    simp [Ideal.ofBits, Ideal.ieee]
  rw [Ideal.absf_def, e] at h
  have h2 : max x (-x) < ⊤ := by
    by_contra hn
    revert h
    rw [Ideal.cmpf_def]; simp [Ideal.cmp, hn]
  have h3 : x < ⊤ := lt_of_le_of_lt (le_max_left _ _) h2
  have h4 : -x < ⊤ := lt_of_le_of_lt (le_max_right _ _) h2
  refine (EReal.coe_toReal h3.ne ?_).symm
  rintro rfl
  simp at h4

/-- A real projection is read by a function of three numbers. -/
theorem exists_proj (p : Vec Ideal Cert.KernelIdeal.S8x2048x3072 .f32) (h : ∀ i, p i = (((p i).toReal : ℝ) : EReal)) : ∃ R, IsProj p R :=
  ⟨fun b n k => if hb : b < 8 ∧ n < 2048 ∧ k < 3072 then (p (ix3 (⟨b, hb.1⟩ : Fin 8) (⟨n, hb.2.1⟩ : Fin 2048) (⟨k, hb.2.2⟩ : Fin 3072))).toReal else 0, fun b n k => by
    dsimp only
    rw [dif_pos ⟨b.isLt, n.isLt, k.isLt⟩]; exact h _⟩

/-- Real vectors mix by a real weight. -/
theorem exists_mixing (a b x y : Fin 64 → EReal) (ha : ∀ e, a e = (((a e).toReal : ℝ) : EReal)) (hb : ∀ e, b e = (((b e).toReal : ℝ) : EReal))
    (hx : ∀ e, x e = (((x e).toReal : ℝ) : EReal)) (hy : ∀ e, y e = (((y e).toReal : ℝ) : EReal)) : ∃ lam : ℝ, mixing a b x y = (lam : EReal) := by
  have dot : ∀ u v : Fin 64 → EReal, (∀ e, u e = (((u e).toReal : ℝ) : EReal)) → (∀ e, v e = (((v e).toReal : ℝ) : EReal)) →
      ∑ e, u e * v e = ((∑ e, (u e).toReal * (v e).toReal : ℝ) : EReal) := fun u v hu hv => by
    rw [← coe_sum]
    refine Finset.sum_congr rfl fun e _ => ?_
    rw [EReal.coe_mul, ← hu, ← hv]
  have c : ∃ r : ℝ, Ideal.ofBits .f32 0x3E4CCCCD#32 = (r : EReal) := by
    refine ⟨13421773 / 67108864, ?_⟩
    simp [Ideal.ofBits, Ideal.ieee, -EReal.coe_mul]
    norm_num
  obtain ⟨r, hr⟩ := c
  unfold mixing
  rw [dot a b ha hb, dot x y hx hy, hr, Ideal.exp_coe, Ideal.exp_coe, ← EReal.coe_sub, ← EReal.coe_add]
  exact ⟨_, rfl⟩

end Cert.Attn

end
-- ==== Proof.Ref.lean ====
/- The reference, stage by stage, is the layer's attention output. -/
module

public import proofs.«01_k».proof.Proof.Meaning
public import proofs.«01_k».proof.Proof.Point
public import proofs.«01_k».proof.Proof.Gen.ReferenceIdeal.Read
public import Idealize.ShloMosaic.Lib.Pointwise
public import Idealize.ShloMosaic.Lib.WordCmp

@[expose] public section

set_option maxRecDepth 65536

noncomputable section

namespace Cert.Attn.Ref

open Cert.ReferenceIdeal Cert.ReferenceIdeal.Gen Cert.ReferenceIdeal.Read Idealize.ShloMosaic
open scoped BigOperators

variable {x0 : FVec Ideal S8x2048x3072 .f32} {R : ℕ → ℕ → ℕ → ℝ} (hR : IsProj x0 R)

include hR in
/-- The queries. -/
theorem q_apply (b : Fin 8) (n : Fin 2048) (h : Fin 8) (μ : Fin 2) (d : Fin 64) :
    val_main_v3 (F := Ideal) x0 (ix5 b n h μ d) = ((R b.val n.val (128 * h.val + 64 * μ.val + d.val) : ℝ) : EReal) := by
  rw [val_main_v3_apply, val_main_v0_apply]
  have e := hR b n ⟨128 * h.val + 64 * μ.val + d.val, by omega⟩
  refine Eq.trans ?_ e
  congr 1
  funext a
  refine Fin.ext ?_
  fin_cases a <;> simp [idx_main_v0, idx_main_v3] <;> omega

include hR in
/-- The keys. -/
theorem k_apply (b : Fin 8) (n : Fin 2048) (h : Fin 8) (μ : Fin 2) (d : Fin 64) :
    val_main_v4 (F := Ideal) x0 (ix5 b n h μ d) = ((R b.val n.val (1024 + 128 * h.val + 64 * μ.val + d.val) : ℝ) : EReal) := by
  rw [val_main_v4_apply, val_main_v1_apply]
  have e := hR b n ⟨1024 + 128 * h.val + 64 * μ.val + d.val, by omega⟩
  refine Eq.trans ?_ e
  congr 1
  funext a
  refine Fin.ext ?_
  fin_cases a <;> simp [idx_main_v1, idx_main_v4] <;> omega

include hR in
/-- The values. -/
theorem v_apply (b : Fin 8) (n : Fin 2048) (h : Fin 8) (d : Fin 128) :
    val_main_v5 (F := Ideal) x0 (ix4 b n h d) = ((R b.val n.val (2048 + 128 * h.val + d.val) : ℝ) : EReal) := by
  rw [val_main_v5_apply, val_main_v2_apply]
  have e := hR b n ⟨2048 + 128 * h.val + d.val, by omega⟩
  refine Eq.trans ?_ e
  congr 1
  funext a
  refine Fin.ext ?_
  fin_cases a <;> simp [idx_main_v2, idx_main_v5] <;> omega

include hR in
/-- The logits. -/
theorem logit_apply (b : Fin 8) (μ : Fin 2) (h : Fin 8) (i n : Fin 2048) :
    val_main_v22 (F := Ideal) x0 (ix5 b μ h i n) = ((logit (R b.val) h.val μ.val i.val n.val : ℝ) : EReal) := by
  rw [val_main_v22_apply, val_main_v20_apply, val_main_v21_apply, val_main_cst_2_apply]
  have e : ∀ d : Fin 64, val_main_v3 (F := Ideal) x0 (lidx_main_v20 (ix5 b μ h i n) d) * val_main_v4 (F := Ideal) x0 (ridx_main_v20 (ix5 b μ h i n) d)
      = ((R b.val i.val (128 * h.val + 64 * μ.val + d.val) * R b.val n.val (1024 + 128 * h.val + 64 * μ.val + d.val) : ℝ) : EReal) := fun d => by
    have e1 : lidx_main_v20 (ix5 b μ h i n) d = ix5 b i h μ d := by funext a; fin_cases a <;> rfl
    have e2 : ridx_main_v20 (ix5 b μ h i n) d = ix5 b n h μ d := by funext a; fin_cases a <;> rfl
    rw [e1, e2, q_apply hR, k_apply hR, ← EReal.coe_mul]
  simp only [e]
  rw [coe_sum]
  have e8 : Ideal.ofBits .f32 0x3E000000#32 = (((1 : ℝ) / 8 : ℝ) : EReal) := by
    simp [Ideal.ofBits, Ideal.ieee, -EReal.coe_mul]; norm_num
  show ((_ : ℝ) : EReal) * Ideal.ofBits .f32 0x3E000000#32 = _
  rw [e8, ← EReal.coe_mul]
  congr 1
  unfold logit
  rw [Finset.sum_mul]
  exact Finset.sum_congr rfl fun d _ => by ring

/-- The causal mask keeps the keys up to the query. -/
theorem masked_apply (b : Fin 8) (μ : Fin 2) (h : Fin 8) (i n : Fin 2048) :
    val_main_v23 (F := Ideal) x0 (ix5 b μ h i n) = if n.val ≤ i.val then val_main_v22 (F := Ideal) x0 (ix5 b μ h i n) else ⊥ := by
  rw [val_main_v23_apply, val_main_call0_v1_apply, val_main_v19_apply, val_main_v17_apply, val_main_v18_apply, val_main_v15_apply, val_main_v16_apply,
    val_main_v14_apply, val_main_v14_apply, val_main_call0_v2_apply, val_main_call0_v0_apply, val_main_cst_3_apply]
  have e1 : (idx_main_v15 (idx_main_v17 (idx_main_call0_v1 (ix5 b μ h i n))) 0).val = n.val := rfl
  have e2 : (idx_main_v16 (idx_main_v18 (idx_main_call0_v1 (ix5 b μ h i n))) 0).val = i.val := rfl
  rw [e1, e2, Idealize.ShloMosaic.WordCmp.cmpi_sle_ofNat (by omega) (by omega)]
  by_cases hni : n.val ≤ i.val
  · rw [if_pos hni, decide_eq_true hni]; rfl
  · rw [if_neg hni, decide_eq_false hni]; exact negInf

/-- The row's maximum. -/
theorem rowMax_apply (b : Fin 8) (μ : Fin 2) (h : Fin 8) (i : Fin 2048) :
    val_main_v24 (F := Ideal) x0 (ix4 b μ h i) = Finset.univ.fold max ⊥ fun n : Fin 2048 => val_main_v23 (F := Ideal) x0 (ix5 b μ h i n) := by
  unfold val_main_v24
  generalize val_main_v23 (F := Ideal) x0 = y
  pointwise
  have e : val_main_cst_4 (F := Ideal) (Shape.Idx.first h_S_) = (⊥ : EReal) := negInf
  rw [e]

/-- The exponential of a masked logit less the row's maximum. -/
theorem expd_apply (b : Fin 8) (μ : Fin 2) (h : Fin 8) (i n : Fin 2048) :
    val_main_v30 (F := Ideal) x0 (ix5 b μ h i n) = Ideal.exp (val_main_v23 (F := Ideal) x0 (ix5 b μ h i n)
      - Finset.univ.fold max ⊥ fun n : Fin 2048 => val_main_v23 (F := Ideal) x0 (ix5 b μ h i n)) := by
  have e1 : idx_main_v27 (idx_main_v28 (ix5 b μ h i n)) = ix4 b μ h i := by funext a; fin_cases a <;> rfl
  have e2 : val_main_v25 (F := Ideal) (ix4 b μ h i) = (⊥ : EReal) := by rw [val_main_v25_apply, val_main_cst_5_apply]; exact negInf
  rw [val_main_v30_apply, val_main_v29_apply, val_main_v28_apply, val_main_v27_apply, e1, val_main_v26_apply, e2, rowMax_apply]
  generalize val_main_v23 (F := Ideal) x0 (ix5 b μ h i n) = u
  generalize (Finset.univ.fold max ⊥ fun n : Fin 2048 => val_main_v23 (F := Ideal) x0 (ix5 b μ h i n)) = M
  show Ideal.exp (u - max ⊥ M) = _
  rw [max_eq_right bot_le]

include hR in
/-- The softmax's probability. -/
theorem prob_apply (b : Fin 8) (μ : Fin 2) (h : Fin 8) (i n : Fin 2048) :
    val_main_v34 (F := Ideal) x0 (ix5 b μ h i n) = ((weight (R b.val) h.val μ.val i.val n.val / total (R b.val) h.val μ.val i.val : ℝ) : EReal) := by
  have e1 : idx_main_v32 (idx_main_v33 (ix5 b μ h i n)) = ix4 b μ h i := by funext a; fin_cases a <;> rfl
  have e2 : ∀ k : Fin 2048, idx_main_v31 (ix4 b μ h i) k = ix5 b μ h i k := fun k => by funext a; fin_cases a <;> rfl
  have e3 : val_main_cst_6 (F := Ideal) (Shape.Idx.first h_S_) = (0 : EReal) := Ideal.ofBits_zero_f32
  rw [val_main_v34_apply, val_main_v33_apply, val_main_v32_apply, e1, val_main_v31_apply, e3, zero_add]
  simp only [e2, expd_apply]
  have H := softmax_row (fun n : Fin 2048 => val_main_v23 (F := Ideal) x0 (ix5 b μ h i n)) (fun n => weight (R b.val) h.val μ.val i.val n.val)
    (fun n => by
      rw [masked_apply]
      unfold weight
      by_cases hn : n.val ≤ i.val
      · rw [if_pos hn, if_pos hn]; exact Or.inr ⟨_, logit_apply hR b μ h i n, rfl⟩
      · rw [if_neg hn, if_neg hn]; exact Or.inl ⟨rfl, rfl⟩)
    ⟨i, by rw [masked_apply, if_pos le_rfl, logit_apply hR]; exact EReal.bot_lt_coe _⟩ n
  refine H.trans ?_
  unfold total
  rw [Finset.sum_range]

variable {x1 x2 x3 x4 : FVec Ideal S64 .f32} {x5 : FVec Ideal S128 .f32} {lam : ℝ}
  (hlam : mixing (fun e => x1 (ix1 e)) (fun e => x2 (ix1 e)) (fun e => x3 (ix1 e)) (fun e => x4 (ix1 e)) = (lam : EReal))

/-- A sum over a rank-one shape's indices is a sum over its coordinate. -/
theorem sum_ix1 (f : S64.Idx → EReal) : ∑ j : S64.Idx, f j = ∑ e : Fin 64, f (ix1 e) :=
  (Equiv.sum_comp (⟨fun e => ix1 e, fun j => j 0, fun _ => rfl, fun j => by funext a; fin_cases a; rfl⟩ : Fin 64 ≃ S64.Idx) f).symm

include hlam in
/-- The mixing weight. -/
theorem lam_apply (j : S_.Idx) : val_main_v13 (F := Ideal) x1 x2 x3 x4 j = (lam : EReal) := by
  have e1 : val_main_cst (F := Ideal) (Shape.Idx.first h_S_) = (0 : EReal) := Ideal.ofBits_zero_f32
  have e2 : val_main_cst_0 (F := Ideal) (Shape.Idx.first h_S_) = (0 : EReal) := Ideal.ofBits_zero_f32
  rw [val_main_v13_apply, val_main_v12_apply, val_main_v8_apply, val_main_v11_apply, val_main_v7_apply, val_main_v10_apply, e1, e2, zero_add, zero_add,
    sum_ix1, sum_ix1, ← hlam]
  rfl

include hR hlam in
/-- The differential attention's weighted mean of the values. -/
theorem diff_apply (b : Fin 8) (i : Fin 2048) (h : Fin 8) (d : Fin 128) :
    val_main_v43 (F := Ideal) x0 x1 x2 x3 x4 (ix4 b i h d) = ((diffAttn (R b.val) lam h.val i.val d.val : ℝ) : EReal) := by
  have e1 : idx_main_v43 (ix4 b i h d) = ix4 b h d i := by funext a; fin_cases a <;> rfl
  rw [val_main_v43_apply, e1, val_main_v42_apply]
  have e : ∀ n : Fin 2048, val_main_v5 (F := Ideal) x0 (lidx_main_v42 (ix4 b h d i) n) * val_main_v41 (F := Ideal) x0 x1 x2 x3 x4 (ridx_main_v42 (ix4 b h d i) n)
      = ((R b.val n.val (2048 + 128 * h.val + d.val) * (weight (R b.val) h.val 0 i.val n.val / total (R b.val) h.val 0 i.val
          - lam * (weight (R b.val) h.val 1 i.val n.val / total (R b.val) h.val 1 i.val)) : ℝ) : EReal) := fun n => by
    have f1 : lidx_main_v42 (ix4 b h d i) n = ix4 b n h d := by funext a; fin_cases a <;> rfl
    have f2 : ridx_main_v42 (ix4 b h d i) n = ix4 b h i n := by funext a; fin_cases a <;> rfl
    have f3 : idx_main_v35 (idx_main_v36 (ix4 b h i n)) = ix5 b (0 : Fin 2) h i n := by
      funext a; refine Fin.ext ?_; fin_cases a <;> simp [idx_main_v35, idx_main_v36] <;> omega
    have f4 : idx_main_v37 (idx_main_v38 (ix4 b h i n)) = ix5 b (1 : Fin 2) h i n := by
      funext a; refine Fin.ext ?_; fin_cases a <;> simp [idx_main_v37, idx_main_v38] <;> omega
    rw [f1, f2, v_apply hR, val_main_v41_apply, val_main_v36_apply, val_main_v35_apply, f3, prob_apply hR, val_main_v40_apply, val_main_v39_apply,
      lam_apply hlam, val_main_v38_apply, val_main_v37_apply, f4, prob_apply hR]
    show ((_ : ℝ) : EReal) * (((_ : ℝ) : EReal) - (lam : EReal) * ((_ : ℝ) : EReal)) = _
    rw [← EReal.coe_mul, ← EReal.coe_sub, ← EReal.coe_mul]
    rfl
  simp only [e]
  rw [coe_sum]
  congr 1
  unfold diffAttn mean
  rw [Finset.sum_range, Finset.sum_range, Finset.sum_div, Finset.sum_div, Finset.mul_sum, ← Finset.sum_sub_distrib]
  exact Finset.sum_congr rfl fun n _ => by ring

include hR hlam in
/-- The reference's result. -/
theorem ref_eq : val_main_v60 (F := Ideal) x0 x1 x2 x3 x4 x5 = attnArr R lam (fun d => x5 (ix1 d)) := by
  funext j
  have j0 : (j 0).val < 16384 := (j 0).isLt
  have j1 : (j 1).val < 1024 := (j 1).isLt
  have ej : idx_main_v59 j = ix4 (⟨(j 0).val / 2048, by omega⟩ : Fin 8) (⟨(j 0).val % 2048, by omega⟩ : Fin 2048) (⟨(j 1).val / 128, by omega⟩ : Fin 8)
      (⟨(j 1).val % 128, by omega⟩ : Fin 128) := by
    funext a; refine Fin.ext ?_; fin_cases a <;> simp [idx_main_v59] <;> omega
  rw [val_main_v60_apply, val_main_v59_apply, ej]
  unfold attnArr
  show val_main_v58 (F := Ideal) x0 x1 x2 x3 x4 x5 (ix4 (⟨(j 0).val / 2048, _⟩ : Fin 8) (⟨(j 0).val % 2048, _⟩ : Fin 2048) (⟨(j 1).val / 128, _⟩ : Fin 8)
      (⟨(j 1).val % 128, _⟩ : Fin 128)) = attnOut R lam (fun d => x5 (ix1 d)) (⟨(j 0).val / 2048, by omega⟩ : Fin 8).val (⟨(j 0).val % 2048, by omega⟩ : Fin 2048).val
        (⟨(j 1).val / 128, by omega⟩ : Fin 8).val (⟨(j 1).val % 128, by omega⟩ : Fin 128)
  generalize (⟨(j 0).val / 2048, _⟩ : Fin 8) = b
  generalize (⟨(j 0).val % 2048, _⟩ : Fin 2048) = i
  generalize (⟨(j 1).val / 128, _⟩ : Fin 8) = h
  generalize (⟨(j 1).val % 128, _⟩ : Fin 128) = d
  have e1 : idx_main_v46 (idx_main_v52 (ix4 b i h d)) = ix3 b i h := by funext a; fin_cases a <;> rfl
  have e2 : ∀ k : Fin 128, idx_main_v45 (ix3 b i h) k = ix4 b i h k := fun k => by funext a; fin_cases a <;> rfl
  have e3 : idx_main_v54 (idx_main_v55 (ix4 b i h d)) = ix1 d := by funext a; fin_cases a; rfl
  have e4 : val_main_cst_7 (F := Ideal) (Shape.Idx.first h_S_) = (0 : EReal) := Ideal.ofBits_zero_f32
  have e5 : val_main_v45 (F := Ideal) x0 x1 x2 x3 x4 (ix3 b i h)
      = ∑ e : Fin 128, ((diffAttn (R b.val) lam h.val i.val e.val : ℝ) : EReal) * ((diffAttn (R b.val) lam h.val i.val e.val : ℝ) : EReal) := by
    rw [val_main_v45_apply, e4, zero_add]
    refine Finset.sum_congr rfl fun k _ => ?_
    rw [e2, val_main_v44_apply, diff_apply hR hlam]
    rfl
  rw [val_main_v58_apply, val_main_v56_apply, val_main_v53_apply, diff_apply hR hlam, val_main_v52_apply, val_main_v51_apply, val_main_v50_apply, val_main_v48_apply,
    val_main_v46_apply, e1, e5, val_main_v47_apply, val_main_v49_apply, val_main_v55_apply, val_main_v54_apply, e3, val_main_v57_apply, val_main_cst_8_apply,
    val_main_cst_9_apply, val_main_cst_10_apply]
  rfl

end Cert.Attn.Ref

end
-- ==== Proof.Attention.lean ====
/- The attention program's claims: its frames, its named constants, and its value. -/
module

public import proofs.«01_k».proof.Defs
public import proofs.«01_k».proof.Proof.Finite
public import proofs.«01_k».proof.Proof.Ref
public import proofs.«01_k».proof.Proof.Gen.Kernel.Frame
public import proofs.«01_k».proof.Proof.Gen.ReferenceIdeal.Run
public import Idealize.ShloMosaic.Adequacy
public import Idealize.ShloMosaic.Init

@[expose] public section

noncomputable section

namespace Cert.Attn

open Idealize.ShloMosaic Idealize.SL.Sem

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) := fun m ρ _ => Cert.KernelIdeal.Gen.frame m ρ

theorem frame_pi_finite : Cert.quiescent_KernelIdeal_pre_finite (hKernelIdeal := Cert.KernelIdeal.Gen.facts) (hPre_finite := preFacts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite (hReferenceIdeal := Cert.ReferenceIdeal.Gen.facts) (hPre_finite := preFacts) :=
  fun m ρ _ => frame_ri m ρ trivial

/-- The two named constants have their stated values. -/
theorem preserves : Cert.preserves_Kernel_KernelIdeal :=
  ⟨IdealRules.named_const.statement Cert.KernelIdeal.κ "scale_log2e" .f32 0x3E38AA3B#32 (((8 * (Real.log 2))⁻¹ : ℝ) : EReal) rfl,
    IdealRules.named_const.statement Cert.KernelIdeal.κ "mask" .f32 0xF149F2CA#32 ⊥ rfl⟩

/-- From finite projections and mixing vectors, the launch leaves the reference's result. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hargs
  have key : ∀ c : Dev Cert.KernelIdeal.nD, ((Cert.KernelIdeal.Gen.dats m 0 c).arrAt 8 Cert.KernelIdeal.cfg0.N : Vec Ideal Cert.KernelIdeal.S16384x1024 .bf16)
      = Cert.ReferenceIdeal.Value.res_main_v60 m' c := fun c => by
    obtain ⟨p0, p1, p2, p3, p4⟩ := hpre c
    obtain ⟨a0, a1, a2, a3, a4, a5⟩ := hargs c
    obtain ⟨R, hR⟩ := exists_proj (m ((c.tc : Thread Cert.KernelIdeal.nD Cert.KernelIdeal.τ).loc Cert.KernelIdeal.main_arg0)) fun i => real_of_finite _ (congrFun p0 i)
    obtain ⟨lam, hlam⟩ := exists_mixing
      (fun e => m ((c.tc : Thread Cert.KernelIdeal.nD Cert.KernelIdeal.τ).loc Cert.KernelIdeal.main_arg1) (ix1 e))
      (fun e => m ((c.tc : Thread Cert.KernelIdeal.nD Cert.KernelIdeal.τ).loc Cert.KernelIdeal.main_arg2) (ix1 e))
      (fun e => m ((c.tc : Thread Cert.KernelIdeal.nD Cert.KernelIdeal.τ).loc Cert.KernelIdeal.main_arg3) (ix1 e))
      (fun e => m ((c.tc : Thread Cert.KernelIdeal.nD Cert.KernelIdeal.τ).loc Cert.KernelIdeal.main_arg4) (ix1 e))
      (fun e => real_of_finite _ (congrFun p1 (ix1 e))) (fun e => real_of_finite _ (congrFun p2 (ix1 e)))
      (fun e => real_of_finite _ (congrFun p3 (ix1 e))) (fun e => real_of_finite _ (congrFun p4 (ix1 e)))
    rw [arr_eq m c hR hlam]
    refine Eq.trans ?_ (Cert.ReferenceIdeal.Read.val_main_v60_eq m' c).symm
    rw [a0, a1, a2, a3, a4, a5]
    exact (Ref.ref_eq hR hlam).symm
  refine ⟨fun c => (Cert.KernelIdeal.Gen.dats m 0 c).arrAt 8 Cert.KernelIdeal.cfg0.N, Cert.KernelIdeal.Value.run_blocks m ρ,
    (θ_run Cert.ReferenceIdeal.defs _ _).mono (fun r h c => ⟨(h c).1.trans (key c).symm, (h c).2⟩) (Cert.ReferenceIdeal.Value.run (F := Ideal) m' ρ')⟩

end Cert.Attn

end
-- ==== Proof.InR.lean ====
/- The input projection's columns for the recurrence, laid out with zero columns after the narrow groups: the zero columns of the weights give zero columns of the product. -/
module

public import proofs.«01_k».proof.Defs
public import proofs.«01_k».proof.Proof.Gen.KernelInR
public import proofs.«01_k».proof.Proof.Gen.KernelInR.Frame
public import proofs.«01_k».proof.Proof.Gen.KernelInRIdeal
public import proofs.«01_k».proof.Proof.Gen.KernelInRIdeal.Skeleton
public import proofs.«01_k».proof.Proof.Gen.KernelInRIdeal.Value
public import proofs.«01_k».proof.Proof.Gen.KernelInRIdeal.Frame
public import proofs.«01_k».proof.Proof.Gen.ReferenceInRIdeal
public import proofs.«01_k».proof.Proof.Gen.ReferenceInRIdeal.Run
public import proofs.«01_k».proof.Proof.Gen.ReferenceInRIdeal.Read
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Claim
public import Idealize.ShloMosaic.Adequacy
public import Idealize.ShloMosaic.Init

@[expose] public section

set_option maxRecDepth 65536

noncomputable section

namespace Cert.InR

open Idealize.ShloMosaic
open scoped BigOperators

/-- Column `c` of the launch's array is this column of the weights; the others are zero. -/
def pick (f : Fin 6432 → EReal) (c : Fin 3584) : EReal :=
  if h : c.val < 3136 then f ⟨c.val, by omega⟩
  else if c.val < 3200 then 0
  else if h : c.val < 3264 then f ⟨c.val - 64, by omega⟩
  else if c.val < 3328 then 0
  else if h : c.val < 3488 then f ⟨c.val - 128, by omega⟩
  else 0

/-- A kept column is read. -/
theorem pick_val (f : Fin 6432 → EReal) (c : Fin 3584) (e : Fin 6432)
    (h : (c.val < 3136 ∧ e.val = c.val) ∨ (3200 ≤ c.val ∧ c.val < 3264 ∧ e.val + 64 = c.val) ∨ (3328 ≤ c.val ∧ c.val < 3488 ∧ e.val + 128 = c.val)) :
    pick f c = f e := by
  unfold pick
  rcases h with ⟨h1, h2⟩ | ⟨h1, h2, h3⟩ | ⟨h1, h2, h3⟩
  · rw [dif_pos h1]; exact congrArg f (Fin.ext h2.symm)
  · rw [dif_neg (by omega), if_neg (by omega), dif_pos h2]; exact congrArg f (Fin.ext (by show c.val - 64 = e.val; omega))
  · rw [dif_neg (by omega), if_neg (by omega), dif_neg (by omega), if_neg (by omega), dif_pos h2]; exact congrArg f (Fin.ext (by show c.val - 128 = e.val; omega))

/-- An added column is zero. -/
theorem pick_zero (f : Fin 6432 → EReal) (c : Fin 3584)
    (h : (3136 ≤ c.val ∧ c.val < 3200) ∨ (3264 ≤ c.val ∧ c.val < 3328) ∨ 3488 ≤ c.val) : pick f c = 0 := by
  unfold pick
  rcases h with ⟨h1, h2⟩ | ⟨h1, h2⟩ | h1
  · rw [dif_neg (by omega), if_pos h2]
  · rw [dif_neg (by omega), if_neg (by omega), dif_neg (by omega), if_pos h2]
  · rw [dif_neg (by omega), if_neg (by omega), dif_neg (by omega), if_neg (by omega), dif_neg (by omega)]

open Cert.KernelInRIdeal Cert.KernelInRIdeal.Gen Idealize.ShloMosaic Idealize.SL.Sem
open scoped BigOperators

variable (m : (ℓ : Loc nD τ sig) → Buf (Elt Ideal) ℓ) (c : Dev nD)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

/-- The tokens the launch is given are the argument with batch and position merged. -/
theorem entry_x (j : S16384x2048.Idx) : V m c main_v1 j = m ((c.tc : Thread nD τ).loc main_arg0)
    (ix3 (⟨(j 0).val / 2048, by have := (j 0).isLt; simp at this; omega⟩ : Fin 8) (⟨(j 0).val % 2048, by omega⟩ : Fin 2048) (j 1)) := by
  simp only [V, hostOps0, hostOps0_1, hostOps0_2, hostOps0_3, hostOps0_4, hostOps0_5, hostOps0_6, List.flatten_cons, List.flatten_nil, List.append_nil, List.cons_append, List.nil_append]
  entry_read
  pointwise

/-- The launch's weights as the host lines leave them: the first 3072 columns, and the three narrow groups with zeros after. -/
def wide (W : FVec Ideal S2048x6432 .f32) : FVec Ideal S2048x3584 .bf16 :=
  truncf .bf16 (concatenate S2048x3584 1 [⟨S2048x3072, extractStridedSlice S2048x3072 ![0, 0] W slices_S2048x6432_S2048x3072_0_0⟩,
    ⟨S2048x512, concatenate S2048x512 1 [
      ⟨S2048x128, pad S2048x128 ![0, 0] ![0, 64] ![0, 0] (extractStridedSlice S2048x64 ![0, 0] (extractStridedSlice S2048x288 ![0, 3072] W slices_S2048x6432_S2048x288_0_3072) slices_S2048x288_S2048x64_0_0) (sitofp (F := Ideal) .f32 (constantI S_ 32 0#32)) pads_S2048x64_S2048x128_000_0640 h_S_⟩,
      ⟨S2048x128, pad S2048x128 ![0, 0] ![0, 64] ![0, 0] (extractStridedSlice S2048x64 ![0, 64] (extractStridedSlice S2048x288 ![0, 3072] W slices_S2048x6432_S2048x288_0_3072) slices_S2048x288_S2048x64_0_64) (sitofp (F := Ideal) .f32 (constantI S_ 32 0#32)) pads_S2048x64_S2048x128_000_0640 h_S_⟩,
      ⟨S2048x256, pad S2048x256 ![0, 0] ![0, 96] ![0, 0] (extractStridedSlice S2048x160 ![0, 128] (extractStridedSlice S2048x288 ![0, 3072] W slices_S2048x6432_S2048x288_0_3072) slices_S2048x288_S2048x160_0_128) (sitofp (F := Ideal) .f32 (constantI S_ 32 0#32)) pads_S2048x160_S2048x256_000_0960 h_S_⟩]
      concatenates_S2048x128_S2048x128_S2048x256_S2048x512_d1⟩] concatenates_S2048x3072_S2048x512_S2048x3584_d1) bitsLt_bf16_f32

theorem entry_wide : V m c main_v12 = wide (m ((c.tc : Thread nD τ).loc main_arg1)) := by
  simp only [V, hostOps0, hostOps0_1, hostOps0_2, hostOps0_3, hostOps0_4, hostOps0_5, hostOps0_6, List.flatten_cons, List.flatten_nil, List.append_nil, List.cons_append, List.nil_append]
  simp only [StableHlo.after_cons, StableHlo.after_nil]
  rw [StableHlo.unary_result, StableHlo.binary_result, StableHlo.nary_result]
  rw [StableHlo.nary_result_ne]
  rotate_left
  decide
  unfold wide
  congr 3

/-- The padding value is zero. -/
theorem zero_word : (FloatOps.sitofp (F := Ideal) FTy.f32 (0#32) : EReal) = 0 := by
  show (((0#32 : BitVec 32).toInt : ℝ) : EReal) = 0
  simp

/-- Reading the wide weights at a column. -/
theorem wide_apply (W : FVec Ideal S2048x6432 .f32) (k : Fin 2048) (d : Fin 3584) :
    wide W (ix2 k d) = pick (fun d => W (ix2 k d)) d := by
  unfold wide
  have hd : d.val < 3584 := d.isLt
  pointwise
  split_ifs
  all_goals first
    | exact zero_word.trans (pick_zero _ _ (by omega)).symm
    | exact (pick_val (fun d => W (ix2 k d)) d ⟨d.val, by omega⟩ (Or.inl ⟨by show d.val < 3136; omega, rfl⟩)).symm
    | (refine (pick_val (fun d => W (ix2 k d)) d _ ?_).symm; first | omega | (simp only []; omega))

theorem blk_x (t : Fin cfg0.N) (r k : Fin 2048) (bb : Fin 8) (n : Fin 2048) (hb : bb.val = t.val % 8) (hn : n.val = r.val) :
    (iblk m c 0 t : Vec Ideal S2048x2048 .bf16) (ix2 r k) = m ((c.tc : Thread nD τ).loc main_arg0) (ix3 bb n k) := by
  have e := entry_x m c (((cfg0.win 0).blk t).view.emb (ix2 r k))
  refine Eq.trans e ?_
  clear e
  blk_ext [idx0 t]

theorem blk_w (t : Fin cfg0.N) (k : Fin 2048) (d : Fin 512) (col : Fin 3584) (hc : col.val = 512 * (t.val / 8) + d.val) :
    (iblk m c 1 t : Vec Ideal S2048x512 .bf16) (ix2 k d) = pick (fun d => m ((c.tc : Thread nD τ).loc main_arg1) (ix2 k d)) col := by
  have e := congrFun (entry_wide m c) (((cfg0.win 1).blk t).view.emb (ix2 k d))
  refine Eq.trans e ?_
  clear e
  have e2 : (((cfg0.win 1).blk t).view.emb (ix2 k d) : S2048x3584.Idx) = ix2 k col := by
    funext a
    refine Fin.ext ?_
    match a with
    | ⟨0, _⟩ => show ((((cfg0.win 1).blk t).view.emb (ix2 k d)) 0).val = k.val; blk_simp [idx1 t]
    | ⟨1, _⟩ => show ((((cfg0.win 1).blk t).view.emb (ix2 k d)) 1).val = col.val; rw [hc]; blk_simp [idx1 t]; first | done | omega
  rw [e2]
  exact wide_apply _ k col

/-- A point's tile is the product of its blocks. -/
theorem pay_apply (x : Vec Ideal S2048x2048 .bf16) (w : Vec Ideal S2048x512 .bf16) (r : Fin 2048) (d : Fin 512) :
    k0_pay1 (F := Ideal) x w (ix2 r d) = ∑ k : Fin 2048, (x (ix2 r k) : EReal) * w (ix2 k d) := by
  pointwise [k0_pay1]

theorem out_eq (x : Vec Ideal S2048x2048 .bf16) (w : Vec Ideal S2048x512 .bf16) : out0_2 (F := Ideal) x w = k0_pay1 x w := by
  unfold out0_2
  rw [View.canon_unit_zero (by decide), View.ld_unit_zero (by decide), View.ld_unit_zero (by decide)]

/-- The projected columns laid out as the launch's array. -/
def prod (X : Vec Ideal S8x2048x2048 .f32) (W : Vec Ideal S2048x6432 .f32) : Vec Ideal S16384x3584 .f32 := fun j =>
  (∑ k : Fin 2048, (X (ix3 (⟨(j 0).val / 2048, by have := (j 0).isLt; simp at this; omega⟩ : Fin 8) (⟨(j 0).val % 2048, by omega⟩ : Fin 2048) k) : EReal)
    * pick (fun d => W (ix2 k d)) (j 1) : EReal)

/-- The array the launch leaves. -/
theorem arr_eq : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  rw [after0_2, out_eq]
  have ht : t.val < 56 := t.isLt
  have y0 : (y 0).val < 2048 := (y 0).isLt
  have y1 : (y 1).val < 512 := (y 1).isLt
  have ey : (cfg0.win 2).xinj (cfg0.grid.coords t) y = (ix2 (⟨(y 0).val, y0⟩ : Fin 2048) (⟨(y 1).val, y1⟩ : Fin 512) : S2048x512.Idx) := by
    funext a
    match a with
    | ⟨0, _⟩ => rfl
    | ⟨1, _⟩ => rfl
  have e0 : ((((cfg0.win 2).blk t).view.emb y) 0).val = t.val % 8 * 2048 + (y 0).val := by blk_simp [idx2 t]
  have e1 : ((((cfg0.win 2).blk t).view.emb y) 1).val = t.val / 8 * 512 + (y 1).val := by blk_simp [idx2 t]
  change k0_pay1 (F := Ideal) (iblk m c 0 t) (iblk m c 1 t) ((cfg0.win 2).xinj (cfg0.grid.coords t) y) = _
  rw [ey, pay_apply]
  unfold prod
  have k0 : ∀ T Y : ℕ, Y < 2048 → (T * 2048 + Y) / 2048 = T := by intro T Y hY; omega
  have k1 : ∀ T Y : ℕ, Y < 2048 → (T * 2048 + Y) % 2048 = Y := by intro T Y hY; omega
  refine Finset.sum_congr rfl fun k _ => ?_
  congr 1
  · refine blk_x m c t _ k _ _ ?_ ?_
    · show (((((cfg0.win 2).blk t).view.emb y) 0).val) / 2048 = _
      rw [e0]; exact k0 _ _ y0
    · show (((((cfg0.win 2).blk t).view.emb y) 0).val) % 2048 = _
      rw [e0]; exact k1 _ _ y0
  · refine blk_w m c t k _ _ ?_
    show (((((cfg0.win 2).blk t).view.emb y) 1).val) = _
    rw [e1]
    show t.val / 8 * 512 + (y 1).val = 512 * (t.val / 8) + (y 1).val
    ring

end Cert.InR

namespace Cert.InR.Ref

open Cert.ReferenceInRIdeal Cert.ReferenceInRIdeal.Gen Cert.ReferenceInRIdeal.Read Idealize.ShloMosaic
open scoped BigOperators

/-- The product's entry at a batch, a position and a column of the weights. -/
theorem v1_eq (X : FVec Ideal S8x2048x2048 .f32) (W : FVec Ideal S2048x6432 .f32) (b : Fin 8) (n : Fin 2048) (d : Fin 3360) (e : Fin 6432) (h : d.val = e.val) :
    val_main_v1 (F := Ideal) X W (ix3 b n d) = ∑ k : Fin 2048, (X (ix3 b n k) : EReal) * W (ix2 k e) := by
  rw [val_main_v1_apply, val_main_v0_apply]
  refine Finset.sum_congr rfl fun k _ => ?_
  congr 2
  · funext a; fin_cases a <;> rfl
  · funext a
    refine Fin.ext ?_
    fin_cases a <;> simp [ridx_main_v0, idx_main_v1, h]

/-- The product with the picked columns is the picked columns of the product. -/
theorem sum_pick (x : Fin 2048 → EReal) (w : Fin 2048 → Fin 6432 → EReal) (c : Fin 3584) :
    (∑ k : Fin 2048, x k * Cert.InR.pick (w k) c) = Cert.InR.pick (fun e => ∑ k : Fin 2048, x k * w k e) c := by
  unfold Cert.InR.pick
  split_ifs <;> first | with_reducible rfl | simp

set_option maxHeartbeats 1000000 in
/-- The padded pieces laid side by side, read at a column. -/
theorem v9_eq (X : FVec Ideal S8x2048x2048 .f32) (W : FVec Ideal S2048x6432 .f32) (b : Fin 8) (n : Fin 2048) (d : Fin 3584) :
    val_main_v9 (F := Ideal) X W (ix3 b n d) = Cert.InR.pick (fun e => ∑ k : Fin 2048, (X (ix3 b n k) : EReal) * W (ix2 k e)) d := by
  have h1 : ∀ e : Fin 3360, val_main_v1 (F := Ideal) X W (ix3 b n e) = ∑ k : Fin 2048, (X (ix3 b n k) : EReal) * W (ix2 k (⟨e.val, by omega⟩ : Fin 6432)) := fun e => v1_eq X W b n e _ rfl
  unfold val_main_v9 val_main_v8 val_main_v7 val_main_v6 val_main_v5 val_main_v4 val_main_v3 val_main_v2 val_main_call2_v0 val_main_call1_v0 val_main_call0_v0 val_main_c val_main_c_0 val_main_c_1
  generalize val_main_v1 (F := Ideal) X W = P at h1 ⊢
  have hd : d.val < 3584 := d.isLt
  pointwise
  split_ifs
  all_goals first
    | exact Cert.InR.zero_word.trans (Cert.InR.pick_zero _ _ (by omega)).symm
    | exact (h1 ⟨d.val, by omega⟩).trans (Cert.InR.pick_val (fun e => ∑ k : Fin 2048, (X (ix3 b n k) : EReal) * W (ix2 k e)) d ⟨d.val, by omega⟩ (Or.inl ⟨by show d.val < 3136; omega, rfl⟩)).symm
    | (refine (h1 _).trans (Cert.InR.pick_val (fun e => ∑ k : Fin 2048, (X (ix3 b n k) : EReal) * W (ix2 k e)) d _ ?_).symm; first | omega | (simp only []; omega))

/-- The reference's result is the projected columns. -/
theorem ref_eq (X : FVec Ideal S8x2048x2048 .f32) (W : FVec Ideal S2048x6432 .f32) : val_main_v10 (F := Ideal) X W = Cert.InR.prod X W := by
  funext j
  have j0 : (j 0).val < 16384 := (j 0).isLt
  have j1 : (j 1).val < 3584 := (j 1).isLt
  rw [val_main_v10_apply]
  have e : (idx_main_v10 j : S8x2048x3584.Idx) = ix3 (⟨(j 0).val / 2048, by omega⟩ : Fin 8) (⟨(j 0).val % 2048, by omega⟩ : Fin 2048) (j 1) := by
    funext a
    refine Fin.ext ?_
    fin_cases a <;> simp [idx_main_v10] <;> omega
  rw [e]
  refine Eq.trans (v9_eq X W _ _ (j 1)) ?_
  exact (sum_pick _ _ _).symm

end Cert.InR.Ref

namespace Cert.InR

open Idealize.ShloMosaic Idealize.SL.Sem

theorem frame_p : Cert.quiescent_KernelInR (hKernelInR := Cert.KernelInR.Gen.facts) := fun m ρ _ => Cert.KernelInR.Gen.frame m ρ

theorem frame_pi : Cert.quiescent_KernelInRIdeal (hKernelInRIdeal := Cert.KernelInRIdeal.Gen.facts) := fun m ρ _ => Cert.KernelInRIdeal.Gen.frame m ρ

theorem frame_ri : Cert.quiescent_ReferenceInRIdeal (hReferenceInRIdeal := Cert.ReferenceInRIdeal.Gen.facts) := fun m ρ _ =>
  (θ_run Cert.ReferenceInRIdeal.defs _ _).mono (fun r h => ⟨fun c => (h c).2, Idealize.ShloMosaic.sem_eq_zero_of_no_sems (by decide) r.2⟩)
    (Cert.ReferenceInRIdeal.Value.run (F := Ideal) m ρ)

/-- No operation was rewritten. -/
theorem preserves : Cert.preserves_KernelInR_KernelInRIdeal := trivial

/-- The launch leaves the reference's result. -/
theorem algebraic : Cert.algebraic_KernelInRIdeal_ReferenceInRIdeal (hKernelInRIdeal := Cert.KernelInRIdeal.Gen.facts)
    (hReferenceInRIdeal := Cert.ReferenceInRIdeal.Gen.facts) := by
  intro m ρ m' ρ' hpre hargs
  have key : ∀ c : Dev Cert.KernelInRIdeal.nD, ((Cert.KernelInRIdeal.Gen.dats m 0 c).arrAt 2 Cert.KernelInRIdeal.cfg0.N : Vec Ideal Cert.KernelInRIdeal.S16384x3584 .bf16)
      = Cert.ReferenceInRIdeal.Read.val_main_v10 (F := Ideal) (m' ((c.tc : Thread Cert.ReferenceInRIdeal.nD Cert.ReferenceInRIdeal.τ).loc Cert.ReferenceInRIdeal.main_arg0)) (m' ((c.tc : Thread Cert.ReferenceInRIdeal.nD Cert.ReferenceInRIdeal.τ).loc Cert.ReferenceInRIdeal.main_arg1)) := fun c => by
    obtain ⟨a0, a1⟩ := hargs c
    rw [arr_eq m c]
    rw [a0, a1]
    exact (Ref.ref_eq _ _).symm
  refine ⟨fun c => (Cert.KernelInRIdeal.Gen.dats m 0 c).arrAt 2 Cert.KernelInRIdeal.cfg0.N, Cert.KernelInRIdeal.Value.run_blocks m ρ,
    (θ_run Cert.ReferenceInRIdeal.defs _ _).mono (fun r h c => ⟨((h c).1.trans (Cert.ReferenceInRIdeal.Read.val_main_v10_eq _ _)).trans (key c).symm, (h c).2⟩) (Cert.ReferenceInRIdeal.Value.run (F := Ideal) m' ρ')⟩

end Cert.InR

end
-- ==== Proof.InD.lean ====
/- The input projection's columns for the attention: every point writes a tile of the matrix product, so the array is the product. -/
module

public import proofs.«01_k».proof.Defs
public import proofs.«01_k».proof.Proof.Gen.KernelInD
public import proofs.«01_k».proof.Proof.Gen.KernelInD.Frame
public import proofs.«01_k».proof.Proof.Gen.KernelInDIdeal
public import proofs.«01_k».proof.Proof.Gen.KernelInDIdeal.Skeleton
public import proofs.«01_k».proof.Proof.Gen.KernelInDIdeal.Value
public import proofs.«01_k».proof.Proof.Gen.KernelInDIdeal.Frame
public import proofs.«01_k».proof.Proof.Gen.ReferenceInDIdeal
public import proofs.«01_k».proof.Proof.Gen.ReferenceInDIdeal.Run
public import proofs.«01_k».proof.Proof.Gen.ReferenceInDIdeal.Read
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Claim
public import Idealize.ShloMosaic.Adequacy
public import Idealize.ShloMosaic.Init

@[expose] public section

set_option maxRecDepth 65536

noncomputable section

namespace Cert.InD

open Cert.KernelInDIdeal Cert.KernelInDIdeal.Gen Idealize.ShloMosaic Idealize.SL.Sem
open scoped BigOperators

variable (m : (ℓ : Loc nD τ sig) → Buf (Elt Ideal) ℓ) (c : Dev nD)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![t.val % 8, t.val / 8] := by decide +kernel

/-- The tokens the launch is given are the argument with batch and position merged. -/
theorem entry_x (j : S16384x2048.Idx) : V m c main_v1 j = m ((c.tc : Thread nD τ).loc main_arg0)
    (ix3 (⟨(j 0).val / 2048, by have := (j 0).isLt; simp at this; omega⟩ : Fin 8) (⟨(j 0).val % 2048, by omega⟩ : Fin 2048) (j 1)) := by
  entry_read
  pointwise

/-- The weights the launch is given are the argument's columns from 3360 on. -/
theorem entry_w (j : S2048x3072.Idx) : V m c main_v3 j = m ((c.tc : Thread nD τ).loc main_arg1)
    (ix2 (j 0) (⟨3360 + (j 1).val, by have := (j 1).isLt; simp at this; omega⟩ : Fin 6432)) := by
  entry_read
  pointwise

theorem blk_x (t : Fin cfg0.N) (r k : Fin 2048) (bb : Fin 8) (n : Fin 2048) (hb : bb.val = t.val % 8) (hn : n.val = r.val) :
    (iblk m c 0 t : Vec Ideal S2048x2048 .bf16) (ix2 r k) = m ((c.tc : Thread nD τ).loc main_arg0) (ix3 bb n k) := by
  have e := entry_x m c (((cfg0.win 0).blk t).view.emb (ix2 r k))
  refine Eq.trans e ?_
  clear e
  blk_ext [idx0 t]

theorem blk_w (t : Fin cfg0.N) (k : Fin 2048) (d : Fin 512) (col : Fin 6432) (hc : col.val = 3360 + 512 * (t.val / 8) + d.val) :
    (iblk m c 1 t : Vec Ideal S2048x512 .bf16) (ix2 k d) = m ((c.tc : Thread nD τ).loc main_arg1) (ix2 k col) := by
  have e := entry_w m c (((cfg0.win 1).blk t).view.emb (ix2 k d))
  refine Eq.trans e ?_
  clear e
  blk_ext [idx1 t]

/-- A point's tile is the product of its blocks. -/
theorem pay_apply (x : Vec Ideal S2048x2048 .bf16) (w : Vec Ideal S2048x512 .bf16) (r : Fin 2048) (d : Fin 512) :
    k0_pay1 (F := Ideal) x w (ix2 r d) = ∑ k : Fin 2048, (x (ix2 r k) : EReal) * w (ix2 k d) := by
  pointwise [k0_pay1]

theorem out_eq (x : Vec Ideal S2048x2048 .bf16) (w : Vec Ideal S2048x512 .bf16) : out0_2 (F := Ideal) x w = k0_pay1 x w := by
  unfold out0_2
  rw [View.canon_unit_zero (by decide), View.ld_unit_zero (by decide), View.ld_unit_zero (by decide)]

/-- The projected columns laid out as the launch's array. -/
def prod (X : Vec Ideal S8x2048x2048 .f32) (W : Vec Ideal S2048x6432 .f32) : Vec Ideal S16384x3072 .bf16 := fun j =>
  (∑ k : Fin 2048, (X (ix3 (⟨(j 0).val / 2048, by have := (j 0).isLt; simp at this; omega⟩ : Fin 8) (⟨(j 0).val % 2048, by omega⟩ : Fin 2048) k) : EReal)
    * W (ix2 k (⟨3360 + (j 1).val, by have := (j 1).isLt; simp at this; omega⟩ : Fin 6432)) : EReal)

/-- The array the launch leaves. -/
theorem arr_eq : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  rw [after0_2, out_eq]
  have ht : t.val < 48 := t.isLt
  have y0 : (y 0).val < 2048 := (y 0).isLt
  have y1 : (y 1).val < 512 := (y 1).isLt
  have ey : (cfg0.win 2).xinj (cfg0.grid.coords t) y = (ix2 (⟨(y 0).val, y0⟩ : Fin 2048) (⟨(y 1).val, y1⟩ : Fin 512) : S2048x512.Idx) := by
    funext a
    match a with
    | ⟨0, _⟩ => rfl
    | ⟨1, _⟩ => rfl
  have e0 : ((((cfg0.win 2).blk t).view.emb y) 0).val = t.val % 8 * 2048 + (y 0).val := by blk_simp [idx2 t]
  have e1 : ((((cfg0.win 2).blk t).view.emb y) 1).val = t.val / 8 * 512 + (y 1).val := by blk_simp [idx2 t]
  change k0_pay1 (F := Ideal) (iblk m c 0 t) (iblk m c 1 t) ((cfg0.win 2).xinj (cfg0.grid.coords t) y) = _
  rw [ey, pay_apply]
  unfold prod
  have k0 : ∀ T Y : ℕ, Y < 2048 → (T * 2048 + Y) / 2048 = T := by intro T Y hY; omega
  have k1 : ∀ T Y : ℕ, Y < 2048 → (T * 2048 + Y) % 2048 = Y := by intro T Y hY; omega
  refine Finset.sum_congr rfl fun k _ => ?_
  congr 1
  · refine blk_x m c t _ k _ _ ?_ ?_
    · show (((((cfg0.win 2).blk t).view.emb y) 0).val) / 2048 = _
      rw [e0]; exact k0 _ _ y0
    · show (((((cfg0.win 2).blk t).view.emb y) 0).val) % 2048 = _
      rw [e0]; exact k1 _ _ y0
  · refine blk_w m c t k _ _ ?_
    show 3360 + (((((cfg0.win 2).blk t).view.emb y) 1).val) = _
    rw [e1]
    show 3360 + (t.val / 8 * 512 + (y 1).val) = 3360 + 512 * (t.val / 8) + (y 1).val
    ring

end Cert.InD

namespace Cert.InD.Ref

open Cert.ReferenceInDIdeal Cert.ReferenceInDIdeal.Gen Cert.ReferenceInDIdeal.Read Idealize.ShloMosaic
open scoped BigOperators

/-- The reference's result is the projected columns. -/
theorem ref_eq (X : FVec Ideal S8x2048x2048 .f32) (W : FVec Ideal S2048x6432 .f32) : val_main_v3 (F := Ideal) X W = Cert.InD.prod X W := by
  funext j
  have j0 : (j 0).val < 16384 := (j 0).isLt
  have j1 : (j 1).val < 3072 := (j 1).isLt
  rw [val_main_v3_apply]
  refine (show _ = val_main_v2 (F := Ideal) X W j from rfl).trans ?_
  rw [val_main_v2_apply, val_main_v1_apply, val_main_v0_apply]
  unfold Cert.InD.prod
  refine Finset.sum_congr rfl fun k _ => ?_
  congr 2
  · funext a
    refine Fin.ext ?_
    fin_cases a <;> simp [lidx_main_v0, idx_main_v1, idx_main_v2] <;> omega
  · funext a
    refine Fin.ext ?_
    fin_cases a <;> simp [ridx_main_v0, idx_main_v1, idx_main_v2] <;> omega

end Cert.InD.Ref

namespace Cert.InD

open Idealize.ShloMosaic Idealize.SL.Sem

theorem frame_p : Cert.quiescent_KernelInD (hKernelInD := Cert.KernelInD.Gen.facts) := fun m ρ _ => Cert.KernelInD.Gen.frame m ρ

theorem frame_pi : Cert.quiescent_KernelInDIdeal (hKernelInDIdeal := Cert.KernelInDIdeal.Gen.facts) := fun m ρ _ => Cert.KernelInDIdeal.Gen.frame m ρ

theorem frame_ri : Cert.quiescent_ReferenceInDIdeal (hReferenceInDIdeal := Cert.ReferenceInDIdeal.Gen.facts) := fun m ρ _ =>
  (θ_run Cert.ReferenceInDIdeal.defs _ _).mono (fun r h => ⟨fun c => (h c).2, Idealize.ShloMosaic.sem_eq_zero_of_no_sems (by decide) r.2⟩)
    (Cert.ReferenceInDIdeal.Value.run (F := Ideal) m ρ)

/-- No operation was rewritten. -/
theorem preserves : Cert.preserves_KernelInD_KernelInDIdeal := trivial

/-- The launch leaves the reference's result. -/
theorem algebraic : Cert.algebraic_KernelInDIdeal_ReferenceInDIdeal (hKernelInDIdeal := Cert.KernelInDIdeal.Gen.facts)
    (hReferenceInDIdeal := Cert.ReferenceInDIdeal.Gen.facts) := by
  intro m ρ m' ρ' hpre hargs
  have key : ∀ c : Dev Cert.KernelInDIdeal.nD, ((Cert.KernelInDIdeal.Gen.dats m 0 c).arrAt 2 Cert.KernelInDIdeal.cfg0.N : Vec Ideal Cert.KernelInDIdeal.S16384x3072 .bf16)
      = Cert.ReferenceInDIdeal.Read.val_main_v3 (F := Ideal) (m' ((c.tc : Thread Cert.ReferenceInDIdeal.nD Cert.ReferenceInDIdeal.τ).loc Cert.ReferenceInDIdeal.main_arg0)) (m' ((c.tc : Thread Cert.ReferenceInDIdeal.nD Cert.ReferenceInDIdeal.τ).loc Cert.ReferenceInDIdeal.main_arg1)) := fun c => by
    obtain ⟨a0, a1⟩ := hargs c
    rw [arr_eq m c]
    rw [a0, a1]
    exact (Ref.ref_eq _ _).symm
  refine ⟨fun c => (Cert.KernelInDIdeal.Gen.dats m 0 c).arrAt 2 Cert.KernelInDIdeal.cfg0.N, Cert.KernelInDIdeal.Value.run_blocks m ρ,
    (θ_run Cert.ReferenceInDIdeal.defs _ _).mono (fun r h c => ⟨((h c).1.trans (Cert.ReferenceInDIdeal.Read.val_main_v3_eq _ _)).trans (key c).symm, (h c).2⟩) (Cert.ReferenceInDIdeal.Value.run (F := Ideal) m' ρ')⟩

end Cert.InD

end
-- ==== Proof.GuPre.lean ====
/- What the precondition of the gate/up call says of the two tables' words. -/
module

public import proofs.«01_k».proof.Defs
public import Idealize.ShloMosaic.Lib.Pointwise
public import Idealize.ShloMosaic.Lib.ValueIdx
public import Idealize.ShloMosaic.Lib.WordCmp

@[expose] public section

noncomputable section

namespace Cert.Gu

open Idealize.ShloMosaic

/-- The side condition of the precondition's own operations. -/
theorem preFacts : Cert.Pre_tables.Facts where
  bcast_S_S160 := ⟨fun i => i.elim0, fun i => i.elim0⟩

/-- A word between zero and below 32, as signed numbers, is a number below 32. -/
theorem lt_of_cmp (w : BitVec 32) (h : IntOp.andi (IntOp.cmpi .sge w 0#32) (IntOp.cmpi .slt w 32#32) = 1#1) : w.toNat < 32 := by
  rw [WordCmp.cmpi_sge_eq, WordCmp.cmpi_slt_eq, WordCmp.andi_ofBool, WordCmp.ofBool_eq_one_iff, Bool.and_eq_true,
    decide_eq_true_eq, decide_eq_true_eq] at h
  have e0 : (0#32).toInt = 0 := by decide
  have e1 : (32#32).toInt = 32 := by decide
  rw [e0, e1] at h
  have hi := BitVec.toInt_eq_toNat_cond w
  split at hi <;> omega

/-- A word between zero and 512, as signed numbers, is a number at most 512. -/
theorem le_of_cmp (w : BitVec 32) (h : IntOp.andi (IntOp.cmpi .sge w 0#32) (IntOp.cmpi .sle w 512#32) = 1#1) : w.toNat ≤ 512 := by
  rw [WordCmp.cmpi_sge_eq, WordCmp.cmpi_sle_eq, WordCmp.andi_ofBool, WordCmp.ofBool_eq_one_iff, Bool.and_eq_true,
    decide_eq_true_eq, decide_eq_true_eq] at h
  have e0 : (0#32).toInt = 0 := by decide
  have e1 : (512#32).toInt = 512 := by decide
  rw [e0, e1] at h
  have hi := BitVec.toInt_eq_toNat_cond w
  split at hi <;> omega

/-- Where the precondition's first result is all ones, every block's expert is one of the 32. -/
theorem expert_lt {F : FTy → Type} [FloatOps F] [Cert.Pre_tables.Facts] (a0 a1 : IVec Cert.Pre_tables.S160 32) (a2 : IVec Cert.Pre_tables.S81920x8x128 32)
    (a3 : FVec F Cert.Pre_tables.S32x2048x4096 .f32) (a4 : FVec F Cert.Pre_tables.S32x4096 .f32)
    (h : (Cert.Pre_tables.fn (F := F) a0 a1 a2 a3 a4).1 = fun _ => 1#1) (i : Cert.Pre_tables.S160.Idx) : (a0 i).toNat < 32 :=
  lt_of_cmp _ (congrFun h i)

/-- Where its second result is all ones, every block has at most 512 rows in use. -/
theorem rows_le {F : FTy → Type} [FloatOps F] [Cert.Pre_tables.Facts] (a0 a1 : IVec Cert.Pre_tables.S160 32) (a2 : IVec Cert.Pre_tables.S81920x8x128 32)
    (a3 : FVec F Cert.Pre_tables.S32x2048x4096 .f32) (a4 : FVec F Cert.Pre_tables.S32x4096 .f32)
    (h : (Cert.Pre_tables.fn (F := F) a0 a1 a2 a3 a4).2 = fun _ => 1#1) (i : Cert.Pre_tables.S160.Idx) : (a1 i).toNat ≤ 512 :=
  le_of_cmp _ (congrFun h i)

end Cert.Gu

end
-- ==== Proof.GuIKit.lean ====
/- The gate/up call of the mixture layer: the schedule of its windows, what the run of its body is stated over, and the
   pieces of the frame proof which do not depend on the case of the body. -/
module

public import proofs.«01_k».proof.Proof.Gen.KernelGuIdeal.Launch
public import proofs.«01_k».proof.Proof.Gen.KernelGuIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0 (operand 2 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S160 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelGuIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats 0 c).arrAt_in 2 rfl _).trans ((hA c 2).trans (V_main_arg3 m c))),
      ((h c).2 main_arg4 (by decide : main_arg4 ∈ Pipeline.restRefs sig spec0)).trans (V_main_arg4 m c)⟩) h

/-! ## The kernel body on any staging memrefs: a subtype the run finds -/

/-- One staging buffer of output window 5, through which its contents are stated (`View.read_writes_of_cover`: the
    choice does not matter). -/
abbrev VO0_5 : View sig .tc .vmem S512x1024 .bf16 := (Memref.whole cc0_stg5_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S4096x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)

/-- How many rows of point `i`'s block are in use: the word of the second table the body reads. -/
abbrev rowsAt {c : Dev nD} (i : grid0.Coords) (xt1 : TbBuf0 (F := F) c tbM0_1) : BitVec 32 :=
  View.readAt (Elt F) tbM0_1.view (Rect.unit (s := S160) (k0_off1 i) S1.size (k0_off1_inb i)).toLoadRect xt1 (Shape.Idx.first (numel1_S1.symm ▸ Nat.one_pos))

end Cert.KernelGuIdeal.Hand

end
-- ==== Proof.GuIRun1.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 0 < rows in use ≤ 64: the pieces its stores leave in the output, with the proof that it runs to them
    and leaves the inputs and the tables as they were. -/
noncomputable def run1 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) = 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part1_eq_skeleton,k0_part2_eq_skeleton,k0_part3_eq_skeleton,k0_part4_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun2.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 64 < rows in use ≤ 128: the pieces its stores leave in the output, with the proof that it runs to them
    and leaves the inputs and the tables as they were. -/
noncomputable def run2 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) = 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part5_eq_skeleton,k0_part6_eq_skeleton,k0_part7_eq_skeleton,k0_part8_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun3.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 128 < rows in use ≤ 192: the pieces its stores leave in the output, with the proof that it runs to them
    and leaves the inputs and the tables as they were. -/
noncomputable def run3 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) = 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part9_eq_skeleton,k0_part10_eq_skeleton,k0_part11_eq_skeleton,k0_part12_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun4.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 192 < rows in use ≤ 256: the pieces its stores leave in the output, with the proof that it runs to them
    and leaves the inputs and the tables as they were. -/
noncomputable def run4 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) = 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part13_eq_skeleton,k0_part14_eq_skeleton,k0_part15_eq_skeleton,k0_part16_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun5.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 256 < rows in use ≤ 320: the pieces its stores leave in the output, with the proof that it runs to them
    and leaves the inputs and the tables as they were. -/
noncomputable def run5 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) = 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part17_eq_skeleton,k0_part18_eq_skeleton,k0_part19_eq_skeleton,k0_part20_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun6.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 320 < rows in use ≤ 384: the pieces its stores leave in the output, with the proof that it runs to them
    and leaves the inputs and the tables as they were. -/
noncomputable def run6 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) = 1#1) (hc7 : k0_cond7 (rowsAt i xt1) ≠ 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part21_eq_skeleton,k0_part22_eq_skeleton,k0_part23_eq_skeleton,k0_part24_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun7.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 384 < rows in use ≤ 448: the pieces its stores leave in the output, with the proof that it runs to them
    and leaves the inputs and the tables as they were. -/
noncomputable def run7 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) = 1#1) (hc8 : k0_cond8 (rowsAt i xt1) ≠ 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part25_eq_skeleton,k0_part26_eq_skeleton,k0_part27_eq_skeleton,k0_part28_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun8.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block with 448 < rows in use ≤ 512: the pieces its stores leave in the output, with the proof that it runs to them
    and leaves the inputs and the tables as they were. -/
noncomputable def run8 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) = 1#1) (hc9 : k0_cond9 (rowsAt i xt1) ≠ 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part29_eq_skeleton,k0_part30_eq_skeleton,k0_part31_eq_skeleton,k0_part32_eq_skeleton,k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIRun9.lean ====
/- The run of the gate/up body in one of its nine cases. -/
module

public import proofs.«01_k».proof.Proof.GuIKit

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- The body at a block without rows in use: the pieces its stores leave in the output, with the proof that it runs to them
    and leaves the inputs and the tables as they were. -/
noncomputable def run9 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1)
    (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) = 1#1) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } := by
  refine ⟨?_, fun E K => ?run⟩
  case run =>
    simp only [cc0_moe_gate_up_eq_skeleton]; unfold cc0_moe_gate_up_skel
    simp only [k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    iexact HT1

end Cert.KernelGuIdeal.Hand

end
-- ==== Proof.GuIFrame.lean ====
/- The nine cases of the gate/up body in one, what the output holds at each point, the body obligation, the launch and the frame. -/
module

public import proofs.«01_k».proof.Proof.GuIRun1
public import proofs.«01_k».proof.Proof.GuIRun2
public import proofs.«01_k».proof.Proof.GuIRun3
public import proofs.«01_k».proof.Proof.GuIRun4
public import proofs.«01_k».proof.Proof.GuIRun5
public import proofs.«01_k».proof.Proof.GuIRun6
public import proofs.«01_k».proof.Proof.GuIRun7
public import proofs.«01_k».proof.Proof.GuIRun8
public import proofs.«01_k».proof.Proof.GuIRun9
public import Idealize.ShloMosaic.Lib.Claim

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The nine cases in one -/

/-- Which conditions of the body hold when the number of rows in use is in range 1. -/
theorem conds1 : ∀ n : Fin 513, (0 < n.val ∧ n.val ≤ 64) → k0_cond1 (BitVec.ofNat 32 n.val) = 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds1 (w : BitVec 32) (hw : 0 < w.toNat ∧ w.toNat ≤ 64) : k0_cond1 w = 1#1 ∧ k0_cond2 w ≠ 1#1 ∧ k0_cond3 w ≠ 1#1 ∧ k0_cond4 w ≠ 1#1 ∧ k0_cond5 w ≠ 1#1 ∧ k0_cond6 w ≠ 1#1 ∧ k0_cond7 w ≠ 1#1 ∧ k0_cond8 w ≠ 1#1 ∧ k0_cond9 w ≠ 1#1 := by
  have h := conds1 ⟨w.toNat, by omega⟩ hw
  simpa only [BitVec.ofNat_toNat, BitVec.setWidth_eq] using h

/-- Which conditions of the body hold when the number of rows in use is in range 2. -/
theorem conds2 : ∀ n : Fin 513, (64 < n.val ∧ n.val ≤ 128) → k0_cond1 (BitVec.ofNat 32 n.val) ≠ 1#1 ∧ k0_cond2 (BitVec.ofNat 32 n.val) = 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds2 (w : BitVec 32) (hw : 64 < w.toNat ∧ w.toNat ≤ 128) : k0_cond1 w ≠ 1#1 ∧ k0_cond2 w = 1#1 ∧ k0_cond3 w ≠ 1#1 ∧ k0_cond4 w ≠ 1#1 ∧ k0_cond5 w ≠ 1#1 ∧ k0_cond6 w ≠ 1#1 ∧ k0_cond7 w ≠ 1#1 ∧ k0_cond8 w ≠ 1#1 ∧ k0_cond9 w ≠ 1#1 := by
  have h := conds2 ⟨w.toNat, by omega⟩ hw
  simpa only [BitVec.ofNat_toNat, BitVec.setWidth_eq] using h

/-- Which conditions of the body hold when the number of rows in use is in range 3. -/
theorem conds3 : ∀ n : Fin 513, (128 < n.val ∧ n.val ≤ 192) → k0_cond1 (BitVec.ofNat 32 n.val) ≠ 1#1 ∧ k0_cond2 (BitVec.ofNat 32 n.val) ≠ 1#1 ∧ k0_cond3 (BitVec.ofNat 32 n.val) = 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds3 (w : BitVec 32) (hw : 128 < w.toNat ∧ w.toNat ≤ 192) : k0_cond1 w ≠ 1#1 ∧ k0_cond2 w ≠ 1#1 ∧ k0_cond3 w = 1#1 ∧ k0_cond4 w ≠ 1#1 ∧ k0_cond5 w ≠ 1#1 ∧ k0_cond6 w ≠ 1#1 ∧ k0_cond7 w ≠ 1#1 ∧ k0_cond8 w ≠ 1#1 ∧ k0_cond9 w ≠ 1#1 := by
  have h := conds3 ⟨w.toNat, by omega⟩ hw
  simpa only [BitVec.ofNat_toNat, BitVec.setWidth_eq] using h

/-- Which conditions of the body hold when the number of rows in use is in range 4. -/
theorem conds4 : ∀ n : Fin 513, (192 < n.val ∧ n.val ≤ 256) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) = 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds4 (w : BitVec 32) (hw : 192 < w.toNat ∧ w.toNat ≤ 256) : k0_cond1 w ≠ 1#1 ∧ k0_cond2 w ≠ 1#1 ∧ k0_cond3 w ≠ 1#1 ∧ k0_cond4 w = 1#1 ∧ k0_cond5 w ≠ 1#1 ∧ k0_cond6 w ≠ 1#1 ∧ k0_cond7 w ≠ 1#1 ∧ k0_cond8 w ≠ 1#1 ∧ k0_cond9 w ≠ 1#1 := by
  have h := conds4 ⟨w.toNat, by omega⟩ hw
  simpa only [BitVec.ofNat_toNat, BitVec.setWidth_eq] using h

/-- Which conditions of the body hold when the number of rows in use is in range 5. -/
theorem conds5 : ∀ n : Fin 513, (256 < n.val ∧ n.val ≤ 320) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) = 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds5 (w : BitVec 32) (hw : 256 < w.toNat ∧ w.toNat ≤ 320) : k0_cond1 w ≠ 1#1 ∧ k0_cond2 w ≠ 1#1 ∧ k0_cond3 w ≠ 1#1 ∧ k0_cond4 w ≠ 1#1 ∧ k0_cond5 w = 1#1 ∧ k0_cond6 w ≠ 1#1 ∧ k0_cond7 w ≠ 1#1 ∧ k0_cond8 w ≠ 1#1 ∧ k0_cond9 w ≠ 1#1 := by
  have h := conds5 ⟨w.toNat, by omega⟩ hw
  simpa only [BitVec.ofNat_toNat, BitVec.setWidth_eq] using h

/-- Which conditions of the body hold when the number of rows in use is in range 6. -/
theorem conds6 : ∀ n : Fin 513, (320 < n.val ∧ n.val ≤ 384) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) = 1#1 ∧ k0_cond7 (BitVec.ofNat 32 n.val) ≠ 1#1 ∧ k0_cond8 (BitVec.ofNat 32 n.val) ≠ 1#1 ∧ k0_cond9 (BitVec.ofNat 32 n.val) ≠ 1#1 := by decide +kernel

/-- The same for the word itself. -/
theorem wconds6 (w : BitVec 32) (hw : 320 < w.toNat ∧ w.toNat ≤ 384) : k0_cond1 w ≠ 1#1 ∧ k0_cond2 w ≠ 1#1 ∧ k0_cond3 w ≠ 1#1 ∧ k0_cond4 w ≠ 1#1 ∧ k0_cond5 w ≠ 1#1 ∧ k0_cond6 w = 1#1 ∧ k0_cond7 w ≠ 1#1 ∧ k0_cond8 w ≠ 1#1 ∧ k0_cond9 w ≠ 1#1 := by
  have h := conds6 ⟨w.toNat, by omega⟩ hw
  simpa only [BitVec.ofNat_toNat, BitVec.setWidth_eq] using h

/-- Which conditions of the body hold when the number of rows in use is in range 7. -/
theorem conds7 : ∀ n : Fin 513, (384 < n.val ∧ n.val ≤ 448) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) = 1#1 ∧ k0_cond8 (BitVec.ofNat 32 n.val) ≠ 1#1 ∧ k0_cond9 (BitVec.ofNat 32 n.val) ≠ 1#1 := by decide +kernel

/-- The same for the word itself. -/
theorem wconds7 (w : BitVec 32) (hw : 384 < w.toNat ∧ w.toNat ≤ 448) : k0_cond1 w ≠ 1#1 ∧ k0_cond2 w ≠ 1#1 ∧ k0_cond3 w ≠ 1#1 ∧ k0_cond4 w ≠ 1#1 ∧ k0_cond5 w ≠ 1#1 ∧ k0_cond6 w ≠ 1#1 ∧ k0_cond7 w = 1#1 ∧ k0_cond8 w ≠ 1#1 ∧ k0_cond9 w ≠ 1#1 := by
  have h := conds7 ⟨w.toNat, by omega⟩ hw
  simpa only [BitVec.ofNat_toNat, BitVec.setWidth_eq] using h

/-- Which conditions of the body hold when the number of rows in use is in range 8. -/
theorem conds8 : ∀ n : Fin 513, (448 < n.val ∧ n.val ≤ 512) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) = 1#1 ∧ k0_cond9 (BitVec.ofNat 32 n.val) ≠ 1#1 := by decide +kernel

/-- The same for the word itself. -/
theorem wconds8 (w : BitVec 32) (hw : 448 < w.toNat ∧ w.toNat ≤ 512) : k0_cond1 w ≠ 1#1 ∧ k0_cond2 w ≠ 1#1 ∧ k0_cond3 w ≠ 1#1 ∧ k0_cond4 w ≠ 1#1 ∧ k0_cond5 w ≠ 1#1 ∧ k0_cond6 w ≠ 1#1 ∧ k0_cond7 w ≠ 1#1 ∧ k0_cond8 w = 1#1 ∧ k0_cond9 w ≠ 1#1 := by
  have h := conds8 ⟨w.toNat, by omega⟩ hw
  simpa only [BitVec.ofNat_toNat, BitVec.setWidth_eq] using h

/-- Which conditions of the body hold when the number of rows in use is in range 9. -/
theorem conds9 : ∀ n : Fin 513, (n.val = 0) → k0_cond1 (BitVec.ofNat 32 n.val) ≠ 1#1 ∧ k0_cond2 (BitVec.ofNat 32 n.val) ≠ 1#1 ∧ k0_cond3 (BitVec.ofNat 32 n.val) ≠ 1#1 ∧ k0_cond4 (BitVec.ofNat 32 n.val) ≠ 1#1 ∧ k0_cond5 (BitVec.ofNat 32 n.val) ≠ 1#1 ∧ k0_cond6 (BitVec.ofNat 32 n.val) ≠ 1#1 ∧ k0_cond7 (BitVec.ofNat 32 n.val) ≠ 1#1 ∧ k0_cond8 (BitVec.ofNat 32 n.val) ≠ 1#1 ∧ k0_cond9 (BitVec.ofNat 32 n.val) = 1#1 := by decide +kernel

/-- The same for the word itself. -/
theorem wconds9 (w : BitVec 32) (hw : w.toNat = 0) : k0_cond1 w ≠ 1#1 ∧ k0_cond2 w ≠ 1#1 ∧ k0_cond3 w ≠ 1#1 ∧ k0_cond4 w ≠ 1#1 ∧ k0_cond5 w ≠ 1#1 ∧ k0_cond6 w ≠ 1#1 ∧ k0_cond7 w ≠ 1#1 ∧ k0_cond8 w ≠ 1#1 ∧ k0_cond9 w = 1#1 := by
  have h := conds9 ⟨w.toNat, by omega⟩ hw
  simpa only [BitVec.ofNat_toNat, BitVec.setWidth_eq] using h

/-- The body at any block whose rows in use are at most 512: the case their number picks. -/
noncomputable def run (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hw : (rowsAt i xt1).toNat ≤ 512) :
    { L5 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1) -∗ K ⟨⟩))
          ⊢ wp frame (wpE (defs₀ (F := F)) Variants.none c none) E (cc0_moe_gate_up i tbM0_0 htbM0_0 tbM0_1 htbM0_1 arg4 harg4 arg5 harg5 arg6 harg6 arg7 harg7 arg8 harg8 arg9 harg9) K } :=
  if h0 : (rowsAt i xt1).toNat = 0 then
    have h := wconds9 (rowsAt i xt1) h0
    run9 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h1 : (rowsAt i xt1).toNat ≤ 64 then

    have h := wconds1 (rowsAt i xt1) (by omega)
    run1 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h2 : (rowsAt i xt1).toNat ≤ 128 then

    have h := wconds2 (rowsAt i xt1) (by omega)
    run2 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h3 : (rowsAt i xt1).toNat ≤ 192 then

    have h := wconds3 (rowsAt i xt1) (by omega)
    run3 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h4 : (rowsAt i xt1).toNat ≤ 256 then

    have h := wconds4 (rowsAt i xt1) (by omega)
    run4 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h5 : (rowsAt i xt1).toNat ≤ 320 then

    have h := wconds5 (rowsAt i xt1) (by omega)
    run5 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h6 : (rowsAt i xt1).toNat ≤ 384 then

    have h := wconds6 (rowsAt i xt1) (by omega)
    run6 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else if h7 : (rowsAt i xt1).toNat ≤ 448 then

    have h := wconds7 (rowsAt i xt1) (by omega)
    run7 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2
  else
    have h := wconds8 (rowsAt i xt1) (by omega)
    run8 c i arg4 harg4 arg5 harg5 arg6 harg6 arg7 harg7 arg8 harg8 arg9 harg9 x0 x1 x2 x3 x4 xt0 xt1 h.1 h.2.1 h.2.2.1 h.2.2.2.1 h.2.2.2.2.1 h.2.2.2.2.2.1 h.2.2.2.2.2.2.1 h.2.2.2.2.2.2.2.1 h.2.2.2.2.2.2.2.2

/-- In case 1 the stores cover the output's block. -/
theorem cover1 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) = 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run1 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run1 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 2 the stores cover the output's block. -/
theorem cover2 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) = 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run2 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run2 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 3 the stores cover the output's block. -/
theorem cover3 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) = 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run3 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run3 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 4 the stores cover the output's block. -/
theorem cover4 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) = 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run4 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run4 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 5 the stores cover the output's block. -/
theorem cover5 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) = 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run5 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run5 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 6 the stores cover the output's block. -/
theorem cover6 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) = 1#1) (hc7 : k0_cond7 (rowsAt i xt1) ≠ 1#1) (hc8 : k0_cond8 (rowsAt i xt1) ≠ 1#1) (hc9 : k0_cond9 (rowsAt i xt1) ≠ 1#1) (y : S512x1024.Idx) :
    ∃ pc ∈ (run6 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run6 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 7 the stores cover the output's block. -/
theorem cover7 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) = 1#1) (hc8 : k0_cond8 (rowsAt i xt1) ≠ 1#1) (hc9 : k0_cond9 (rowsAt i xt1) ≠ 1#1) (y : S512x1024.Idx) :
    ∃ pc ∈ (run7 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledBy (run7 c i arg4 harg4 arg5 harg5 arg6 harg6 arg7 harg7 arg8 harg8 arg9 harg9 x0 x1 x2 x3 x4 xt0 xt1 hc1 hc2 hc3 hc4 hc5 hc6 hc7 hc8 hc9).1 ![64, 1024] (by sl_kernel_rfl) y

/-- In case 8 the stores cover the output's block. -/
theorem cover8 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) = 1#1) (hc9 : k0_cond9 (rowsAt i xt1) ≠ 1#1) (y : S512x1024.Idx) :
    ∃ pc ∈ (run8 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledL (run8 c i arg4 harg4 arg5 harg5 arg6 harg6 arg7 harg7 arg8 harg8 arg9 harg9 x0 x1 x2 x3 x4 xt0 xt1 hc1 hc2 hc3 hc4 hc5 hc6 hc7 hc8 hc9).1 S512x1024.size (by sl_kernel_rfl) y

/-- In case 9 the stores cover the output's block. -/
theorem cover9 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) = 1#1) (y : S512x1024.Idx) :
    ∃ pc ∈ (run9 c i arg4 harg4 arg5 harg5 arg6 harg6 arg7 harg7 arg8 harg8 arg9 harg9 x0 x1 x2 x3 x4 xt0 xt1 hc1 hc2 hc3 hc4 hc5 hc6 hc7 hc8 hc9).1, y ∈ pc.1.set :=
  View.cover_of_tiledL (run9 c i arg4 harg4 arg5 harg5 arg6 harg6 arg7 harg7 arg8 harg8 arg9 harg9 x0 x1 x2 x3 x4 xt0 xt1 hc1 hc2 hc3 hc4 hc5 hc6 hc7 hc8 hc9).1 S512x1024.size (by sl_kernel_rfl) y

/-- The stores cover the output's block. -/
theorem cover0_5 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hw : (rowsAt i xt1).toNat ≤ 512) (y : S512x1024.Idx) :
    ∃ pc ∈ (run c i arg4 harg4 arg5 harg5 arg6 harg6 arg7 harg7 arg8 harg8 arg9 harg9 x0 x1 x2 x3 x4 xt0 xt1 hw).1, y ∈ pc.1.set := by
  unfold run
  split
  · exact cover9 c i arg4 harg4 arg5 harg5 arg6 harg6 arg7 harg7 arg8 harg8 arg9 harg9 x0 x1 x2 x3 x4 xt0 xt1 _ _ _ _ _ _ _ _ _ y
  split
  · exact cover1 c i arg4 harg4 arg5 harg5 arg6 harg6 arg7 harg7 arg8 harg8 arg9 harg9 x0 x1 x2 x3 x4 xt0 xt1 _ _ _ _ _ _ _ _ _ y
  split
  · exact cover2 c i arg4 harg4 arg5 harg5 arg6 harg6 arg7 harg7 arg8 harg8 arg9 harg9 x0 x1 x2 x3 x4 xt0 xt1 _ _ _ _ _ _ _ _ _ y
  split
  · exact cover3 c i arg4 harg4 arg5 harg5 arg6 harg6 arg7 harg7 arg8 harg8 arg9 harg9 x0 x1 x2 x3 x4 xt0 xt1 _ _ _ _ _ _ _ _ _ y
  split
  · exact cover4 c i arg4 harg4 arg5 harg5 arg6 harg6 arg7 harg7 arg8 harg8 arg9 harg9 x0 x1 x2 x3 x4 xt0 xt1 _ _ _ _ _ _ _ _ _ y
  split
  · exact cover5 c i arg4 harg4 arg5 harg5 arg6 harg6 arg7 harg7 arg8 harg8 arg9 harg9 x0 x1 x2 x3 x4 xt0 xt1 _ _ _ _ _ _ _ _ _ y
  split
  · exact cover6 c i arg4 harg4 arg5 harg5 arg6 harg6 arg7 harg7 arg8 harg8 arg9 harg9 x0 x1 x2 x3 x4 xt0 xt1 _ _ _ _ _ _ _ _ _ y
  split
  · exact cover7 c i arg4 harg4 arg5 harg5 arg6 harg6 arg7 harg7 arg8 harg8 arg9 harg9 x0 x1 x2 x3 x4 xt0 xt1 _ _ _ _ _ _ _ _ _ y
  exact cover8 c i arg4 harg4 arg5 harg5 arg6 harg6 arg7 harg7 arg8 harg8 arg9 harg9 x0 x1 x2 x3 x4 xt0 xt1 _ _ _ _ _ _ _ _ _ y

/-- At every point the rows in use are at most the block's 512. -/
abbrev Rows : Prop := ∀ i : grid0.Coords, (rowsAt (c := (0 : Dev nD)) i (tbl m 1)).toNat ≤ 512

/-- What the run leaves in output 5's staging buffer: its pieces read back over junk. -/
def out0_5 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec F S4096x128 .i32) (x1 : Vec F S1x2048x1024 .f32) (x2 : Vec F S1x2048x1024 .f32) (x3 : Vec F S1x1x1024 .f32) (x4 : Vec F S1x1x1024 .f32) (xt0 : TbBuf0 (F := F) c tbM0_0) (xt1 : TbBuf0 (F := F) c tbM0_1) (hw : (rowsAt i xt1).toNat ≤ 512) : Vec F S512x1024 .bf16 :=
  VO0_5.read (Elt F) (VO0_5.writes (Elt F) VO0_5.junk (run c i arg4 harg4 arg5 harg5 arg6 harg6 arg7 harg7 arg8 harg8 arg9 harg9 x0 x1 x2 x3 x4 xt0 xt1 hw).1)

/-! ## What the outputs hold after each point -/

/-- What the outputs' staging buffers hold after the body at point `t`: the run's contents at
    the point's memrefs and input blocks. -/
def outsAt0 (hO : Ok m) (hR : Rows m) (c : Dev nD) (t : Fin (cfgM m hO).N) : Vec F S512x1024 .bf16 :=
  out0_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (hR (grid0.coords t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hR : Rows m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hR c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hR : Rows m) (c : Dev nD) (w : Fin (cfgM m hO).W) : (dats m hO hR 0 c).A w = V m c (Pipeline.arrRef spec0 w) := by
  dsimp only [dats]

/-- What the body leaves, window by window (the proof data's `match` reduced by `dsimp`). -/
theorem after0_0 (hO : Ok m) (hR : Rows m) (c : Dev nD) (t : Fin (cfgM m hO).N) : (dats m hO hR 0 c).after 0 t = iblk m hO c 0 t := by dsimp only [dats]; try rfl
theorem after0_1 (hO : Ok m) (hR : Rows m) (c : Dev nD) (t : Fin (cfgM m hO).N) : (dats m hO hR 0 c).after 1 t = iblk m hO c 1 t := by dsimp only [dats]; try rfl
theorem after0_2 (hO : Ok m) (hR : Rows m) (c : Dev nD) (t : Fin (cfgM m hO).N) : (dats m hO hR 0 c).after 2 t = iblk m hO c 2 t := by dsimp only [dats]; try rfl
theorem after0_3 (hO : Ok m) (hR : Rows m) (c : Dev nD) (t : Fin (cfgM m hO).N) : (dats m hO hR 0 c).after 3 t = iblk m hO c 3 t := by dsimp only [dats]; try rfl
theorem after0_4 (hO : Ok m) (hR : Rows m) (c : Dev nD) (t : Fin (cfgM m hO).N) : (dats m hO hR 0 c).after 4 t = iblk m hO c 4 t := by dsimp only [dats]; try rfl
theorem after0_5 (hO : Ok m) (hR : Rows m) (c : Dev nD) (t : Fin (cfgM m hO).N) : (dats m hO hR 0 c).after 5 t = (outsAt0 m hO hR c t) := by dsimp only [dats]; try rfl

/-- Each input's current staging buffer holds its block at every point, fetched there or not (`beforeK_W_of`). -/
theorem before0_0 (hO : Ok m) (hR : Rows m) (c : Dev nD) (t : Fin (cfgM m hO).N) (d) : (dats m hO hR 0 c).before 0 t d = iblk m hO c 0 t :=
  before0_0_of m hO (dats m hO hR 0 c) (A_eq m hO hR c 0) (after0_0 m hO hR c) t d
theorem before0_1 (hO : Ok m) (hR : Rows m) (c : Dev nD) (t : Fin (cfgM m hO).N) (d) : (dats m hO hR 0 c).before 1 t d = iblk m hO c 1 t :=
  before0_1_of m hO (dats m hO hR 0 c) (A_eq m hO hR c 1) (after0_1 m hO hR c) t d
theorem before0_2 (hO : Ok m) (hR : Rows m) (c : Dev nD) (t : Fin (cfgM m hO).N) (d) : (dats m hO hR 0 c).before 2 t d = iblk m hO c 2 t :=
  before0_2_of m hO (dats m hO hR 0 c) (A_eq m hO hR c 2) (after0_2 m hO hR c) t d
theorem before0_3 (hO : Ok m) (hR : Rows m) (c : Dev nD) (t : Fin (cfgM m hO).N) (d) : (dats m hO hR 0 c).before 3 t d = iblk m hO c 3 t :=
  before0_3_of m hO (dats m hO hR 0 c) (A_eq m hO hR c 3) (after0_3 m hO hR c) t d
theorem before0_4 (hO : Ok m) (hR : Rows m) (c : Dev nD) (t : Fin (cfgM m hO).N) (d) : (dats m hO hR 0 c).before 4 t d = iblk m hO c 4 t :=
  before0_4_of m hO (dats m hO hR 0 c) (A_eq m hO hR c 4) (after0_4 m hO hR c) t d

/-! ## The body obligation, at a generic point -/

/-- What the body is called with at point `t` (Lib/Pipeline.lean `BodyObligation`'s precondition, the windows one by one), -/
def bodyPre (hO : Ok m) (hR : Rows m) (c : Dev nD) (t : Fin (cfgM m hO).N) : sProp 𝕄 :=
  iprop((dats m hO hR 0 c).Φ t.castSucc ∗ (dats m hO hR 0 c).owesAt () t.castSucc
    ∗ (∃ d, owns (c : Thread nD τ) (ms0_0 m hO t) fullShare ((dats m hO hR 0 c).before 0 t d))
    ∗ (∃ d, owns (c : Thread nD τ) (ms0_1 m hO t) fullShare ((dats m hO hR 0 c).before 1 t d))
    ∗ (∃ d, owns (c : Thread nD τ) (ms0_2 m hO t) fullShare ((dats m hO hR 0 c).before 2 t d))
    ∗ (∃ d, owns (c : Thread nD τ) (ms0_3 m hO t) fullShare ((dats m hO hR 0 c).before 3 t d))
    ∗ (∃ d, owns (c : Thread nD τ) (ms0_4 m hO t) fullShare ((dats m hO hR 0 c).before 4 t d))
    ∗ (∃ d, owns (c : Thread nD τ) (ms0_5 m hO t) fullShare ((dats m hO hR 0 c).before 5 t d)))

/-- and what it returns. -/
def bodyPost (hO : Ok m) (hR : Rows m) (c : Dev nD) (t : Fin (cfgM m hO).N) : sProp 𝕄 :=
  iprop((dats m hO hR 0 c).Φ t.succ ∗ (dats m hO hR 0 c).owesAt () t.succ
    ∗ owns (c : Thread nD τ) (ms0_0 m hO t) fullShare ((dats m hO hR 0 c).after 0 t)
    ∗ owns (c : Thread nD τ) (ms0_1 m hO t) fullShare ((dats m hO hR 0 c).after 1 t)
    ∗ owns (c : Thread nD τ) (ms0_2 m hO t) fullShare ((dats m hO hR 0 c).after 2 t)
    ∗ owns (c : Thread nD τ) (ms0_3 m hO t) fullShare ((dats m hO hR 0 c).after 3 t)
    ∗ owns (c : Thread nD τ) (ms0_4 m hO t) fullShare ((dats m hO hR 0 c).after 4 t)
    ∗ owns (c : Thread nD τ) (ms0_5 m hO t) fullShare ((dats m hO hR 0 c).after 5 t))

/-- The body at any point: the inputs' memrefs hold their blocks (`before0_W`); so the
    run applies; the invariant passes through unread; the core owes nothing throughout. -/
theorem sound_body (hO : Ok m) (hR : Rows m) (c : Dev nD) (t : Fin (cfgM m hO).N) :
    bodyPre m hO hR c t ⊢ wp frame (wpE (defs₀ (F := F)) Variants.none c none) Set.univ (bodyAt0 (adm m hO) t) (fun _ => bodyPost m hO hR c t) := by
  unfold bodyPre bodyPost bodyAt0
  simp only [before0_0, before0_1, before0_2, before0_3, before0_4]
  rw [show (dats m hO hR 0 c).Φ t.succ = (dats m hO hR 0 c).Φ t.castSucc from rfl,
    show (dats m hO hR 0 c).owesAt () t.succ = (dats m hO hR 0 c).owesAt () t.castSucc from rfl,
    after0_0, after0_1, after0_2, after0_3, after0_4, after0_5]
  rw [show (dats m hO hR 0 c).Φ t.castSucc = iprop(Pipeline.ΦA spec0 c ∗ Pipeline.ΦT pre0 (tbl m) c) from rfl, PhiT0_eq]
  unfold outsAt0
  unfold out0_5
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((run c (grid0.coords t) _ _ _ _ _ _ _ _ _ _ _ _ (iblk m hO c 0 t) (iblk m hO c 1 t) (iblk m hO c 2 t) (iblk m hO c 3 t) (iblk m hO c 4 t) (tbl m 0) (tbl m 1) (hR (grid0.coords t))).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, ⟨%e5, H5⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _)

attribute [irreducible] outsAt0

/-- The body table's row at point `t`'s slots is the body as `bodyAt0` spells it. -/
theorem defs₀_row (hO : Ok m) (hR : Rows m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 1000000 in
/-- The library's body obligation, at every point: the body's triple restated (Lib/Pipeline/FrameBody.lean `triple_restated`). -/
theorem body_obligation (hO : Ok m) (hR : Rows m) (c : Dev nD) : BodyObligation (dats (F := F) m hO hR 0 c) (defs₀ (F := F)) Variants.none () Set.univ := fun t => by
  rw [bigSep_W0, bigSep_W0, defs₀_row m hO hR]
  refine triple_restated (sound_body m hO hR c t) rfl .rfl fun _ => ?_
  unfold bodyPost
  rw [show ((cfgM m hO).win (5 : Fin 6)).flush t = true from flush0_5 (adm m hO) t]
  generalize (cfgM m hO).idle (5 : Fin 6) ((cfgM m hO).grid.coords t) = b
  cases b <;> exact .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hR : Rows m) : θ_run defs (onTc (τ := τ) (main (F := F))) (s₀ m ρ) (fun r => (Pipeline.FramePost (Pipeline.pin pcfgs fun _ => adm m hO) (dats m hO hR) 0 (V m)) r ∧ r.2.sem = fun _ => 0) :=
  Pipeline.θ_run_frameP_shared (Q' := _) pcfgs (fun _ => adm m hO) (dats m hO hR) (0 : Fin 1) launch₀0 defs₀ Variants.none m ρ main
    (hbody := fun c => (body_obligation m hO hR c).loose) (hq := fun _ _ _ => rfl)
    (howed := fun _ _ => rfl) (V := V m) (hmain := hmain m Variants.none) (hA := A_eq m hO hR) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hR : Rows m) : θ_run defs (onTc (τ := τ) (main (F := F))) (s₀ m ρ) (Pipeline.FramePost (Pipeline.pin pcfgs fun _ => adm m hO) (dats m hO hR) 0 (V m)) :=
  (θ_run defs _ _).mono (fun _ h => h.1) (run_main_quiescent m ρ hO hR)

/-- `frame` without the counters: the argument arrays end unchanged. -/
theorem unchanged (hO : Ok m) (hR : Rows m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO hR) (A_eq m hO hR) (run_main m ρ hO hR)

/-- THE FRAME at any contents of the tables whose blocks lie inside the arrays and whose rows in use are at most 512. -/
theorem frame (hO : Ok m) (hR : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hR) ((θ_run defs _ _).mono (fun _ h => h.2) (run_main_quiescent m ρ hO hR))

end Cert.KernelGuIdeal.Hand

end
-- ==== Proof.GuIOk.lean ====
/- The side conditions of the gate/up call from the words of its tables. -/
module

public import proofs.«01_k».proof.Proof.GuIFrame

@[expose] public section

set_option maxRecDepth 16384

noncomputable section

namespace Cert.KernelGuIdeal.Hand

open Cert.KernelGuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A table's word at any place, from the words of the launch's argument. -/
theorem tbl_zero (j : S160.Idx) : (tbl m 0 : S160.Idx → BitVec 32) j = (m (((0 : Dev nD) : Thread nD τ).loc main_arg0) : S160.Idx → BitVec 32) j :=
  congrFun (V_main_arg0 m 0) j

/-- The same for the second table. -/
theorem tbl_one (j : S160.Idx) : (tbl m 1 : S160.Idx → BitVec 32) j = (m (((0 : Dev nD) : Thread nD τ).loc main_arg1) : S160.Idx → BitVec 32) j :=
  congrFun (V_main_arg1 m 0) j

/-- Tables whose experts are below 32 have every block inside the weights and the biases. -/
theorem ok_of (h : ∀ j : S160.Idx, ((m (((0 : Dev nD) : Thread nD τ).loc main_arg0) : S160.Idx → BitVec 32) j).toNat < 32) : Ok m := by
  have hb : ∀ j : S160.Idx, ((tbl m 0 : S160.Idx → BitVec 32) j).toNat < 32 := fun j => by rw [tbl_zero]; exact h j
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ =>
      have := hb ((Rect.unit (s := S160) (k0_off1 i) S1.size (k0_off1_inb i)).emb (Shape.Idx.first (numel1_S1.symm ▸ Nat.one_pos)))
      exact (Nat.mul_one _).le.trans this
    | ⟨1, _⟩ => exact (by decide : (0 + 1) * 2048 ≤ 2048)
    | ⟨2, _⟩ => exact (by decide : ∀ n : Fin 2, ((BitVec.ofNat 32 n.val).toNat + 1) * 1024 ≤ 4096) (i 0)
  · match a with
    | ⟨0, _⟩ =>
      have := hb ((Rect.unit (s := S160) (k0_off1 i) S1.size (k0_off1_inb i)).emb (Shape.Idx.first (numel1_S1.symm ▸ Nat.one_pos)))
      exact (Nat.mul_one _).le.trans this
    | ⟨1, _⟩ => exact (by decide : (0 + 1) * 2048 ≤ 2048)
    | ⟨2, _⟩ => exact (by decide : ∀ n : Fin 2, ((2#32 + BitVec.ofNat 32 n.val).toNat + 1) * 1024 ≤ 4096) (i 0)
  · match a with
    | ⟨0, _⟩ =>
      have := hb ((Rect.unit (s := S160) (k0_off1 i) S1.size (k0_off1_inb i)).emb (Shape.Idx.first (numel1_S1.symm ▸ Nat.one_pos)))
      exact (Nat.mul_one _).le.trans this
    | ⟨1, _⟩ => exact (by decide : (0 + 1) * 1 ≤ 1)
    | ⟨2, _⟩ => exact (by decide : ∀ n : Fin 2, ((BitVec.ofNat 32 n.val).toNat + 1) * 1024 ≤ 4096) (i 0)
  · match a with
    | ⟨0, _⟩ =>
      have := hb ((Rect.unit (s := S160) (k0_off1 i) S1.size (k0_off1_inb i)).emb (Shape.Idx.first (numel1_S1.symm ▸ Nat.one_pos)))
      exact (Nat.mul_one _).le.trans this
    | ⟨1, _⟩ => exact (by decide : (0 + 1) * 1 ≤ 1)
    | ⟨2, _⟩ => exact (by decide : ∀ n : Fin 2, ((2#32 + BitVec.ofNat 32 n.val).toNat + 1) * 1024 ≤ 4096) (i 0)

/-- Rows in use at most 512 in the launch's argument are so at every point. -/
theorem rows_of (h : ∀ j : S160.Idx, ((m (((0 : Dev nD) : Thread nD τ).loc main_arg1) : S160.Idx → BitVec 32) j).toNat ≤ 512) : Rows m := fun i => by
  have hb : ∀ j : S160.Idx, ((tbl m 1 : S160.Idx → BitVec 32) j).toNat ≤ 512 := fun j => by rw [tbl_one]; exact h j
  exact hb _

end Cert.KernelGuIdeal.Hand

end
-- ==== Proof.GuVal.lean ====
/- The activation of one row of the gate/up call as a value, and the small facts its blocks are read with. -/
module
public import proofs.«01_k».proof.Proof.GuIOk
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The activation: the up value clipped to [-7, 7] plus one, times the gate value clipped above at 7 times the logistic of 1.702 times it. -/
def swi (g u : EReal) : EReal :=
  (min (Ideal.ofBits .f32 1088421888#32) (max (Ideal.ofBits .f32 3235905536#32) u) + 1)
    * (min g (Ideal.ofBits .f32 1088421888#32) * Ideal.div 1 (1 + Ideal.exp (0 - Ideal.ofBits .f32 1071242019#32 * min g (Ideal.ofBits .f32 1088421888#32))))

/-- The row's value `k`: the low half of word `k` before 1024, the high half of word `k - 1024` after. -/
def xval (w : Fin 1024 → BitVec 32) (k : Fin 2048) : EReal :=
  if h : k.val < 1024 then Ideal.ofBits .f32 (IntOp.shli ArithUnit.vector (w ⟨k.val, h⟩) 16#32)
  else Ideal.ofBits .f32 (IntOp.andi (w ⟨k.val - 1024, by omega⟩) 4294901760#32)

/-- A sum over 2048 is the sum over its eight parts of 256, each taken in turn. -/
theorem sum_parts (g : Fin 2048 → EReal) : ∑ k, g k = ∑ c : Fin 8, ∑ x : Fin 256, g ⟨256 * c.val + x.val, by omega⟩ := by
  have e := (Equiv.sum_comp (finProdFinEquiv (m := 8) (n := 256)) (fun k : Fin (8 * 256) => g k)).symm
  rw [Fintype.sum_prod_type] at e
  refine e.trans (Finset.sum_congr rfl fun c _ => Finset.sum_congr rfl fun x _ => congrArg g (Fin.ext ?_))
  show x.val + 256 * c.val = 256 * c.val + x.val
  omega

/-- The eight partial sums added one after another are the sum over 2048. -/
theorem sum_eight (g : Fin 2048 → EReal) {s0 s1 s2 s3 s4 s5 s6 s7 : EReal}
    (h0 : s0 = ∑ x : Fin 256, g ⟨256 * 0 + x.val, by omega⟩) (h1 : s1 = ∑ x : Fin 256, g ⟨256 * 1 + x.val, by omega⟩) (h2 : s2 = ∑ x : Fin 256, g ⟨256 * 2 + x.val, by omega⟩) (h3 : s3 = ∑ x : Fin 256, g ⟨256 * 3 + x.val, by omega⟩) (h4 : s4 = ∑ x : Fin 256, g ⟨256 * 4 + x.val, by omega⟩) (h5 : s5 = ∑ x : Fin 256, g ⟨256 * 5 + x.val, by omega⟩) (h6 : s6 = ∑ x : Fin 256, g ⟨256 * 6 + x.val, by omega⟩) (h7 : s7 = ∑ x : Fin 256, g ⟨256 * 7 + x.val, by omega⟩) :
    s0 + s1 + s2 + s3 + s4 + s5 + s6 + s7 = ∑ k, g k := by
  rw [sum_parts, Fin.sum_univ_eight, h0, h1, h2, h3, h4, h5, h6, h7]
  rfl

/-- The words of row `R` of a block of packed words: word `c` lies in line `8 R + c / 128`. -/
def wordsB (x0 : Vec Ideal S4096x128 .i32) (R : Fin 512) (c : Fin 1024) : BitVec 32 :=
  x0 (ix2 (⟨8 * R.val + c.val / 128, by omega⟩ : Fin 4096) (⟨c.val % 128, by omega⟩ : Fin 128))

/-- Row `R`, column `d` of the call's block, with every row in use: the activation of the row's values against the block's weights and biases. -/
def actB (x0 : Vec Ideal S4096x128 .i32) (x1 x2 : Vec Ideal S1x2048x1024 .f32) (x3 x4 : Vec Ideal S1x1x1024 .f32) (R : Fin 512) (d : Fin 1024) : EReal :=
  swi ((∑ k : Fin 2048, xval (wordsB x0 R) k * x1 (ix3 (0 : Fin 1) k d)) + x3 (ix3 (0 : Fin 1) (0 : Fin 1) d))
    ((∑ k : Fin 2048, xval (wordsB x0 R) k * x2 (ix3 (0 : Fin 1) k d)) + x4 (ix3 (0 : Fin 1) (0 : Fin 1) d))

/-- The eight lines of a row, read one line after another, give the row's words. -/
theorem pick8 {n : ℕ} (r : Fin n) (v0 v1 v2 v3 v4 v5 v6 v7 : (⟨2, ![n, 128]⟩ : Shape).Idx → BitVec 32) (w : Fin 1024 → BitVec 32)
    (h0 : ∀ l : Fin 128, v0 (ix2 r l) = w ⟨128 * 0 + l.val, by omega⟩) (h1 : ∀ l : Fin 128, v1 (ix2 r l) = w ⟨128 * 1 + l.val, by omega⟩) (h2 : ∀ l : Fin 128, v2 (ix2 r l) = w ⟨128 * 2 + l.val, by omega⟩) (h3 : ∀ l : Fin 128, v3 (ix2 r l) = w ⟨128 * 3 + l.val, by omega⟩) (h4 : ∀ l : Fin 128, v4 (ix2 r l) = w ⟨128 * 4 + l.val, by omega⟩) (h5 : ∀ l : Fin 128, v5 (ix2 r l) = w ⟨128 * 5 + l.val, by omega⟩) (h6 : ∀ l : Fin 128, v6 (ix2 r l) = w ⟨128 * 6 + l.val, by omega⟩) (h7 : ∀ l : Fin 128, v7 (ix2 r l) = w ⟨128 * 7 + l.val, by omega⟩)
    (c : ℕ) (hc : c < 1024) :
    (if h0 : c < 128 then v0 (ix2 r (⟨c, h0⟩ : Fin 128)) else (if h1 : c - 128 < 128 then v1 (ix2 r (⟨c - 128, h1⟩ : Fin 128)) else (if h2 : c - 128 - 128 < 128 then v2 (ix2 r (⟨c - 128 - 128, h2⟩ : Fin 128)) else (if h3 : c - 128 - 128 - 128 < 128 then v3 (ix2 r (⟨c - 128 - 128 - 128, h3⟩ : Fin 128)) else (if h4 : c - 128 - 128 - 128 - 128 < 128 then v4 (ix2 r (⟨c - 128 - 128 - 128 - 128, h4⟩ : Fin 128)) else (if h5 : c - 128 - 128 - 128 - 128 - 128 < 128 then v5 (ix2 r (⟨c - 128 - 128 - 128 - 128 - 128, h5⟩ : Fin 128)) else (if h6 : c - 128 - 128 - 128 - 128 - 128 - 128 < 128 then v6 (ix2 r (⟨c - 128 - 128 - 128 - 128 - 128 - 128, h6⟩ : Fin 128)) else (v7 (ix2 r (⟨c - 128 - 128 - 128 - 128 - 128 - 128 - 128, by omega⟩ : Fin 128)))))))))) = w ⟨c, hc⟩ := by
  split_ifs
  · rw [h0]; exact congrArg w (Fin.ext (by simp only []; omega))
  · rw [h1]; exact congrArg w (Fin.ext (by simp only []; omega))
  · rw [h2]; exact congrArg w (Fin.ext (by simp only []; omega))
  · rw [h3]; exact congrArg w (Fin.ext (by simp only []; omega))
  · rw [h4]; exact congrArg w (Fin.ext (by simp only []; omega))
  · rw [h5]; exact congrArg w (Fin.ext (by simp only []; omega))
  · rw [h6]; exact congrArg w (Fin.ext (by simp only []; omega))
  · rw [h7]; exact congrArg w (Fin.ext (by simp only []; omega))

/-- A load of every eighth line of a block of words, through a whole view, reads those lines. -/
theorem strided {sp : Space} (v : Memref sig .tc sp S4096x128 .i32) (hv : v.IsWhole) (x0 : Vec Ideal S4096x128 .i32) (R s : ℕ) (q : ℕ) (hs : s < 8) (hR : q + R ≤ 512)
    (inb : ∀ a, (![R, 128] : Fin 2 → ℕ) a = 0 ∨ (![8 * q + s, 0] : Fin 2 → ℕ) a + (![8, 1] : Fin 2 → ℕ) a * ((![R, 128] : Fin 2 → ℕ) a - 1) < S4096x128.size a)
    (r : Fin R) (l : Fin 128) :
    View.readAt (Elt Ideal) v.view (⟨![8 * q + s, 0], ![R, 128], ![8, 1], inb⟩ : LoadRect S4096x128) (hv.unread x0) (ix2 r l)
      = wordsB x0 ⟨q + r.val, by omega⟩ ⟨128 * s + l.val, by omega⟩ := by
  rw [View.readAt_apply, hv.read_unread]
  refine congrArg x0 (funext fun a => Fin.ext ?_)
  fin_cases a
  · show 8 * q + s + 8 * r.val = 8 * (q + r.val) + (128 * s + l.val) / 128
    omega
  · show 0 + 1 * l.val = (128 * s + l.val) % 128
    omega

/-- A chunk of 256 lines of a weight block reads those lines. -/
theorem ldW (x : Vec Ideal S1x2048x1024 .f32) (o : ℕ) (inb) (k : Fin 256) (d : Fin 1024) (ho : o + k.val < 2048) :
    View.ld x (Rect.unit (s := S1x2048x1024) ![0, o, 0] ![1, 256, 1024] inb) (ix3 (0 : Fin 1) k d) = x (ix3 (0 : Fin 1) (⟨o + k.val, ho⟩ : Fin 2048) d) := by
  refine View.ld_unit_apply_of x _ _ inb _ _ fun b => ?_
  fin_cases b
  · rfl
  · rfl
  · show d.val = 0 + d.val
    omega

/-- The block the call leaves when `q` of its eight parts of 64 rows are in use: zeros in front, the activation behind. -/
def tgt (q : ℕ) (x0 : Vec Ideal S4096x128 .i32) (x1 x2 : Vec Ideal S1x2048x1024 .f32) (x3 x4 : Vec Ideal S1x1x1024 .f32) (y : S512x1024.Idx) : EReal :=
  if (y 0).val < 512 - 64 * q then 0 else actB x0 x1 x2 x3 x4 (y 0) (y 1)

/-- The block at an index given by its row and column. -/
theorem tgt_at (q : ℕ) (x0 : Vec Ideal S4096x128 .i32) (x1 x2 : Vec Ideal S1x2048x1024 .f32) (x3 x4 : Vec Ideal S1x1x1024 .f32) (o n : ℕ) (hn : o + n ≤ 512)
    (h) (r : Fin n) (d : Fin 1024) :
    tgt q x0 x1 x2 x3 x4 ((Rect.unit (s := S512x1024) ![o, 0] ![n, 1024] h).emb (ix2 r d))
      = if o + r.val < 512 - 64 * q then 0 else actB x0 x1 x2 x3 x4 ⟨o + r.val, by omega⟩ d := by
  have e : (Rect.unit (s := S512x1024) ![o, 0] ![n, 1024] h).emb (ix2 r d) = (ix2 (⟨o + r.val, by omega⟩ : Fin 512) d : S512x1024.Idx) := by
    refine funext fun a => Fin.ext ?_
    fin_cases a
    · exact Rect.idx_unit_val _ _ h (ix2 r d) 0
    · exact (Rect.idx_unit_val _ _ h (ix2 r d) 1).trans (Nat.zero_add _)
  rw [e]
  rfl

/-- A block stored in two pieces, zeros in front and the activation behind, is that block. -/
theorem canon_two (q : ℕ) (x0 : Vec Ideal S4096x128 .i32) (x1 x2 : Vec Ideal S1x2048x1024 .f32) (x3 x4 : Vec Ideal S1x1x1024 .f32) (f n : ℕ) (hf : f = 512 - 64 * q) (hn : f + n = 512)
    (hA) (hB) (wA : (Rect.unit (s := S512x1024) ![0, 0] ![f, 1024] hA).shape.Idx → Elt Ideal .bf16) (wB : (Rect.unit (s := S512x1024) ![f, 0] ![n, 1024] hB).shape.Idx → Elt Ideal .bf16)
    (tA : ∀ (r : Fin f) (d : Fin 1024), wA (ix2 r d) = (0 : EReal))
    (tB : ∀ (r : Fin n) (d : Fin 1024), wB (ix2 r d) = actB x0 x1 x2 x3 x4 ⟨f + r.val, by omega⟩ d) (y : S512x1024.Idx) :
    View.canon (Val := Elt Ideal) (e := .bf16) [⟨Rect.unit (s := S512x1024) ![0, 0] ![f, 1024] hA, wA⟩, ⟨Rect.unit (s := S512x1024) ![f, 0] ![n, 1024] hB, wB⟩] y = tgt q x0 x1 x2 x3 x4 y := by
  have h0 : (y 0).val < 512 := (y 0).isLt
  have h1 : (y 1).val < 1024 := (y 1).isLt
  refine View.canon_apply_of_pieces (Val := Elt Ideal) (e := .bf16) (tgt q x0 x1 x2 x3 x4) _ ?_ y ?_
  · refine List.forall_mem_cons.mpr ⟨fun z => ?_, List.forall_mem_cons.mpr ⟨fun z => ?_, fun _ h => absurd h List.not_mem_nil⟩⟩
    · obtain ⟨r, d, rfl⟩ : ∃ (r : Fin f) (d : Fin 1024), z = ix2 r d := ⟨z 0, z 1, funext fun b => by fin_cases b <;> rfl⟩
      refine Eq.trans (tA r d) (Eq.symm ((tgt_at q x0 x1 x2 x3 x4 0 f (by omega) hA r d).trans ?_))
      rw [if_pos (by omega)]
    · obtain ⟨r, d, rfl⟩ : ∃ (r : Fin n) (d : Fin 1024), z = ix2 r d := ⟨z 0, z 1, funext fun b => by fin_cases b <;> rfl⟩
      refine Eq.trans (tB r d) (Eq.symm ((tgt_at q x0 x1 x2 x3 x4 f n (by omega) hB r d).trans ?_))
      rw [if_neg (by omega)]
  · by_cases h : (y 0).val < f
    · refine ⟨_, List.mem_cons_self, (Rect.mem_set_unit (inb := hA)).mpr fun a => ?_⟩
      fin_cases a
      · exact ⟨Nat.zero_le _, by show (y 0).val < 0 + f; omega⟩
      · exact ⟨Nat.zero_le _, by show (y 1).val < 0 + 1024; omega⟩
    · refine ⟨_, List.mem_cons_of_mem _ List.mem_cons_self, (Rect.mem_set_unit (inb := hB)).mpr fun a => ?_⟩
      fin_cases a
      · exact ⟨by show f ≤ (y 0).val; omega, by show (y 0).val < f + n; omega⟩
      · exact ⟨Nat.zero_le _, by show (y 1).val < 0 + 1024; omega⟩

/-- A block stored in one piece that is the activation is that block with all its parts in use. -/
theorem canon_one (x0 : Vec Ideal S4096x128 .i32) (x1 x2 : Vec Ideal S1x2048x1024 .f32) (x3 x4 : Vec Ideal S1x1x1024 .f32)
    (hB) (wB : (Rect.unit (s := S512x1024) ![0, 0] ![512, 1024] hB).shape.Idx → Elt Ideal .bf16)
    (tB : ∀ (r : Fin 512) (d : Fin 1024), wB (ix2 r d) = actB x0 x1 x2 x3 x4 ⟨0 + r.val, by omega⟩ d) (y : S512x1024.Idx) :
    View.canon (Val := Elt Ideal) (e := .bf16) [⟨Rect.unit (s := S512x1024) ![0, 0] ![512, 1024] hB, wB⟩] y = tgt 8 x0 x1 x2 x3 x4 y := by
  have h0 : (y 0).val < 512 := (y 0).isLt
  have h1 : (y 1).val < 1024 := (y 1).isLt
  refine View.canon_apply_of_pieces (Val := Elt Ideal) (e := .bf16) (tgt 8 x0 x1 x2 x3 x4) _ ?_ y ?_
  · refine List.forall_mem_cons.mpr ⟨fun z => ?_, fun _ h => absurd h List.not_mem_nil⟩
    obtain ⟨r, d, rfl⟩ : ∃ (r : Fin 512) (d : Fin 1024), z = ix2 r d := ⟨z 0, z 1, funext fun b => by fin_cases b <;> rfl⟩
    refine Eq.trans (tB r d) (Eq.symm ((tgt_at 8 x0 x1 x2 x3 x4 0 512 (by omega) hB r d).trans ?_))
    rw [if_neg (by omega)]
  · refine ⟨_, List.mem_cons_self, (Rect.mem_set_unit (inb := hB)).mpr fun a => ?_⟩
    fin_cases a
    · exact ⟨Nat.zero_le _, by show (y 0).val < 0 + 512; omega⟩
    · exact ⟨Nat.zero_le _, by show (y 1).val < 0 + 1024; omega⟩

/-- Part `s` of the weights: its line `x` is line `256 s + x` of the column. -/
def Part (wg : Vec Ideal S1x256x1024 .f32) (d : Fin 1024) (G : Fin 2048 → EReal) (s : ℕ) (hs : s < 8) : Prop :=
  ∀ x : Fin 256, wg (ix3 (0 : Fin 1) x d) = G ⟨256 * s + x.val, by omega⟩

/-- A chunk of 256 lines loaded from a weight block is that part of its column. -/
theorem ldPart (x : Vec Ideal S1x2048x1024 .f32) (o s : ℕ) (hs : s < 8) (ho : o = 256 * s) (inb) (d : Fin 1024) :
    Part (View.ld x (Rect.unit (s := S1x2048x1024) ![0, o, 0] ![1, 256, 1024] inb)) d (fun k => x (ix3 (0 : Fin 1) k d)) s hs := by
  subst ho
  exact fun k => ldW x (256 * s) inb k d (by omega)
end Cert.Gu
end
-- ==== Proof.GuV1.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x1 (r : Fin 64) (v0 v1 v2 v3 v4 v5 v6 v7 : Vec Ideal S64x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay3 (F := Ideal) v0 v1 v2 v3 v4 v5 v6 v7 (ix2 r k) = xval w k := by
  pointwise [k0_pay3]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored1 (r : Fin 64) (d : Fin 1024) (v0 v1 v2 v3 v4 v5 v6 v7 : Vec Ideal S64x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay18 (F := Ideal) (k0_pay9 (F := Ideal) v0 v1 v2 v3 v4 v5 v6 v7) (k0_pay10 (F := Ideal) v0 v1 v2 v3 v4 v5 v6 v7) (k0_pay11 (F := Ideal) v0 v1 v2 v3 v4 v5 v6 v7) (k0_pay15 (F := Ideal) (k0_pay11 (F := Ideal) v0 v1 v2 v3 v4 v5 v6 v7) (k0_pay13 (F := Ideal) (k0_pay5 (F := Ideal) v0 v1 v2 v3 v4 v5 v6 v7) (k0_pay6 (F := Ideal) v0 v1 v2 v3 v4 v5 v6 v7) (k0_pay7 (F := Ideal) v0 v1 v2 v3 v4 v5 v6 v7) (k0_pay8 (F := Ideal) v0 v1 v2 v3 v4 v5 v6 v7) (k0_pay9 (F := Ideal) v0 v1 v2 v3 v4 v5 v6 v7) (k0_pay10 (F := Ideal) v0 v1 v2 v3 v4 v5 v6 v7) (k0_pay12 (F := Ideal) v0 v1 v2 v3 v4 v5 v6 v7 wg0) wg1 wg2 wg3 wg4 wg5 wg6) (k0_pay14 (F := Ideal) wg7) (constant (F := Ideal) S64x1024 .f32 0x00000000#32) bg) (k0_pay16 (F := Ideal) (k0_pay4 (F := Ideal) v0 v1 v2 v3 v4 v5 v6 v7) (k0_pay5 (F := Ideal) v0 v1 v2 v3 v4 v5 v6 v7) (k0_pay6 (F := Ideal) v0 v1 v2 v3 v4 v5 v6 v7) (k0_pay7 (F := Ideal) v0 v1 v2 v3 v4 v5 v6 v7) (k0_pay8 (F := Ideal) v0 v1 v2 v3 v4 v5 v6 v7) wu0 wu1 wu2 wu3 wu4) (k0_pay17 (F := Ideal) wu5) (constant (F := Ideal) S64x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay4, k0_pay5, k0_pay6, k0_pay7, k0_pay8, k0_pay9, k0_pay10, k0_pay11, k0_pay12, k0_pay13, k0_pay14, k0_pay15, k0_pay16, k0_pay17, k0_pay18]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x1 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x1 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x1 r v0 v1 v2 v3 v4 v5 v6 v7 w hv0 hv1 hv2 hv3 hv4 hv5 hv6 hv7 _).trans (congrArg (xval w) (Fin.ext (by rfl)))) (hu7 x))

/-- The rows not in use get zeros. -/
theorem zero1 (r : Fin 448) (d : Fin 1024) (c : EReal) (hc : c = 0) : k0_pay131 (F := Ideal) c (ix2 r d) = (0 : EReal) := hc

set_option maxHeartbeats 1000000 in
/-- With 1 part(s) of 64 rows in use the body leaves zeros in the first 448 rows and the activation in the others. -/
theorem read1 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) = 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run1 c i arg4 harg4 arg5 harg5 arg6 harg6 arg7 harg7 arg8 harg8 arg9 harg9 x0 x1 x2 x3 x4 xt0 xt1 hc1 hc2 hc3 hc4 hc5 hc6 hc7 hc8 hc9).1) y = tgt 1 x0 x1 x2 x3 x4 y := by
  rw [View.read_writes_eq_canon _ _ _ (cover1 c i arg4 harg4 arg5 harg5 arg6 harg6 arg7 harg7 arg8 harg8 arg9 harg9 x0 x1 x2 x3 x4 xt0 xt1 hc1 hc2 hc3 hc4 hc5 hc6 hc7 hc8 hc9)]
  unfold run1
  dsimp only
  sl_unfold_words
  simp only [View.readAt_eq_ld, harg4.read_unread, harg5.read_unread, harg6.read_unread, harg7.read_unread, harg8.read_unread]
  refine canon_two 1 x0 x1 x2 x3 x4 448 64 (by decide) (by decide) _ _ _ _ (fun r d => ?zz) (fun r d => ?mm) y
  case zz => exact zero1 r d _ Ideal.ofBits_zero_bf16
  case mm =>
    rw [View.ld_unit_zero (by decide) _ x3, View.ld_unit_zero (by decide) _ x4]
    exact stored1 r d _ _ _ _ _ _ _ _ _ _ _ _ _ _ _ _ _ _ _ _ _ _ _ _ x3 x4 (wordsB x0 ⟨448 + r.val, Nat.lt_of_lt_of_le (Nat.add_lt_add_left r.isLt 448) (by decide)⟩) (fun k => x1 (ix3 (0 : Fin 1) k d)) (fun k => x2 (ix3 (0 : Fin 1) k d))
      (fun l => strided arg4 harg4 x0 64 0 448 (by decide) (by decide) _ r l) (fun l => strided arg4 harg4 x0 64 1 448 (by decide) (by decide) _ r l) (fun l => strided arg4 harg4 x0 64 2 448 (by decide) (by decide) _ r l) (fun l => strided arg4 harg4 x0 64 3 448 (by decide) (by decide) _ r l) (fun l => strided arg4 harg4 x0 64 4 448 (by decide) (by decide) _ r l) (fun l => strided arg4 harg4 x0 64 5 448 (by decide) (by decide) _ r l) (fun l => strided arg4 harg4 x0 64 6 448 (by decide) (by decide) _ r l) (fun l => strided arg4 harg4 x0 64 7 448 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV2.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x2 (r : Fin 128) (v0 v1 v2 v3 v4 v5 v6 v7 : Vec Ideal S128x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay19 (F := Ideal) v0 v1 v2 v3 v4 v5 v6 v7 (ix2 r k) = xval w k := by
  pointwise [k0_pay19]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored2 (r : Fin 128) (d : Fin 1024) (v0 v1 v2 v3 v4 v5 v6 v7 : Vec Ideal S128x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay34 (F := Ideal) (k0_pay25 (F := Ideal) v0 v1 v2 v3 v4 v5 v6 v7) (k0_pay26 (F := Ideal) v0 v1 v2 v3 v4 v5 v6 v7) (k0_pay27 (F := Ideal) v0 v1 v2 v3 v4 v5 v6 v7) (k0_pay31 (F := Ideal) (k0_pay27 (F := Ideal) v0 v1 v2 v3 v4 v5 v6 v7) (k0_pay29 (F := Ideal) (k0_pay21 (F := Ideal) v0 v1 v2 v3 v4 v5 v6 v7) (k0_pay22 (F := Ideal) v0 v1 v2 v3 v4 v5 v6 v7) (k0_pay23 (F := Ideal) v0 v1 v2 v3 v4 v5 v6 v7) (k0_pay24 (F := Ideal) v0 v1 v2 v3 v4 v5 v6 v7) (k0_pay25 (F := Ideal) v0 v1 v2 v3 v4 v5 v6 v7) (k0_pay26 (F := Ideal) v0 v1 v2 v3 v4 v5 v6 v7) (k0_pay28 (F := Ideal) v0 v1 v2 v3 v4 v5 v6 v7 wg0) wg1 wg2 wg3 wg4 wg5 wg6) (k0_pay30 (F := Ideal) wg7) (constant (F := Ideal) S128x1024 .f32 0x00000000#32) bg) (k0_pay32 (F := Ideal) (k0_pay20 (F := Ideal) v0 v1 v2 v3 v4 v5 v6 v7) (k0_pay21 (F := Ideal) v0 v1 v2 v3 v4 v5 v6 v7) (k0_pay22 (F := Ideal) v0 v1 v2 v3 v4 v5 v6 v7) (k0_pay23 (F := Ideal) v0 v1 v2 v3 v4 v5 v6 v7) (k0_pay24 (F := Ideal) v0 v1 v2 v3 v4 v5 v6 v7) wu0 wu1 wu2 wu3 wu4) (k0_pay33 (F := Ideal) wu5) (constant (F := Ideal) S128x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay20, k0_pay21, k0_pay22, k0_pay23, k0_pay24, k0_pay25, k0_pay26, k0_pay27, k0_pay28, k0_pay29, k0_pay30, k0_pay31, k0_pay32, k0_pay33, k0_pay34]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x2 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x2 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x2 r v0 v1 v2 v3 v4 v5 v6 v7 w hv0 hv1 hv2 hv3 hv4 hv5 hv6 hv7 _).trans (congrArg (xval w) (Fin.ext (by rfl)))) (hu7 x))

/-- The rows not in use get zeros. -/
theorem zero2 (r : Fin 384) (d : Fin 1024) (c : EReal) (hc : c = 0) : k0_pay132 (F := Ideal) c (ix2 r d) = (0 : EReal) := hc

set_option maxHeartbeats 1000000 in
/-- With 2 part(s) of 64 rows in use the body leaves zeros in the first 384 rows and the activation in the others. -/
theorem read2 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) = 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run2 c i arg4 harg4 arg5 harg5 arg6 harg6 arg7 harg7 arg8 harg8 arg9 harg9 x0 x1 x2 x3 x4 xt0 xt1 hc1 hc2 hc3 hc4 hc5 hc6 hc7 hc8 hc9).1) y = tgt 2 x0 x1 x2 x3 x4 y := by
  rw [View.read_writes_eq_canon _ _ _ (cover2 c i arg4 harg4 arg5 harg5 arg6 harg6 arg7 harg7 arg8 harg8 arg9 harg9 x0 x1 x2 x3 x4 xt0 xt1 hc1 hc2 hc3 hc4 hc5 hc6 hc7 hc8 hc9)]
  unfold run2
  dsimp only
  sl_unfold_words
  simp only [View.readAt_eq_ld, harg4.read_unread, harg5.read_unread, harg6.read_unread, harg7.read_unread, harg8.read_unread]
  refine canon_two 2 x0 x1 x2 x3 x4 384 128 (by decide) (by decide) _ _ _ _ (fun r d => ?zz) (fun r d => ?mm) y
  case zz => exact zero2 r d _ Ideal.ofBits_zero_bf16
  case mm =>
    rw [View.ld_unit_zero (by decide) _ x3, View.ld_unit_zero (by decide) _ x4]
    exact stored2 r d _ _ _ _ _ _ _ _ _ _ _ _ _ _ _ _ _ _ _ _ _ _ _ _ x3 x4 (wordsB x0 ⟨384 + r.val, Nat.lt_of_lt_of_le (Nat.add_lt_add_left r.isLt 384) (by decide)⟩) (fun k => x1 (ix3 (0 : Fin 1) k d)) (fun k => x2 (ix3 (0 : Fin 1) k d))
      (fun l => strided arg4 harg4 x0 128 0 384 (by decide) (by decide) _ r l) (fun l => strided arg4 harg4 x0 128 1 384 (by decide) (by decide) _ r l) (fun l => strided arg4 harg4 x0 128 2 384 (by decide) (by decide) _ r l) (fun l => strided arg4 harg4 x0 128 3 384 (by decide) (by decide) _ r l) (fun l => strided arg4 harg4 x0 128 4 384 (by decide) (by decide) _ r l) (fun l => strided arg4 harg4 x0 128 5 384 (by decide) (by decide) _ r l) (fun l => strided arg4 harg4 x0 128 6 384 (by decide) (by decide) _ r l) (fun l => strided arg4 harg4 x0 128 7 384 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV3.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x3 (r : Fin 192) (v0 v1 v2 v3 v4 v5 v6 v7 : Vec Ideal S192x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay35 (F := Ideal) v0 v1 v2 v3 v4 v5 v6 v7 (ix2 r k) = xval w k := by
  pointwise [k0_pay35]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored3 (r : Fin 192) (d : Fin 1024) (v0 v1 v2 v3 v4 v5 v6 v7 : Vec Ideal S192x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay50 (F := Ideal) (k0_pay41 (F := Ideal) v0 v1 v2 v3 v4 v5 v6 v7) (k0_pay42 (F := Ideal) v0 v1 v2 v3 v4 v5 v6 v7) (k0_pay43 (F := Ideal) v0 v1 v2 v3 v4 v5 v6 v7) (k0_pay47 (F := Ideal) (k0_pay43 (F := Ideal) v0 v1 v2 v3 v4 v5 v6 v7) (k0_pay45 (F := Ideal) (k0_pay37 (F := Ideal) v0 v1 v2 v3 v4 v5 v6 v7) (k0_pay38 (F := Ideal) v0 v1 v2 v3 v4 v5 v6 v7) (k0_pay39 (F := Ideal) v0 v1 v2 v3 v4 v5 v6 v7) (k0_pay40 (F := Ideal) v0 v1 v2 v3 v4 v5 v6 v7) (k0_pay41 (F := Ideal) v0 v1 v2 v3 v4 v5 v6 v7) (k0_pay42 (F := Ideal) v0 v1 v2 v3 v4 v5 v6 v7) (k0_pay44 (F := Ideal) v0 v1 v2 v3 v4 v5 v6 v7 wg0) wg1 wg2 wg3 wg4 wg5 wg6) (k0_pay46 (F := Ideal) wg7) (constant (F := Ideal) S192x1024 .f32 0x00000000#32) bg) (k0_pay48 (F := Ideal) (k0_pay36 (F := Ideal) v0 v1 v2 v3 v4 v5 v6 v7) (k0_pay37 (F := Ideal) v0 v1 v2 v3 v4 v5 v6 v7) (k0_pay38 (F := Ideal) v0 v1 v2 v3 v4 v5 v6 v7) (k0_pay39 (F := Ideal) v0 v1 v2 v3 v4 v5 v6 v7) (k0_pay40 (F := Ideal) v0 v1 v2 v3 v4 v5 v6 v7) wu0 wu1 wu2 wu3 wu4) (k0_pay49 (F := Ideal) wu5) (constant (F := Ideal) S192x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay36, k0_pay37, k0_pay38, k0_pay39, k0_pay40, k0_pay41, k0_pay42, k0_pay43, k0_pay44, k0_pay45, k0_pay46, k0_pay47, k0_pay48, k0_pay49, k0_pay50]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x3 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x3 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x3 r v0 v1 v2 v3 v4 v5 v6 v7 w hv0 hv1 hv2 hv3 hv4 hv5 hv6 hv7 _).trans (congrArg (xval w) (Fin.ext (by rfl)))) (hu7 x))

/-- The rows not in use get zeros. -/
theorem zero3 (r : Fin 320) (d : Fin 1024) (c : EReal) (hc : c = 0) : k0_pay133 (F := Ideal) c (ix2 r d) = (0 : EReal) := hc

set_option maxHeartbeats 1000000 in
/-- With 3 part(s) of 64 rows in use the body leaves zeros in the first 320 rows and the activation in the others. -/
theorem read3 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) = 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run3 c i arg4 harg4 arg5 harg5 arg6 harg6 arg7 harg7 arg8 harg8 arg9 harg9 x0 x1 x2 x3 x4 xt0 xt1 hc1 hc2 hc3 hc4 hc5 hc6 hc7 hc8 hc9).1) y = tgt 3 x0 x1 x2 x3 x4 y := by
  rw [View.read_writes_eq_canon _ _ _ (cover3 c i arg4 harg4 arg5 harg5 arg6 harg6 arg7 harg7 arg8 harg8 arg9 harg9 x0 x1 x2 x3 x4 xt0 xt1 hc1 hc2 hc3 hc4 hc5 hc6 hc7 hc8 hc9)]
  unfold run3
  dsimp only
  sl_unfold_words
  simp only [View.readAt_eq_ld, harg4.read_unread, harg5.read_unread, harg6.read_unread, harg7.read_unread, harg8.read_unread]
  refine canon_two 3 x0 x1 x2 x3 x4 320 192 (by decide) (by decide) _ _ _ _ (fun r d => ?zz) (fun r d => ?mm) y
  case zz => exact zero3 r d _ Ideal.ofBits_zero_bf16
  case mm =>
    rw [View.ld_unit_zero (by decide) _ x3, View.ld_unit_zero (by decide) _ x4]
    exact stored3 r d _ _ _ _ _ _ _ _ _ _ _ _ _ _ _ _ _ _ _ _ _ _ _ _ x3 x4 (wordsB x0 ⟨320 + r.val, Nat.lt_of_lt_of_le (Nat.add_lt_add_left r.isLt 320) (by decide)⟩) (fun k => x1 (ix3 (0 : Fin 1) k d)) (fun k => x2 (ix3 (0 : Fin 1) k d))
      (fun l => strided arg4 harg4 x0 192 0 320 (by decide) (by decide) _ r l) (fun l => strided arg4 harg4 x0 192 1 320 (by decide) (by decide) _ r l) (fun l => strided arg4 harg4 x0 192 2 320 (by decide) (by decide) _ r l) (fun l => strided arg4 harg4 x0 192 3 320 (by decide) (by decide) _ r l) (fun l => strided arg4 harg4 x0 192 4 320 (by decide) (by decide) _ r l) (fun l => strided arg4 harg4 x0 192 5 320 (by decide) (by decide) _ r l) (fun l => strided arg4 harg4 x0 192 6 320 (by decide) (by decide) _ r l) (fun l => strided arg4 harg4 x0 192 7 320 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV4.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x4 (r : Fin 256) (v0 v1 v2 v3 v4 v5 v6 v7 : Vec Ideal S256x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay51 (F := Ideal) v0 v1 v2 v3 v4 v5 v6 v7 (ix2 r k) = xval w k := by
  pointwise [k0_pay51]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored4 (r : Fin 256) (d : Fin 1024) (v0 v1 v2 v3 v4 v5 v6 v7 : Vec Ideal S256x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay66 (F := Ideal) (k0_pay57 (F := Ideal) v0 v1 v2 v3 v4 v5 v6 v7) (k0_pay58 (F := Ideal) v0 v1 v2 v3 v4 v5 v6 v7) (k0_pay59 (F := Ideal) v0 v1 v2 v3 v4 v5 v6 v7) (k0_pay63 (F := Ideal) (k0_pay59 (F := Ideal) v0 v1 v2 v3 v4 v5 v6 v7) (k0_pay61 (F := Ideal) (k0_pay53 (F := Ideal) v0 v1 v2 v3 v4 v5 v6 v7) (k0_pay54 (F := Ideal) v0 v1 v2 v3 v4 v5 v6 v7) (k0_pay55 (F := Ideal) v0 v1 v2 v3 v4 v5 v6 v7) (k0_pay56 (F := Ideal) v0 v1 v2 v3 v4 v5 v6 v7) (k0_pay57 (F := Ideal) v0 v1 v2 v3 v4 v5 v6 v7) (k0_pay58 (F := Ideal) v0 v1 v2 v3 v4 v5 v6 v7) (k0_pay60 (F := Ideal) v0 v1 v2 v3 v4 v5 v6 v7 wg0) wg1 wg2 wg3 wg4 wg5 wg6) (k0_pay62 (F := Ideal) wg7) (constant (F := Ideal) S256x1024 .f32 0x00000000#32) bg) (k0_pay64 (F := Ideal) (k0_pay52 (F := Ideal) v0 v1 v2 v3 v4 v5 v6 v7) (k0_pay53 (F := Ideal) v0 v1 v2 v3 v4 v5 v6 v7) (k0_pay54 (F := Ideal) v0 v1 v2 v3 v4 v5 v6 v7) (k0_pay55 (F := Ideal) v0 v1 v2 v3 v4 v5 v6 v7) (k0_pay56 (F := Ideal) v0 v1 v2 v3 v4 v5 v6 v7) wu0 wu1 wu2 wu3 wu4) (k0_pay65 (F := Ideal) wu5) (constant (F := Ideal) S256x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay52, k0_pay53, k0_pay54, k0_pay55, k0_pay56, k0_pay57, k0_pay58, k0_pay59, k0_pay60, k0_pay61, k0_pay62, k0_pay63, k0_pay64, k0_pay65, k0_pay66]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x4 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x4 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x4 r v0 v1 v2 v3 v4 v5 v6 v7 w hv0 hv1 hv2 hv3 hv4 hv5 hv6 hv7 _).trans (congrArg (xval w) (Fin.ext (by rfl)))) (hu7 x))

/-- The rows not in use get zeros. -/
theorem zero4 (r : Fin 256) (d : Fin 1024) (c : EReal) (hc : c = 0) : k0_pay134 (F := Ideal) c (ix2 r d) = (0 : EReal) := hc

set_option maxHeartbeats 1000000 in
/-- With 4 part(s) of 64 rows in use the body leaves zeros in the first 256 rows and the activation in the others. -/
theorem read4 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) = 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run4 c i arg4 harg4 arg5 harg5 arg6 harg6 arg7 harg7 arg8 harg8 arg9 harg9 x0 x1 x2 x3 x4 xt0 xt1 hc1 hc2 hc3 hc4 hc5 hc6 hc7 hc8 hc9).1) y = tgt 4 x0 x1 x2 x3 x4 y := by
  rw [View.read_writes_eq_canon _ _ _ (cover4 c i arg4 harg4 arg5 harg5 arg6 harg6 arg7 harg7 arg8 harg8 arg9 harg9 x0 x1 x2 x3 x4 xt0 xt1 hc1 hc2 hc3 hc4 hc5 hc6 hc7 hc8 hc9)]
  unfold run4
  dsimp only
  sl_unfold_words
  simp only [View.readAt_eq_ld, harg4.read_unread, harg5.read_unread, harg6.read_unread, harg7.read_unread, harg8.read_unread]
  refine canon_two 4 x0 x1 x2 x3 x4 256 256 (by decide) (by decide) _ _ _ _ (fun r d => ?zz) (fun r d => ?mm) y
  case zz => exact zero4 r d _ Ideal.ofBits_zero_bf16
  case mm =>
    rw [View.ld_unit_zero (by decide) _ x3, View.ld_unit_zero (by decide) _ x4]
    exact stored4 r d _ _ _ _ _ _ _ _ _ _ _ _ _ _ _ _ _ _ _ _ _ _ _ _ x3 x4 (wordsB x0 ⟨256 + r.val, Nat.lt_of_lt_of_le (Nat.add_lt_add_left r.isLt 256) (by decide)⟩) (fun k => x1 (ix3 (0 : Fin 1) k d)) (fun k => x2 (ix3 (0 : Fin 1) k d))
      (fun l => strided arg4 harg4 x0 256 0 256 (by decide) (by decide) _ r l) (fun l => strided arg4 harg4 x0 256 1 256 (by decide) (by decide) _ r l) (fun l => strided arg4 harg4 x0 256 2 256 (by decide) (by decide) _ r l) (fun l => strided arg4 harg4 x0 256 3 256 (by decide) (by decide) _ r l) (fun l => strided arg4 harg4 x0 256 4 256 (by decide) (by decide) _ r l) (fun l => strided arg4 harg4 x0 256 5 256 (by decide) (by decide) _ r l) (fun l => strided arg4 harg4 x0 256 6 256 (by decide) (by decide) _ r l) (fun l => strided arg4 harg4 x0 256 7 256 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV5.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x5 (r : Fin 320) (v0 v1 v2 v3 v4 v5 v6 v7 : Vec Ideal S320x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay67 (F := Ideal) v0 v1 v2 v3 v4 v5 v6 v7 (ix2 r k) = xval w k := by
  pointwise [k0_pay67]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored5 (r : Fin 320) (d : Fin 1024) (v0 v1 v2 v3 v4 v5 v6 v7 : Vec Ideal S320x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay82 (F := Ideal) (k0_pay73 (F := Ideal) v0 v1 v2 v3 v4 v5 v6 v7) (k0_pay74 (F := Ideal) v0 v1 v2 v3 v4 v5 v6 v7) (k0_pay75 (F := Ideal) v0 v1 v2 v3 v4 v5 v6 v7) (k0_pay79 (F := Ideal) (k0_pay75 (F := Ideal) v0 v1 v2 v3 v4 v5 v6 v7) (k0_pay77 (F := Ideal) (k0_pay69 (F := Ideal) v0 v1 v2 v3 v4 v5 v6 v7) (k0_pay70 (F := Ideal) v0 v1 v2 v3 v4 v5 v6 v7) (k0_pay71 (F := Ideal) v0 v1 v2 v3 v4 v5 v6 v7) (k0_pay72 (F := Ideal) v0 v1 v2 v3 v4 v5 v6 v7) (k0_pay73 (F := Ideal) v0 v1 v2 v3 v4 v5 v6 v7) (k0_pay74 (F := Ideal) v0 v1 v2 v3 v4 v5 v6 v7) (k0_pay76 (F := Ideal) v0 v1 v2 v3 v4 v5 v6 v7 wg0) wg1 wg2 wg3 wg4 wg5 wg6) (k0_pay78 (F := Ideal) wg7) (constant (F := Ideal) S320x1024 .f32 0x00000000#32) bg) (k0_pay80 (F := Ideal) (k0_pay68 (F := Ideal) v0 v1 v2 v3 v4 v5 v6 v7) (k0_pay69 (F := Ideal) v0 v1 v2 v3 v4 v5 v6 v7) (k0_pay70 (F := Ideal) v0 v1 v2 v3 v4 v5 v6 v7) (k0_pay71 (F := Ideal) v0 v1 v2 v3 v4 v5 v6 v7) (k0_pay72 (F := Ideal) v0 v1 v2 v3 v4 v5 v6 v7) wu0 wu1 wu2 wu3 wu4) (k0_pay81 (F := Ideal) wu5) (constant (F := Ideal) S320x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay68, k0_pay69, k0_pay70, k0_pay71, k0_pay72, k0_pay73, k0_pay74, k0_pay75, k0_pay76, k0_pay77, k0_pay78, k0_pay79, k0_pay80, k0_pay81, k0_pay82]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x5 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x5 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x5 r v0 v1 v2 v3 v4 v5 v6 v7 w hv0 hv1 hv2 hv3 hv4 hv5 hv6 hv7 _).trans (congrArg (xval w) (Fin.ext (by rfl)))) (hu7 x))

/-- The rows not in use get zeros. -/
theorem zero5 (r : Fin 192) (d : Fin 1024) (c : EReal) (hc : c = 0) : k0_pay135 (F := Ideal) c (ix2 r d) = (0 : EReal) := hc

set_option maxHeartbeats 1000000 in
/-- With 5 part(s) of 64 rows in use the body leaves zeros in the first 192 rows and the activation in the others. -/
theorem read5 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) = 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run5 c i arg4 harg4 arg5 harg5 arg6 harg6 arg7 harg7 arg8 harg8 arg9 harg9 x0 x1 x2 x3 x4 xt0 xt1 hc1 hc2 hc3 hc4 hc5 hc6 hc7 hc8 hc9).1) y = tgt 5 x0 x1 x2 x3 x4 y := by
  rw [View.read_writes_eq_canon _ _ _ (cover5 c i arg4 harg4 arg5 harg5 arg6 harg6 arg7 harg7 arg8 harg8 arg9 harg9 x0 x1 x2 x3 x4 xt0 xt1 hc1 hc2 hc3 hc4 hc5 hc6 hc7 hc8 hc9)]
  unfold run5
  dsimp only
  sl_unfold_words
  simp only [View.readAt_eq_ld, harg4.read_unread, harg5.read_unread, harg6.read_unread, harg7.read_unread, harg8.read_unread]
  refine canon_two 5 x0 x1 x2 x3 x4 192 320 (by decide) (by decide) _ _ _ _ (fun r d => ?zz) (fun r d => ?mm) y
  case zz => exact zero5 r d _ Ideal.ofBits_zero_bf16
  case mm =>
    rw [View.ld_unit_zero (by decide) _ x3, View.ld_unit_zero (by decide) _ x4]
    exact stored5 r d _ _ _ _ _ _ _ _ _ _ _ _ _ _ _ _ _ _ _ _ _ _ _ _ x3 x4 (wordsB x0 ⟨192 + r.val, Nat.lt_of_lt_of_le (Nat.add_lt_add_left r.isLt 192) (by decide)⟩) (fun k => x1 (ix3 (0 : Fin 1) k d)) (fun k => x2 (ix3 (0 : Fin 1) k d))
      (fun l => strided arg4 harg4 x0 320 0 192 (by decide) (by decide) _ r l) (fun l => strided arg4 harg4 x0 320 1 192 (by decide) (by decide) _ r l) (fun l => strided arg4 harg4 x0 320 2 192 (by decide) (by decide) _ r l) (fun l => strided arg4 harg4 x0 320 3 192 (by decide) (by decide) _ r l) (fun l => strided arg4 harg4 x0 320 4 192 (by decide) (by decide) _ r l) (fun l => strided arg4 harg4 x0 320 5 192 (by decide) (by decide) _ r l) (fun l => strided arg4 harg4 x0 320 6 192 (by decide) (by decide) _ r l) (fun l => strided arg4 harg4 x0 320 7 192 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV6.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x6 (r : Fin 384) (v0 v1 v2 v3 v4 v5 v6 v7 : Vec Ideal S384x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay83 (F := Ideal) v0 v1 v2 v3 v4 v5 v6 v7 (ix2 r k) = xval w k := by
  pointwise [k0_pay83]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored6 (r : Fin 384) (d : Fin 1024) (v0 v1 v2 v3 v4 v5 v6 v7 : Vec Ideal S384x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay98 (F := Ideal) (k0_pay89 (F := Ideal) v0 v1 v2 v3 v4 v5 v6 v7) (k0_pay90 (F := Ideal) v0 v1 v2 v3 v4 v5 v6 v7) (k0_pay91 (F := Ideal) v0 v1 v2 v3 v4 v5 v6 v7) (k0_pay95 (F := Ideal) (k0_pay91 (F := Ideal) v0 v1 v2 v3 v4 v5 v6 v7) (k0_pay93 (F := Ideal) (k0_pay85 (F := Ideal) v0 v1 v2 v3 v4 v5 v6 v7) (k0_pay86 (F := Ideal) v0 v1 v2 v3 v4 v5 v6 v7) (k0_pay87 (F := Ideal) v0 v1 v2 v3 v4 v5 v6 v7) (k0_pay88 (F := Ideal) v0 v1 v2 v3 v4 v5 v6 v7) (k0_pay89 (F := Ideal) v0 v1 v2 v3 v4 v5 v6 v7) (k0_pay90 (F := Ideal) v0 v1 v2 v3 v4 v5 v6 v7) (k0_pay92 (F := Ideal) v0 v1 v2 v3 v4 v5 v6 v7 wg0) wg1 wg2 wg3 wg4 wg5 wg6) (k0_pay94 (F := Ideal) wg7) (constant (F := Ideal) S384x1024 .f32 0x00000000#32) bg) (k0_pay96 (F := Ideal) (k0_pay84 (F := Ideal) v0 v1 v2 v3 v4 v5 v6 v7) (k0_pay85 (F := Ideal) v0 v1 v2 v3 v4 v5 v6 v7) (k0_pay86 (F := Ideal) v0 v1 v2 v3 v4 v5 v6 v7) (k0_pay87 (F := Ideal) v0 v1 v2 v3 v4 v5 v6 v7) (k0_pay88 (F := Ideal) v0 v1 v2 v3 v4 v5 v6 v7) wu0 wu1 wu2 wu3 wu4) (k0_pay97 (F := Ideal) wu5) (constant (F := Ideal) S384x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay84, k0_pay85, k0_pay86, k0_pay87, k0_pay88, k0_pay89, k0_pay90, k0_pay91, k0_pay92, k0_pay93, k0_pay94, k0_pay95, k0_pay96, k0_pay97, k0_pay98]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x6 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x6 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x6 r v0 v1 v2 v3 v4 v5 v6 v7 w hv0 hv1 hv2 hv3 hv4 hv5 hv6 hv7 _).trans (congrArg (xval w) (Fin.ext (by rfl)))) (hu7 x))

/-- The rows not in use get zeros. -/
theorem zero6 (r : Fin 128) (d : Fin 1024) (c : EReal) (hc : c = 0) : k0_pay136 (F := Ideal) c (ix2 r d) = (0 : EReal) := hc

set_option maxHeartbeats 1000000 in
/-- With 6 part(s) of 64 rows in use the body leaves zeros in the first 128 rows and the activation in the others. -/
theorem read6 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) = 1#1) (hc7 : k0_cond7 (rowsAt i xt1) ≠ 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run6 c i arg4 harg4 arg5 harg5 arg6 harg6 arg7 harg7 arg8 harg8 arg9 harg9 x0 x1 x2 x3 x4 xt0 xt1 hc1 hc2 hc3 hc4 hc5 hc6 hc7 hc8 hc9).1) y = tgt 6 x0 x1 x2 x3 x4 y := by
  rw [View.read_writes_eq_canon _ _ _ (cover6 c i arg4 harg4 arg5 harg5 arg6 harg6 arg7 harg7 arg8 harg8 arg9 harg9 x0 x1 x2 x3 x4 xt0 xt1 hc1 hc2 hc3 hc4 hc5 hc6 hc7 hc8 hc9)]
  unfold run6
  dsimp only
  sl_unfold_words
  simp only [View.readAt_eq_ld, harg4.read_unread, harg5.read_unread, harg6.read_unread, harg7.read_unread, harg8.read_unread]
  refine canon_two 6 x0 x1 x2 x3 x4 128 384 (by decide) (by decide) _ _ _ _ (fun r d => ?zz) (fun r d => ?mm) y
  case zz => exact zero6 r d _ Ideal.ofBits_zero_bf16
  case mm =>
    rw [View.ld_unit_zero (by decide) _ x3, View.ld_unit_zero (by decide) _ x4]
    exact stored6 r d _ _ _ _ _ _ _ _ _ _ _ _ _ _ _ _ _ _ _ _ _ _ _ _ x3 x4 (wordsB x0 ⟨128 + r.val, Nat.lt_of_lt_of_le (Nat.add_lt_add_left r.isLt 128) (by decide)⟩) (fun k => x1 (ix3 (0 : Fin 1) k d)) (fun k => x2 (ix3 (0 : Fin 1) k d))
      (fun l => strided arg4 harg4 x0 384 0 128 (by decide) (by decide) _ r l) (fun l => strided arg4 harg4 x0 384 1 128 (by decide) (by decide) _ r l) (fun l => strided arg4 harg4 x0 384 2 128 (by decide) (by decide) _ r l) (fun l => strided arg4 harg4 x0 384 3 128 (by decide) (by decide) _ r l) (fun l => strided arg4 harg4 x0 384 4 128 (by decide) (by decide) _ r l) (fun l => strided arg4 harg4 x0 384 5 128 (by decide) (by decide) _ r l) (fun l => strided arg4 harg4 x0 384 6 128 (by decide) (by decide) _ r l) (fun l => strided arg4 harg4 x0 384 7 128 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV7.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x7 (r : Fin 448) (v0 v1 v2 v3 v4 v5 v6 v7 : Vec Ideal S448x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay99 (F := Ideal) v0 v1 v2 v3 v4 v5 v6 v7 (ix2 r k) = xval w k := by
  pointwise [k0_pay99]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored7 (r : Fin 448) (d : Fin 1024) (v0 v1 v2 v3 v4 v5 v6 v7 : Vec Ideal S448x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay114 (F := Ideal) (k0_pay105 (F := Ideal) v0 v1 v2 v3 v4 v5 v6 v7) (k0_pay106 (F := Ideal) v0 v1 v2 v3 v4 v5 v6 v7) (k0_pay107 (F := Ideal) v0 v1 v2 v3 v4 v5 v6 v7) (k0_pay111 (F := Ideal) (k0_pay107 (F := Ideal) v0 v1 v2 v3 v4 v5 v6 v7) (k0_pay109 (F := Ideal) (k0_pay101 (F := Ideal) v0 v1 v2 v3 v4 v5 v6 v7) (k0_pay102 (F := Ideal) v0 v1 v2 v3 v4 v5 v6 v7) (k0_pay103 (F := Ideal) v0 v1 v2 v3 v4 v5 v6 v7) (k0_pay104 (F := Ideal) v0 v1 v2 v3 v4 v5 v6 v7) (k0_pay105 (F := Ideal) v0 v1 v2 v3 v4 v5 v6 v7) (k0_pay106 (F := Ideal) v0 v1 v2 v3 v4 v5 v6 v7) (k0_pay108 (F := Ideal) v0 v1 v2 v3 v4 v5 v6 v7 wg0) wg1 wg2 wg3 wg4 wg5 wg6) (k0_pay110 (F := Ideal) wg7) (constant (F := Ideal) S448x1024 .f32 0x00000000#32) bg) (k0_pay112 (F := Ideal) (k0_pay100 (F := Ideal) v0 v1 v2 v3 v4 v5 v6 v7) (k0_pay101 (F := Ideal) v0 v1 v2 v3 v4 v5 v6 v7) (k0_pay102 (F := Ideal) v0 v1 v2 v3 v4 v5 v6 v7) (k0_pay103 (F := Ideal) v0 v1 v2 v3 v4 v5 v6 v7) (k0_pay104 (F := Ideal) v0 v1 v2 v3 v4 v5 v6 v7) wu0 wu1 wu2 wu3 wu4) (k0_pay113 (F := Ideal) wu5) (constant (F := Ideal) S448x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay100, k0_pay101, k0_pay102, k0_pay103, k0_pay104, k0_pay105, k0_pay106, k0_pay107, k0_pay108, k0_pay109, k0_pay110, k0_pay111, k0_pay112, k0_pay113, k0_pay114]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x7 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x7 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x7 r v0 v1 v2 v3 v4 v5 v6 v7 w hv0 hv1 hv2 hv3 hv4 hv5 hv6 hv7 _).trans (congrArg (xval w) (Fin.ext (by rfl)))) (hu7 x))

/-- The rows not in use get zeros. -/
theorem zero7 (r : Fin 64) (d : Fin 1024) (c : EReal) (hc : c = 0) : k0_pay1 (F := Ideal) c (ix2 r d) = (0 : EReal) := hc

set_option maxHeartbeats 1000000 in
/-- With 7 part(s) of 64 rows in use the body leaves zeros in the first 64 rows and the activation in the others. -/
theorem read7 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) = 1#1) (hc8 : k0_cond8 (rowsAt i xt1) ≠ 1#1) (hc9 : k0_cond9 (rowsAt i xt1) ≠ 1#1) (y : S512x1024.Idx) :
    VO0_5.read (Elt Ideal) (VO0_5.writes (Elt Ideal) VO0_5.junk (run7 c i arg4 harg4 arg5 harg5 arg6 harg6 arg7 harg7 arg8 harg8 arg9 harg9 x0 x1 x2 x3 x4 xt0 xt1 hc1 hc2 hc3 hc4 hc5 hc6 hc7 hc8 hc9).1) y = tgt 7 x0 x1 x2 x3 x4 y := by
  rw [View.read_writes_eq_canon _ _ _ (cover7 c i arg4 harg4 arg5 harg5 arg6 harg6 arg7 harg7 arg8 harg8 arg9 harg9 x0 x1 x2 x3 x4 xt0 xt1 hc1 hc2 hc3 hc4 hc5 hc6 hc7 hc8 hc9)]
  unfold run7
  dsimp only
  sl_unfold_words
  simp only [View.readAt_eq_ld, harg4.read_unread, harg5.read_unread, harg6.read_unread, harg7.read_unread, harg8.read_unread]
  refine canon_two 7 x0 x1 x2 x3 x4 64 448 (by decide) (by decide) _ _ _ _ (fun r d => ?zz) (fun r d => ?mm) y
  case zz => exact zero7 r d _ Ideal.ofBits_zero_bf16
  case mm =>
    rw [View.ld_unit_zero (by decide) _ x3, View.ld_unit_zero (by decide) _ x4]
    exact stored7 r d _ _ _ _ _ _ _ _ _ _ _ _ _ _ _ _ _ _ _ _ _ _ _ _ x3 x4 (wordsB x0 ⟨64 + r.val, Nat.lt_of_lt_of_le (Nat.add_lt_add_left r.isLt 64) (by decide)⟩) (fun k => x1 (ix3 (0 : Fin 1) k d)) (fun k => x2 (ix3 (0 : Fin 1) k d))
      (fun l => strided arg4 harg4 x0 448 0 64 (by decide) (by decide) _ r l) (fun l => strided arg4 harg4 x0 448 1 64 (by decide) (by decide) _ r l) (fun l => strided arg4 harg4 x0 448 2 64 (by decide) (by decide) _ r l) (fun l => strided arg4 harg4 x0 448 3 64 (by decide) (by decide) _ r l) (fun l => strided arg4 harg4 x0 448 4 64 (by decide) (by decide) _ r l) (fun l => strided arg4 harg4 x0 448 5 64 (by decide) (by decide) _ r l) (fun l => strided arg4 harg4 x0 448 6 64 (by decide) (by decide) _ r l) (fun l => strided arg4 harg4 x0 448 7 64 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV8.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The values of the row are the halves of its words. -/
theorem x8 (r : Fin 512) (v0 v1 v2 v3 v4 v5 v6 v7 : Vec Ideal S512x128 .i32) (w : Fin 1024 → BitVec 32) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩) (k : Fin 2048) :
    k0_pay115 (F := Ideal) v0 v1 v2 v3 v4 v5 v6 v7 (ix2 r k) = xval w k := by
  pointwise [k0_pay115]
  unfold xval
  by_cases h : k.val < 1024
  · rw [dif_pos h, dif_pos h]
    exact congrArg (fun z => Ideal.ofBits .f32 (IntOp.shli ArithUnit.vector z 16#32)) (pick8 r v0 v1 v2 v3 v4 v5 v6 v7 w hv0 hv1 hv2 hv3 hv4 hv5 hv6 hv7 k.val h)
  · rw [dif_neg h, dif_neg h]
    exact congrArg (fun z => Ideal.ofBits .f32 (IntOp.andi z 4294901760#32)) (pick8 r v0 v1 v2 v3 v4 v5 v6 v7 w hv0 hv1 hv2 hv3 hv4 hv5 hv6 hv7 (k.val - 1024) (Nat.sub_lt_left_of_lt_add (Nat.le_of_not_lt h) k.isLt))

/-- The stored value is the activation of the row's two sums. -/
theorem stored8 (r : Fin 512) (d : Fin 1024) (v0 v1 v2 v3 v4 v5 v6 v7 : Vec Ideal S512x128 .i32) (wg0 wg1 wg2 wg3 wg4 wg5 wg6 wg7 wu0 wu1 wu2 wu3 wu4 wu5 wu6 wu7 : Vec Ideal S1x256x1024 .f32) (bg bu : Vec Ideal S1x1x1024 .f32)
    (w : Fin 1024 → BitVec 32) (G U : Fin 2048 → EReal) (hv0 : ∀ l : Fin 128, v0 (ix2 r l) = w ⟨128 * 0 + l.val, by omega⟩) (hv1 : ∀ l : Fin 128, v1 (ix2 r l) = w ⟨128 * 1 + l.val, by omega⟩) (hv2 : ∀ l : Fin 128, v2 (ix2 r l) = w ⟨128 * 2 + l.val, by omega⟩) (hv3 : ∀ l : Fin 128, v3 (ix2 r l) = w ⟨128 * 3 + l.val, by omega⟩) (hv4 : ∀ l : Fin 128, v4 (ix2 r l) = w ⟨128 * 4 + l.val, by omega⟩) (hv5 : ∀ l : Fin 128, v5 (ix2 r l) = w ⟨128 * 5 + l.val, by omega⟩) (hv6 : ∀ l : Fin 128, v6 (ix2 r l) = w ⟨128 * 6 + l.val, by omega⟩) (hv7 : ∀ l : Fin 128, v7 (ix2 r l) = w ⟨128 * 7 + l.val, by omega⟩)
    (hg0 : Part wg0 d G 0 (by decide)) (hg1 : Part wg1 d G 1 (by decide)) (hg2 : Part wg2 d G 2 (by decide)) (hg3 : Part wg3 d G 3 (by decide)) (hg4 : Part wg4 d G 4 (by decide)) (hg5 : Part wg5 d G 5 (by decide)) (hg6 : Part wg6 d G 6 (by decide)) (hg7 : Part wg7 d G 7 (by decide))
    (hu0 : Part wu0 d U 0 (by decide)) (hu1 : Part wu1 d U 1 (by decide)) (hu2 : Part wu2 d U 2 (by decide)) (hu3 : Part wu3 d U 3 (by decide)) (hu4 : Part wu4 d U 4 (by decide)) (hu5 : Part wu5 d U 5 (by decide)) (hu6 : Part wu6 d U 6 (by decide)) (hu7 : Part wu7 d U 7 (by decide)) :
    (k0_pay130 (F := Ideal) (k0_pay121 (F := Ideal) v0 v1 v2 v3 v4 v5 v6 v7) (k0_pay122 (F := Ideal) v0 v1 v2 v3 v4 v5 v6 v7) (k0_pay123 (F := Ideal) v0 v1 v2 v3 v4 v5 v6 v7) (k0_pay127 (F := Ideal) (k0_pay123 (F := Ideal) v0 v1 v2 v3 v4 v5 v6 v7) (k0_pay125 (F := Ideal) (k0_pay117 (F := Ideal) v0 v1 v2 v3 v4 v5 v6 v7) (k0_pay118 (F := Ideal) v0 v1 v2 v3 v4 v5 v6 v7) (k0_pay119 (F := Ideal) v0 v1 v2 v3 v4 v5 v6 v7) (k0_pay120 (F := Ideal) v0 v1 v2 v3 v4 v5 v6 v7) (k0_pay121 (F := Ideal) v0 v1 v2 v3 v4 v5 v6 v7) (k0_pay122 (F := Ideal) v0 v1 v2 v3 v4 v5 v6 v7) (k0_pay124 (F := Ideal) v0 v1 v2 v3 v4 v5 v6 v7 wg0) wg1 wg2 wg3 wg4 wg5 wg6) (k0_pay126 (F := Ideal) wg7) (constant (F := Ideal) S512x1024 .f32 0x00000000#32) bg) (k0_pay128 (F := Ideal) (k0_pay116 (F := Ideal) v0 v1 v2 v3 v4 v5 v6 v7) (k0_pay117 (F := Ideal) v0 v1 v2 v3 v4 v5 v6 v7) (k0_pay118 (F := Ideal) v0 v1 v2 v3 v4 v5 v6 v7) (k0_pay119 (F := Ideal) v0 v1 v2 v3 v4 v5 v6 v7) (k0_pay120 (F := Ideal) v0 v1 v2 v3 v4 v5 v6 v7) wu0 wu1 wu2 wu3 wu4) (k0_pay129 (F := Ideal) wu5) (constant (F := Ideal) S512x1024 .f32 0x00000000#32) wu6 wu7 bu) (ix2 r d) = swi ((∑ k : Fin 2048, xval w k * G k) + bg (ix3 (0 : Fin 1) (0 : Fin 1) d)) ((∑ k : Fin 2048, xval w k * U k) + bu (ix3 (0 : Fin 1) (0 : Fin 1) d)) := by
  pointwise [k0_pay116, k0_pay117, k0_pay118, k0_pay119, k0_pay120, k0_pay121, k0_pay122, k0_pay123, k0_pay124, k0_pay125, k0_pay126, k0_pay127, k0_pay128, k0_pay129, k0_pay130]
  refine congrArg₂ swi (congrArg (· + bg (ix3 (0 : Fin 1) (0 : Fin 1) d)) ?_) (congrArg (· + bu (ix3 (0 : Fin 1) (0 : Fin 1) d)) ?_)
  · exact sum_eight (fun k => xval w k * G k) (Finset.sum_congr rfl fun x _ => congrArg₂ (· * ·) ((x8 r v0 v1 v2 v3 v4 v5 v6 v7 w hv0 hv1 hv2 hv3 hv4 hv5 hv6 hv7 _).trans (congrArg (xval w) (Fin.ext (by exact (Nat.zero_add x.val).symm)))) (hg0 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg1 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg2 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg3 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg4 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg5 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg6 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hg7 x))
  · exact sum_eight (fun k => xval w k * U k) (Finset.sum_congr rfl fun x _ => congrArg₂ (· * ·) ((x8 r v0 v1 v2 v3 v4 v5 v6 v7 w hv0 hv1 hv2 hv3 hv4 hv5 hv6 hv7 _).trans (congrArg (xval w) (Fin.ext (by exact (Nat.zero_add x.val).symm)))) (hu0 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu1 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu2 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu3 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu4 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu5 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu6 x))
        (Finset.sum_congr rfl fun x _ => congrArg₂ (· * ·) ((x8 r v0 v1 v2 v3 v4 v5 v6 v7 w hv0 hv1 hv2 hv3 hv4 hv5 hv6 hv7 _).trans (congrArg (xval w) (Fin.ext (by rfl)))) (hu7 x))

set_option maxHeartbeats 1000000 in
/-- With 8 part(s) of 64 rows in use the body leaves zeros in the first 0 rows and the activation in the others. -/
theorem read8 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) = 1#1) (hc9 : k0_cond9 (rowsAt i xt1) ≠ 1#1) (y : S512x1024.Idx) :
    VO0_5.read (Elt Ideal) (VO0_5.writes (Elt Ideal) VO0_5.junk (run8 c i arg4 harg4 arg5 harg5 arg6 harg6 arg7 harg7 arg8 harg8 arg9 harg9 x0 x1 x2 x3 x4 xt0 xt1 hc1 hc2 hc3 hc4 hc5 hc6 hc7 hc8 hc9).1) y = tgt 8 x0 x1 x2 x3 x4 y := by
  rw [View.read_writes_eq_canon _ _ _ (cover8 c i arg4 harg4 arg5 harg5 arg6 harg6 arg7 harg7 arg8 harg8 arg9 harg9 x0 x1 x2 x3 x4 xt0 xt1 hc1 hc2 hc3 hc4 hc5 hc6 hc7 hc8 hc9)]
  unfold run8
  dsimp only
  sl_unfold_words
  simp only [View.readAt_eq_ld, harg4.read_unread, harg5.read_unread, harg6.read_unread, harg7.read_unread, harg8.read_unread]
  refine canon_one x0 x1 x2 x3 x4 _ _ (fun r d => ?mm) y
  case mm =>
    rw [View.ld_unit_zero (by decide) _ x3, View.ld_unit_zero (by decide) _ x4]
    exact stored8 r d _ _ _ _ _ _ _ _ _ _ _ _ _ _ _ _ _ _ _ _ _ _ _ _ x3 x4 (wordsB x0 ⟨0 + r.val, Nat.lt_of_lt_of_le (Nat.add_lt_add_left r.isLt 0) (by decide)⟩) (fun k => x1 (ix3 (0 : Fin 1) k d)) (fun k => x2 (ix3 (0 : Fin 1) k d))
      (fun l => strided arg4 harg4 x0 512 0 0 (by decide) (by decide) _ r l) (fun l => strided arg4 harg4 x0 512 1 0 (by decide) (by decide) _ r l) (fun l => strided arg4 harg4 x0 512 2 0 (by decide) (by decide) _ r l) (fun l => strided arg4 harg4 x0 512 3 0 (by decide) (by decide) _ r l) (fun l => strided arg4 harg4 x0 512 4 0 (by decide) (by decide) _ r l) (fun l => strided arg4 harg4 x0 512 5 0 (by decide) (by decide) _ r l) (fun l => strided arg4 harg4 x0 512 6 0 (by decide) (by decide) _ r l) (fun l => strided arg4 harg4 x0 512 7 0 (by decide) (by decide) _ r l)
      (ldPart x1 0 0 (by decide) (by decide) _ d) (ldPart x1 256 1 (by decide) (by decide) _ d) (ldPart x1 512 2 (by decide) (by decide) _ d) (ldPart x1 768 3 (by decide) (by decide) _ d) (ldPart x1 1024 4 (by decide) (by decide) _ d) (ldPart x1 1280 5 (by decide) (by decide) _ d) (ldPart x1 1536 6 (by decide) (by decide) _ d) (ldPart x1 1792 7 (by decide) (by decide) _ d)
      (ldPart x2 0 0 (by decide) (by decide) _ d) (ldPart x2 256 1 (by decide) (by decide) _ d) (ldPart x2 512 2 (by decide) (by decide) _ d) (ldPart x2 768 3 (by decide) (by decide) _ d) (ldPart x2 1024 4 (by decide) (by decide) _ d) (ldPart x2 1280 5 (by decide) (by decide) _ d) (ldPart x2 1536 6 (by decide) (by decide) _ d) (ldPart x2 1792 7 (by decide) (by decide) _ d)

end Cert.Gu
end
-- ==== Proof.GuV9.lean ====
/- What the gate/up body leaves in its output block in one of its nine cases. -/
module
public import proofs.«01_k».proof.Proof.GuVal
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- With no row in use the body leaves zeros. -/
theorem read9 (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hc1 : k0_cond1 (rowsAt i xt1) ≠ 1#1) (hc2 : k0_cond2 (rowsAt i xt1) ≠ 1#1) (hc3 : k0_cond3 (rowsAt i xt1) ≠ 1#1) (hc4 : k0_cond4 (rowsAt i xt1) ≠ 1#1) (hc5 : k0_cond5 (rowsAt i xt1) ≠ 1#1) (hc6 : k0_cond6 (rowsAt i xt1) ≠ 1#1) (hc7 : k0_cond7 (rowsAt i xt1) ≠ 1#1) (hc8 : k0_cond8 (rowsAt i xt1) ≠ 1#1) (hc9 : k0_cond9 (rowsAt i xt1) = 1#1) (y : S512x1024.Idx) :
    VO0_5.read (Elt Ideal) (VO0_5.writes (Elt Ideal) VO0_5.junk (run9 c i arg4 harg4 arg5 harg5 arg6 harg6 arg7 harg7 arg8 harg8 arg9 harg9 x0 x1 x2 x3 x4 xt0 xt1 hc1 hc2 hc3 hc4 hc5 hc6 hc7 hc8 hc9).1) y = tgt 0 x0 x1 x2 x3 x4 y := by
  rw [View.read_writes_eq_canon _ _ _ (cover9 c i arg4 harg4 arg5 harg5 arg6 harg6 arg7 harg7 arg8 harg8 arg9 harg9 x0 x1 x2 x3 x4 xt0 xt1 hc1 hc2 hc3 hc4 hc5 hc6 hc7 hc8 hc9)]
  unfold run9
  dsimp only
  sl_unfold_words
  rw [View.canon_unit_zero (by decide)]
  have h0 : (y 0).val < 512 := (y 0).isLt
  unfold tgt
  rw [if_pos h0]
  exact Ideal.ofBits_zero_bf16

end Cert.Gu
end
-- ==== Proof.GuOut.lean ====
/- What the gate/up body leaves in its output block, whatever the number of rows in use. -/
module
public import proofs.«01_k».proof.Proof.GuV1
public import proofs.«01_k».proof.Proof.GuV2
public import proofs.«01_k».proof.Proof.GuV3
public import proofs.«01_k».proof.Proof.GuV4
public import proofs.«01_k».proof.Proof.GuV5
public import proofs.«01_k».proof.Proof.GuV6
public import proofs.«01_k».proof.Proof.GuV7
public import proofs.«01_k».proof.Proof.GuV8
public import proofs.«01_k».proof.Proof.GuV9
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

/-- The block the call leaves with `nr` rows in use: the activation in every part of 64 rows that holds one of the last `nr` rows, zeros elsewhere. -/
def tgtN (nr : ℕ) (x0 : Vec Ideal S4096x128 .i32) (x1 x2 : Vec Ideal S1x2048x1024 .f32) (x3 x4 : Vec Ideal S1x1x1024 .f32) (y : S512x1024.Idx) : EReal :=
  if (7 - (y 0).val / 64) * 64 < nr then actB x0 x1 x2 x3 x4 (y 0) (y 1) else 0

theorem tgt_eq (q nr : ℕ) (h : 64 * q < nr + 64) (h' : nr ≤ 64 * q) (hq : q ≤ 8) (x0 : Vec Ideal S4096x128 .i32) (x1 x2 : Vec Ideal S1x2048x1024 .f32) (x3 x4 : Vec Ideal S1x1x1024 .f32) (y : S512x1024.Idx) :
    tgt q x0 x1 x2 x3 x4 y = tgtN nr x0 x1 x2 x3 x4 y := by
  have h0 : (y 0).val < 512 := (y 0).isLt
  unfold tgt tgtN
  by_cases hc : (7 - (y 0).val / 64) * 64 < nr
  · rw [if_pos hc, if_neg (by omega)]
  · rw [if_neg hc, if_pos (by omega)]

/-- What the body leaves in its output block. -/
theorem out_apply (c : Dev nD) (i : grid0.Coords) (arg4 : Memref sig .tc .vmem S4096x128 .i32) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .bf16) (harg9 : arg9.IsWhole)
    (x0 : Vec Ideal S4096x128 .i32) (x1 : Vec Ideal S1x2048x1024 .f32) (x2 : Vec Ideal S1x2048x1024 .f32) (x3 : Vec Ideal S1x1x1024 .f32) (x4 : Vec Ideal S1x1x1024 .f32) (xt0 : TbBuf0 (F := Ideal) c tbM0_0) (xt1 : TbBuf0 (F := Ideal) c tbM0_1) (hw : (rowsAt i xt1).toNat ≤ 512) (y : S512x1024.Idx) :
    out0_5 c i arg4 harg4 arg5 harg5 arg6 harg6 arg7 harg7 arg8 harg8 arg9 harg9 x0 x1 x2 x3 x4 xt0 xt1 hw y = tgtN (rowsAt i xt1).toNat x0 x1 x2 x3 x4 y := by
  unfold out0_5 run
  split
  · exact (read9 c i arg4 harg4 arg5 harg5 arg6 harg6 arg7 harg7 arg8 harg8 arg9 harg9 x0 x1 x2 x3 x4 xt0 xt1 _ _ _ _ _ _ _ _ _ y).trans (tgt_eq 0 _ (by omega) (by omega) (by omega) x0 x1 x2 x3 x4 y)
  split
  · exact (read1 c i arg4 harg4 arg5 harg5 arg6 harg6 arg7 harg7 arg8 harg8 arg9 harg9 x0 x1 x2 x3 x4 xt0 xt1 _ _ _ _ _ _ _ _ _ y).trans (tgt_eq 1 _ (by omega) (by omega) (by omega) x0 x1 x2 x3 x4 y)
  split
  · exact (read2 c i arg4 harg4 arg5 harg5 arg6 harg6 arg7 harg7 arg8 harg8 arg9 harg9 x0 x1 x2 x3 x4 xt0 xt1 _ _ _ _ _ _ _ _ _ y).trans (tgt_eq 2 _ (by omega) (by omega) (by omega) x0 x1 x2 x3 x4 y)
  split
  · exact (read3 c i arg4 harg4 arg5 harg5 arg6 harg6 arg7 harg7 arg8 harg8 arg9 harg9 x0 x1 x2 x3 x4 xt0 xt1 _ _ _ _ _ _ _ _ _ y).trans (tgt_eq 3 _ (by omega) (by omega) (by omega) x0 x1 x2 x3 x4 y)
  split
  · exact (read4 c i arg4 harg4 arg5 harg5 arg6 harg6 arg7 harg7 arg8 harg8 arg9 harg9 x0 x1 x2 x3 x4 xt0 xt1 _ _ _ _ _ _ _ _ _ y).trans (tgt_eq 4 _ (by omega) (by omega) (by omega) x0 x1 x2 x3 x4 y)
  split
  · exact (read5 c i arg4 harg4 arg5 harg5 arg6 harg6 arg7 harg7 arg8 harg8 arg9 harg9 x0 x1 x2 x3 x4 xt0 xt1 _ _ _ _ _ _ _ _ _ y).trans (tgt_eq 5 _ (by omega) (by omega) (by omega) x0 x1 x2 x3 x4 y)
  split
  · exact (read6 c i arg4 harg4 arg5 harg5 arg6 harg6 arg7 harg7 arg8 harg8 arg9 harg9 x0 x1 x2 x3 x4 xt0 xt1 _ _ _ _ _ _ _ _ _ y).trans (tgt_eq 6 _ (by omega) (by omega) (by omega) x0 x1 x2 x3 x4 y)
  split
  · exact (read7 c i arg4 harg4 arg5 harg5 arg6 harg6 arg7 harg7 arg8 harg8 arg9 harg9 x0 x1 x2 x3 x4 xt0 xt1 _ _ _ _ _ _ _ _ _ y).trans (tgt_eq 7 _ (by omega) (by omega) (by omega) x0 x1 x2 x3 x4 y)
  · exact (read8 c i arg4 harg4 arg5 harg5 arg6 harg6 arg7 harg7 arg8 harg8 arg9 harg9 x0 x1 x2 x3 x4 xt0 xt1 _ _ _ _ _ _ _ _ _ y).trans (tgt_eq 8 _ (by omega) (by omega) (by omega) x0 x1 x2 x3 x4 y)

end Cert.Gu
end
-- ==== Proof.GuArr.lean ====
/- The array the gate/up launch leaves, read off its points: every point writes its tile of the gated products. -/
module
public import proofs.«01_k».proof.Proof.GuOut
public import Idealize.ShloMosaic.Lib.Pointwise
public import Idealize.ShloMosaic.Lib.ValueIdx
public import Idealize.ShloMosaic.Lib.ValueLayout
public import Idealize.ShloMosaic.Lib.Pipeline.ValueKit
public import Idealize.ShloMosaic.Lib.Pipeline.ValueKit.Tiles
@[expose] public section
set_option maxRecDepth 65536
noncomputable section
namespace Cert.Gu
open Cert.KernelGuIdeal Cert.KernelGuIdeal.Gen Cert.KernelGuIdeal.Hand Idealize.ShloMosaic Idealize.SL.Sem
open scoped BigOperators

variable (m : (ℓ : Loc nD τ sig) → Buf (Elt Ideal) ℓ)

/-- The coordinates of a point of the grid. -/
theorem crd : ∀ t : Fin 320, (grid0.coords t 0).val = t.val / 160 ∧ (grid0.coords t 1).val = t.val % 160 := by decide +kernel

/-- The block of rows a point works on. -/
def jb (t : Fin 320) : Fin 160 := ⟨t.val % 160, Nat.mod_lt _ (by decide)⟩

/-- A small number as a word and back. -/
theorem toNat_small (n : ℕ) (h : n < 320) : (BitVec.ofNat 32 n).toNat = n := by
  rw [BitVec.toNat_ofNat]; exact Nat.mod_eq_of_lt (by omega)

/-- The place of the tables a point reads. -/
theorem first_emb (t : Fin 320) : (Rect.unit (s := S160) (k0_off1 (grid0.coords t)) S1.size (k0_off1_inb (grid0.coords t))).emb (Shape.Idx.first (numel1_S1.symm ▸ Nat.one_pos))
    = ix1 (jb t) := by
  funext a
  obtain rfl : a = 0 := Subsingleton.elim _ _
  refine Fin.ext ?_
  have h := (crd t).2
  show (BitVec.ofNat 32 (grid0.coords t 1).val).toNat + 1 * 0 = t.val % 160
  rw [h, toNat_small _ (by have := t.isLt; omega)]
  rfl

/-- The expert of a block of rows. -/
def be (j : Fin 160) : ℕ := ((m (((0 : Dev nD).tc : Thread nD τ).loc main_arg0) : S160.Idx → BitVec 32) (ix1 j)).toNat

/-- The rows in use at a point are the second table's word of its block. -/
theorem rows_at (t : Fin 320) : rowsAt (c := (0 : Dev nD)) (grid0.coords t) (tbl m 1) = (m (((0 : Dev nD).tc : Thread nD τ).loc main_arg1) : S160.Idx → BitVec 32) (ix1 (jb t)) := by
  refine Eq.trans ?_ (tbl_one m (ix1 (jb t)))
  exact congrArg (tbl m 1 : S160.Idx → BitVec 32) (first_emb t)

/-- The expert a point reads off the first table. -/
theorem exp_at (t : Fin 320) : ((tbl m 0 : S160.Idx → BitVec 32) ((Rect.unit (s := S160) (k0_off1 (grid0.coords t)) S1.size (k0_off1_inb (grid0.coords t))).emb (Shape.Idx.first (numel1_S1.symm ▸ Nat.one_pos)))).toNat = be m (jb t) := by
  rw [first_emb t, tbl_zero]; rfl

theorem arr0 : ∀ t : Fin 320, cc0_transform_0 (grid0.coords t) = ![t.val % 160, 0] := by decide +kernel
theorem arr5 : ∀ t : Fin 320, cc0_transform_5 (grid0.coords t) = ![t.val % 160, t.val / 160] := by decide +kernel

variable (hO : Ok m) (c : Dev nD)

theorem idx0 (t : Fin (cfgM m hO).N) : ((cfgM m hO).win 0).index t = ![t.val % 160, 0] := arr0 t
theorem idx5 (t : Fin (cfgM m hO).N) : ((cfgM m hO).win 5).index t = ![t.val % 160, t.val / 160] := arr5 t

theorem gcol : ∀ t : Fin 320, (BitVec.ofNat 32 (grid0.coords t 0).val).toNat = t.val / 160 := by decide +kernel
theorem ucol : ∀ t : Fin 320, (2#32 + BitVec.ofNat 32 (grid0.coords t 0).val).toNat = 2 + t.val / 160 := by decide +kernel

theorem idx1 (t : Fin (cfgM m hO).N) : ((cfgM m hO).win 1).index t = ![be m (jb t), 0, t.val / 160] := by
  funext a
  match a with
  | ⟨0, _⟩ => exact exp_at m t
  | ⟨1, _⟩ => rfl
  | ⟨2, _⟩ => exact gcol t
theorem idx2 (t : Fin (cfgM m hO).N) : ((cfgM m hO).win 2).index t = ![be m (jb t), 0, 2 + t.val / 160] := by
  funext a
  match a with
  | ⟨0, _⟩ => exact exp_at m t
  | ⟨1, _⟩ => rfl
  | ⟨2, _⟩ => exact ucol t
theorem idx3 (t : Fin (cfgM m hO).N) : ((cfgM m hO).win 3).index t = ![be m (jb t), 0, t.val / 160] := by
  funext a
  match a with
  | ⟨0, _⟩ => exact exp_at m t
  | ⟨1, _⟩ => rfl
  | ⟨2, _⟩ => exact gcol t
theorem idx4 (t : Fin (cfgM m hO).N) : ((cfgM m hO).win 4).index t = ![be m (jb t), 0, 2 + t.val / 160] := by
  funext a
  match a with
  | ⟨0, _⟩ => exact exp_at m t
  | ⟨1, _⟩ => rfl
  | ⟨2, _⟩ => exact ucol t

/-- The packed words the launch is given are the argument with token and sublane merged. -/
theorem entry_x (j : S655360x128.Idx) : V m c main_v0 j = m ((c.tc : Thread nD τ).loc main_arg2)
    (ix3 (⟨(j 0).val / 8, by have := (j 0).isLt; simp at this; omega⟩ : Fin 81920) (⟨(j 0).val % 8, by omega⟩ : Fin 8) (j 1)) := by
  entry_read
  pointwise

/-- The biases the launch is given are the argument with a middle axis of one. -/
theorem entry_b (j : S32x1x4096.Idx) : V m c main_v1 j = m ((c.tc : Thread nD τ).loc main_arg4) (ix2 (j 0) (j 2)) := by
  entry_read
  pointwise

/-- The packed words of a row of a block of rows. -/
def words (X : Vec Ideal S81920x8x128 .i32) (j : Fin 160) (R : Fin 512) (q : Fin 1024) : BitVec 32 :=
  X (ix3 (⟨512 * j.val + R.val, by have := j.isLt; have := R.isLt; omega⟩ : Fin 81920) (⟨q.val / 128, by have := q.isLt; omega⟩ : Fin 8) (⟨q.val % 128, Nat.mod_lt _ (by decide)⟩ : Fin 128))

theorem blk_x (t : Fin (cfgM m hO).N) (R : Fin 512) (q : Fin 1024) :
    wordsB (iblk m hO c 0 t : Vec Ideal S4096x128 .i32) R q = words (m ((c.tc : Thread nD τ).loc main_arg2)) (jb t) R q := by
  unfold wordsB words jb
  have e := entry_x m c ((((cfgM m hO).win 0).blk t).view.emb (ix2 (⟨8 * R.val + q.val / 128, by have := R.isLt; have := q.isLt; omega⟩ : Fin 4096) (⟨q.val % 128, Nat.mod_lt _ (by decide)⟩ : Fin 128)))
  refine Eq.trans e ?_
  clear e
  blk_ext [idx0 m hO t]

theorem blk_g (t : Fin (cfgM m hO).N) (k : Fin 2048) (d : Fin 1024) (e : Fin 32) (col : Fin 4096) (he : e.val = be m (jb t)) (hc : col.val = t.val / 160 * 1024 + d.val) :
    (iblk m hO c 1 t : Vec Ideal S1x2048x1024 .f32) (ix3 (0 : Fin 1) k d) = m ((c.tc : Thread nD τ).loc main_arg3) (ix3 e k col) := by
  refine Eq.trans (congrFun (V_main_arg3 m c) ((((cfgM m hO).win 1).blk t).view.emb (ix3 (0 : Fin 1) k d))) ?_
  blk_ext [idx1 m hO t]

theorem blk_u (t : Fin (cfgM m hO).N) (k : Fin 2048) (d : Fin 1024) (e : Fin 32) (col : Fin 4096) (he : e.val = be m (jb t)) (hc : col.val = (2 + t.val / 160) * 1024 + d.val) :
    (iblk m hO c 2 t : Vec Ideal S1x2048x1024 .f32) (ix3 (0 : Fin 1) k d) = m ((c.tc : Thread nD τ).loc main_arg3) (ix3 e k col) := by
  refine Eq.trans (congrFun (V_main_arg3 m c) ((((cfgM m hO).win 2).blk t).view.emb (ix3 (0 : Fin 1) k d))) ?_
  blk_ext [idx2 m hO t]

theorem blk_bg (t : Fin (cfgM m hO).N) (d : Fin 1024) (e : Fin 32) (col : Fin 4096) (he : e.val = be m (jb t)) (hc : col.val = t.val / 160 * 1024 + d.val) :
    (iblk m hO c 3 t : Vec Ideal S1x1x1024 .f32) (ix3 (0 : Fin 1) (0 : Fin 1) d) = m ((c.tc : Thread nD τ).loc main_arg4) (ix2 e col) := by
  refine Eq.trans (entry_b m c ((((cfgM m hO).win 3).blk t).view.emb (ix3 (0 : Fin 1) (0 : Fin 1) d))) ?_
  blk_ext [idx3 m hO t]

theorem blk_bu (t : Fin (cfgM m hO).N) (d : Fin 1024) (e : Fin 32) (col : Fin 4096) (he : e.val = be m (jb t)) (hc : col.val = (2 + t.val / 160) * 1024 + d.val) :
    (iblk m hO c 4 t : Vec Ideal S1x1x1024 .f32) (ix3 (0 : Fin 1) (0 : Fin 1) d) = m ((c.tc : Thread nD τ).loc main_arg4) (ix2 e col) := by
  refine Eq.trans (entry_b m c ((((cfgM m hO).win 4).blk t).view.emb (ix3 (0 : Fin 1) (0 : Fin 1) d))) ?_
  blk_ext [idx4 m hO t]

/-- The expert a block of rows uses. -/
def expert (BE : Vec Ideal S160 .i32) (j : Fin 160) : Fin 32 := ⟨(BE (ix1 j) : BitVec 32).toNat % 32, Nat.mod_lt _ (by decide)⟩

/-- One gated product: a row of a block against the columns of its expert's gate and up weights, or zero where the row lies in a piece not in use. -/
def actAt (BE BR : Vec Ideal S160 .i32) (X : Vec Ideal S81920x8x128 .i32) (W : Vec Ideal S32x2048x4096 .f32) (B : Vec Ideal S32x4096 .f32)
    (j : Fin 160) (R : Fin 512) (g u : Fin 4096) : EReal :=
  if (7 - R.val / 64) * 64 < (BR (ix1 j) : BitVec 32).toNat then
    swi ((∑ k : Fin 2048, xval (words X j R) k * W (ix3 (expert BE j) k g)) + B (ix2 (expert BE j) g))
      ((∑ k : Fin 2048, xval (words X j R) k * W (ix3 (expert BE j) k u)) + B (ix2 (expert BE j) u))
  else 0

/-- The array of gated products. -/
def act (BE BR : Vec Ideal S160 .i32) (X : Vec Ideal S81920x8x128 .i32) (W : Vec Ideal S32x2048x4096 .f32) (B : Vec Ideal S32x4096 .f32) :
    Vec Ideal S81920x2048 .bf16 := fun y =>
  actAt BE BR X W B (⟨(y 0).val / 512, by have h : (y 0).val < 81920 := (y 0).isLt; omega⟩ : Fin 160) (⟨(y 0).val % 512, Nat.mod_lt _ (by decide)⟩ : Fin 512)
    (⟨(y 1).val, by have h : (y 1).val < 2048 := (y 1).isLt; omega⟩ : Fin 4096) (⟨2048 + (y 1).val, by have h : (y 1).val < 2048 := (y 1).isLt; omega⟩ : Fin 4096)

/-- A point's tile holds the gated products of its block of rows. -/
theorem tile_eq (hb : ∀ j : S160.Idx, ((m (((0 : Dev nD).tc : Thread nD τ).loc main_arg0) : S160.Idx → BitVec 32) j).toNat < 32)
    (t : Fin (cfgM m hO).N) (y : S512x1024.Idx) (g u : Fin 4096) (hg : g.val = t.val / 160 * 1024 + (y 1).val) (hu : u.val = (2 + t.val / 160) * 1024 + (y 1).val) :
    tgtN ((m (((0 : Dev nD).tc : Thread nD τ).loc main_arg1) : S160.Idx → BitVec 32) (ix1 (jb t))).toNat
      (iblk m hO 0 0 t) (iblk m hO 0 1 t) (iblk m hO 0 2 t) (iblk m hO 0 3 t) (iblk m hO 0 4 t) y
      = actAt (m (((0 : Dev nD).tc : Thread nD τ).loc main_arg0)) (m (((0 : Dev nD).tc : Thread nD τ).loc main_arg1)) (m (((0 : Dev nD).tc : Thread nD τ).loc main_arg2))
        (m (((0 : Dev nD).tc : Thread nD τ).loc main_arg3)) (m (((0 : Dev nD).tc : Thread nD τ).loc main_arg4)) (jb t) (y 0) g u := by
  have he : (expert (m (((0 : Dev nD).tc : Thread nD τ).loc main_arg0)) (jb t)).val = be m (jb t) := Nat.mod_eq_of_lt (hb _)
  have hx : wordsB (iblk m hO 0 0 t : Vec Ideal S4096x128 .i32) (y 0) = words (m (((0 : Dev nD).tc : Thread nD τ).loc main_arg2)) (jb t) (y 0) :=
    funext fun q => blk_x m hO 0 t (y 0) q
  unfold tgtN actAt
  refine if_congr Iff.rfl ?_ rfl
  unfold actB
  rw [hx]
  congr 1
  · congr 1
    · exact Finset.sum_congr rfl fun k _ => congrArg (xval _ k * ·) (blk_g m hO 0 t k (y 1) _ _ he hg)
    · exact blk_bg m hO 0 t (y 1) _ _ he hg
  · congr 1
    · exact Finset.sum_congr rfl fun k _ => congrArg (xval _ k * ·) (blk_u m hO 0 t k (y 1) _ _ he hu)
    · exact blk_bu m hO 0 t (y 1) _ _ he hu

/-- Every block of the result is written at some point. -/
theorem covers : ((cfgM m hO).win 5).Covers := by
  refine ⟨(by decide : ∀ a : Fin 2, 0 < S512x1024.size a), fun β => ?_⟩
  have b0 : (β (0 : Fin 2)).val < (81920 + 512 - 1) / 512 := (β (0 : Fin 2)).isLt
  have b1 : (β (1 : Fin 2)).val < (2048 + 1024 - 1) / 1024 := (β (1 : Fin 2)).isLt
  have e := idx5 m hO ⟨(β (1 : Fin 2)).val * 160 + (β (0 : Fin 2)).val, by show _ < 320; omega⟩
  refine ⟨⟨(β (1 : Fin 2)).val * 160 + (β (0 : Fin 2)).val, by show _ < 320; omega⟩, flush0_5 (adm m hO) _, fun a => ⟨?_, Or.inl rfl⟩⟩
  rw [e]
  match a with
  | ⟨0, _⟩ => show ((β (1 : Fin 2)).val * 160 + (β (0 : Fin 2)).val) % 160 = (β (0 : Fin 2)).val; omega
  | ⟨1, _⟩ => show ((β (1 : Fin 2)).val * 160 + (β (0 : Fin 2)).val) / 160 = (β (1 : Fin 2)).val; omega

/-- What a point writes at a place of its tile is the array's element there. -/
theorem point_eq (hR : Rows m) (hb : ∀ j : S160.Idx, ((m (((0 : Dev nD).tc : Thread nD τ).loc main_arg0) : S160.Idx → BitVec 32) j).toNat < 32)
    (t : Fin (cfgM m hO).N) (y : S512x1024.Idx) (z : S81920x2048.Idx) (e0 : (z 0).val = t.val % 160 * 512 + (y 0).val) (e1 : (z 1).val = t.val / 160 * 1024 + (y 1).val) :
    (outsAt0 m hO hR 0 t : Vec Ideal S512x1024 .bf16) y = act (m (((0 : Dev nD).tc : Thread nD τ).loc main_arg0)) (m (((0 : Dev nD).tc : Thread nD τ).loc main_arg1)) (m (((0 : Dev nD).tc : Thread nD τ).loc main_arg2))
        (m (((0 : Dev nD).tc : Thread nD τ).loc main_arg3)) (m (((0 : Dev nD).tc : Thread nD τ).loc main_arg4)) z := by
  have ht : t.val < 320 := t.isLt
  have y0 : (y 0).val < 512 := (y 0).isLt
  have y1 : (y 1).val < 1024 := (y 1).isLt
  have z0 : (z 0).val < 81920 := (z 0).isLt
  have z1 : (z 1).val < 2048 := (z 1).isLt
  unfold outsAt0
  refine (out_apply (0 : Dev nD) (grid0.coords t) _ _ _ _ _ _ _ _ _ _ _ _ _ _ _ _ _ _ _ (hR (grid0.coords t)) y).trans ?_
  rw [rows_at m t]
  have k0 : ∀ T Y : ℕ, Y < 512 → (T * 512 + Y) / 512 = T := by intro T Y hY; omega
  have k1 : ∀ T Y : ℕ, Y < 512 → (T * 512 + Y) % 512 = Y := by intro T Y hY; omega
  refine (tile_eq m hO hb t y (⟨(z 1).val, by omega⟩ : Fin 4096) (⟨2048 + (z 1).val, by omega⟩ : Fin 4096) e1 (by show 2048 + (z 1).val = _; rw [e1]; ring)).trans ?_
  unfold act
  have w0 : jb t = (⟨(z 0).val / 512, by omega⟩ : Fin 160) := Fin.ext (by show t.val % 160 = (z 0).val / 512; rw [e0, k0 _ _ y0])
  have w1 : y 0 = (⟨(z 0).val % 512, Nat.mod_lt _ (by decide)⟩ : Fin 512) := Fin.ext (by show (y 0).val = (z 0).val % 512; rw [e0, k1 _ _ y0])
  exact congrArg₂ (fun (a : Fin 160) (b : Fin 512) => actAt _ _ _ _ _ a b _ _) w0 w1

/-- The array the launch leaves. -/
theorem arr_eq (hR : Rows m) (hb : ∀ j : S160.Idx, ((m (((0 : Dev nD).tc : Thread nD τ).loc main_arg0) : S160.Idx → BitVec 32) j).toNat < 32) :
    (dats m hO hR 0 (0 : Dev nD)).arrAt 5 (cfgM m hO).N
      = act (m (((0 : Dev nD).tc : Thread nD τ).loc main_arg0)) (m (((0 : Dev nD).tc : Thread nD τ).loc main_arg1)) (m (((0 : Dev nD).tc : Thread nD τ).loc main_arg2))
        (m (((0 : Dev nD).tc : Thread nD τ).loc main_arg3)) (m (((0 : Dev nD).tc : Thread nD τ).loc main_arg4)) := by
  refine (dats m hO hR 0 (0 : Dev nD)).arrAt_eq_of_covers 5 _ (covers m hO) fun t hf y => ?_
  rw [after0_5]
  have e0 : ((((cfgM m hO).win 5).blk t).view.emb y (0 : Fin 2)).val = t.val % 160 * 512 + (y (0 : Fin 2)).val := by blk_simp [idx5 m hO t]
  have e1 : ((((cfgM m hO).win 5).blk t).view.emb y (1 : Fin 2)).val = t.val / 160 * 1024 + (y (1 : Fin 2)).val := by blk_simp [idx5 m hO t]
  exact point_eq m hO hR hb t (((cfgM m hO).win 5).xinj ((cfgM m hO).grid.coords t) y) ((((cfgM m hO).win 5).blk t).view.emb y) e0 e1

/-- The launch leaves its arguments and that array. -/
theorem run_blocks (ρ : Dev nD → PrngReg) (hR : Rows m) : θ_run (defs (F := Ideal)) (onTc (τ := τ) (main (F := Ideal))) ⟨m, fun _ => 0, ρ⟩ (fun r => ∀ c : Dev nD,
      r.2.mem ((c.tc : Thread nD τ).loc main_v2) = (dats m hO hR 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 2).trans (((dats m hO hR 0 c).arrAt_in 2 rfl _).trans ((A_eq m hO hR c 2).trans (V_main_arg3 m c))),
      ((h c).2 main_arg4 (by decide : main_arg4 ∈ Pipeline.restRefs sig spec0)).trans (V_main_arg4 m c)⟩) (run_main m ρ hO hR)

end Cert.Gu
end
-- ==== Proof.GuRef.lean ====
/- The gate/up reference's result is the array of gated products. -/
module
public import proofs.«01_k».proof.Proof.GuArr
public import proofs.«01_k».proof.Proof.Gen.ReferenceGuIdeal
public import proofs.«01_k».proof.Proof.Gen.ReferenceGuIdeal.Run
public import proofs.«01_k».proof.Proof.Gen.ReferenceGuIdeal.Read
public import Idealize.ShloMosaic.Lib.Pointwise
public import Idealize.ShloMosaic.Lib.ValueIdx
public import Idealize.ShloMosaic.Lib.ValueLayout
public import Idealize.ShloMosaic.Lib.WordCmp
public import Idealize.ShloMosaic.Lib.Routing.Ops
public import Idealize.ShloMosaic.Lib.Pipeline.Value
@[expose] public section
set_option maxRecDepth 65536
noncomputable section
namespace Cert.Gu.Ref
open Cert.ReferenceGuIdeal Cert.ReferenceGuIdeal.Gen Cert.ReferenceGuIdeal.Read Idealize.ShloMosaic
open scoped BigOperators

/-- The gather of whole slices by row number. -/
abbrev slab : GatherDims S32x2048x4096 S160x1 S160x2048x4096 := gather_S32x2048x4096_S160x1_S160x2048x4096_12_0_n_n_0_1_120484096

/-- Slices of a table by row numbers: where the row number of `c` is that of `b`, the slice at `c` is the table's at `b`. -/
theorem gather_slab {α : Type} (x : S32x2048x4096.Idx → α) (idx : IVec S160x1 32)
    (c : Fin 160) (k : Fin 2048) (y : Fin 4096) (b : Fin 32) (hb : min (idx (ix2 c (0 : Fin 1))).toInt.toNat 31 = b.val) :
    Host.gather slab x idx (ix3 c k y) = x (ix3 b k y) := by
  unfold Host.gather
  refine congrArg x (funext fun a => Fin.ext ?_)
  have m0 : (0 : Fin 3) ∈ slab.startIndexMap := List.mem_singleton.mpr rfl
  have n1 : (1 : Fin 3) ∉ slab.startIndexMap := show (1 : Fin 3) ∉ [(0 : Fin 3)] by decide
  have n2 : (2 : Fin 3) ∉ slab.startIndexMap := show (2 : Fin 3) ∉ [(0 : Fin 3)] by decide
  have k0 : (0 : Fin 3) ∉ slab.sKept := fun h => ((slab.mem_sKept 0).1 h).1 (List.mem_singleton.2 rfl)
  have k1 : (1 : Fin 3) ∈ slab.sKept := (slab.mem_sKept 1).2 ⟨show (1 : Fin 3) ∉ [(0 : Fin 3)] by decide, List.not_mem_nil⟩
  have k2 : (2 : Fin 3) ∈ slab.sKept := (slab.mem_sKept 2).2 ⟨show (2 : Fin 3) ∉ [(0 : Fin 3)] by decide, List.not_mem_nil⟩
  match a with
  | ⟨0, _⟩ =>
    show slab.start (ix3 c k y) idx 0 + slab.batchCoord (ix3 c k y) 0 + slab.offCoord (ix3 c k y) 0 = b.val
    rw [slab.batchCoord_eq_zero _ _ List.not_mem_nil, slab.offCoord_eq_zero _ _ k0]
    simp only [Nat.add_zero]
    unfold GatherDims.start
    rw [dif_pos m0]
    have hsi : slab.siIdx (ix3 c k y) ⟨List.idxOf (0 : Fin 3) slab.startIndexMap, List.idxOf_lt_length_iff.2 m0⟩ = (ix2 c (0 : Fin 1) : S160x1.Idx) := by
      funext b'; refine Fin.ext ?_
      match b' with
      | ⟨0, _⟩ => rfl
      | ⟨1, _⟩ => rfl
    rw [hsi]
    exact hb
  | ⟨1, _⟩ =>
    show slab.start (ix3 c k y) idx 1 + slab.batchCoord (ix3 c k y) 1 + slab.offCoord (ix3 c k y) 1 = k.val
    rw [slab.batchCoord_eq_zero _ _ List.not_mem_nil]
    unfold GatherDims.start GatherDims.offCoord
    rw [dif_neg n1, dif_pos k1, Nat.zero_add]
    rfl
  | ⟨2, _⟩ =>
    show slab.start (ix3 c k y) idx 2 + slab.batchCoord (ix3 c k y) 2 + slab.offCoord (ix3 c k y) 2 = y.val
    rw [slab.batchCoord_eq_zero _ _ List.not_mem_nil]
    unfold GatherDims.start GatherDims.offCoord
    rw [dif_neg n2, dif_pos k2, Nat.zero_add]
    rfl

/-- An expert's word is not negative, so no wrap-around applies. -/
theorem wrap (BE : IVec S160 32) (hb : ∀ j, (BE j).toNat < 32) (i : S160.Idx) : val_main_v12 (F := Ideal) BE i = BE i := by
  rw [val_main_v12_apply, val_main_v9_apply, val_main_v8_apply, val_main_c_1_apply, WordCmp.cmpi_slt_eq]
  have h : (BE i).toInt = (BE i).toNat := BitVec.toInt_eq_toNat_of_lt (by have := hb i; omega)
  rw [decide_eq_false (by rw [h]; exact not_lt.mpr (Int.natCast_nonneg _))]
  rfl

theorem wrap2 (BE : IVec S160 32) (hb : ∀ j, (BE j).toNat < 32) (i : S160.Idx) : val_main_v20 (F := Ideal) BE i = BE i := by
  rw [val_main_v20_apply, val_main_v17_apply, val_main_v16_apply, val_main_c_3_apply, WordCmp.cmpi_slt_eq]
  have h : (BE i).toInt = (BE i).toNat := BitVec.toInt_eq_toNat_of_lt (by have := hb i; omega)
  rw [decide_eq_false (by rw [h]; exact not_lt.mpr (Int.natCast_nonneg _))]
  rfl

/-- The expert's weights of a block. -/
theorem v14_at (BE : IVec S160 32) (W : FVec Ideal S32x2048x4096 .f32) (hb : ∀ j, (BE j).toNat < 32) (j : Fin 160) (k : Fin 2048) (g : Fin 4096) :
    val_main_v14 (F := Ideal) BE W (ix3 j k g) = W (ix3 (expert BE j) k g) := by
  unfold val_main_v14
  refine gather_slab W _ j k g (expert BE j) ?_
  rw [val_main_v13_apply]
  have e : idx_main_v13 (ix2 j (0 : Fin 1)) = ix1 j := by funext a; obtain rfl : a = 0 := Subsingleton.elim _ _; rfl
  rw [e, wrap BE hb]
  have h : (BE (ix1 j)).toInt = (BE (ix1 j)).toNat := BitVec.toInt_eq_toNat_of_lt (by have := hb (ix1 j); omega)
  rw [h, Int.toNat_natCast]
  show min (BE (ix1 j)).toNat 31 = (BE (ix1 j)).toNat % 32
  have := hb (ix1 j)
  omega

/-- The expert's biases of a block. -/
theorem v22_at (BE : IVec S160 32) (B : FVec Ideal S32x4096 .f32) (hb : ∀ j, (BE j).toNat < 32) (j : Fin 160) (g : Fin 4096) :
    val_main_v22 (F := Ideal) BE B (ix2 j g) = B (ix2 (expert BE j) g) := by
  unfold val_main_v22
  refine Routing.gather_row _ rfl rfl rfl rfl rfl B _ j g (expert BE j) ?_ (by decide)
  rw [val_main_v21_apply]
  have e : ∀ q : S160x1.Idx, q 0 = j → idx_main_v21 q = ix1 j := fun q hq => by
    funext a; obtain rfl : a = 0 := Subsingleton.elim _ _; exact hq
  rw [e _ rfl, wrap2 BE hb]
  refine BitVec.eq_of_toNat_eq ?_
  show (BE (ix1 j)).toNat = (BitVec.ofNat 32 ((BE (ix1 j)).toNat % 32)).toNat
  have := hb (ix1 j)
  rw [BitVec.toNat_ofNat]
  omega

/-- The unpacked row: the low halves' values first, then the high halves'. -/
theorem v7_at (X : IVec S81920x8x128 32) (j : Fin 160) (R : Fin 512) (k : Fin 2048) :
    val_main_v7 (F := Ideal) X (ix3 j R k) = xval (words X j R) k := by
  have w : ∀ q : Fin 1024, val_main_v0 (F := Ideal) X (ix3 j R q) = words X j R q := fun q => by
    rw [val_main_v0_apply]
    unfold words
    refine congrArg X (funext fun a => Fin.ext ?_)
    have hR := R.isLt
    have hq := q.isLt
    match a with
    | ⟨0, _⟩ => show ((j.val * 512 + R.val) * 1024 + q.val) / 1024 = 512 * j.val + R.val; omega
    | ⟨1, _⟩ => show ((j.val * 512 + R.val) * 1024 + q.val) / 128 % 8 = q.val / 128; omega
    | ⟨2, _⟩ => show ((j.val * 512 + R.val) * 1024 + q.val) % 128 = q.val % 128; omega
  unfold val_main_v7 xval
  by_cases h : k.val < 1024
  · rw [dif_pos h]
    refine (concatenate_pair_apply_left (t := S160x512x2048) (s₁ := S160x512x1024) (s₂ := S160x512x1024) (2 : Fin 3) _ _ _ _ rfl (ix3 j R (⟨k.val, h⟩ : Fin 1024)) (fun b => ?_)).trans ?_
    · match b with
      | ⟨0, _⟩ => rfl
      | ⟨1, _⟩ => rfl
      | ⟨2, _⟩ => rfl
    · rw [val_main_v3_apply, val_main_v2_apply, w, val_main_v1_apply, val_main_c_apply, ValueIdx.shli_host]
      rfl
  · rw [dif_neg h]
    refine (concatenate_pair_apply_right (t := S160x512x2048) (s₁ := S160x512x1024) (s₂ := S160x512x1024) (2 : Fin 3) _ _ _ _ rfl rfl (ix3 j R (⟨k.val - 1024, by have := k.isLt; omega⟩ : Fin 1024)) (fun b hne => ?_) ?_).trans ?_
    · match b with
      | ⟨0, _⟩ => rfl
      | ⟨1, _⟩ => rfl
      | ⟨2, _⟩ => exact absurd rfl hne
    · show k.val - 1024 + 1024 = k.val
      omega
    · rw [val_main_v6_apply, val_main_v5_apply, w, val_main_v4_apply, val_main_c_0_apply]
      rfl

/-- A product row with its bias. -/
theorem v25_at (BE : IVec S160 32) (X : IVec S81920x8x128 32) (W : FVec Ideal S32x2048x4096 .f32) (B : FVec Ideal S32x4096 .f32) (hb : ∀ j, (BE j).toNat < 32)
    (j : Fin 160) (R : Fin 512) (g : Fin 4096) :
    val_main_v25 (F := Ideal) BE X W B (ix3 j R g) = (∑ k : Fin 2048, xval (words X j R) k * W (ix3 (expert BE j) k g)) + B (ix2 (expert BE j) g) := by
  rw [val_main_v25_apply, val_main_v15_apply, val_main_v24_apply, val_main_v23_apply]
  have e1 : idx_main_v23 (idx_main_v24 (ix3 j R g)) = ix2 j g := by
    funext a
    match a with
    | ⟨0, _⟩ => rfl
    | ⟨1, _⟩ => rfl
  rw [e1, v22_at BE B hb]
  refine congrArg (· + B (ix2 (expert BE j) g)) (Finset.sum_congr rfl fun k _ => ?_)
  have el : lidx_main_v15 (ix3 j R g) k = ix3 j R k := by
    funext a
    match a with
    | ⟨0, _⟩ => rfl
    | ⟨1, _⟩ => rfl
    | ⟨2, _⟩ => rfl
  have er : ridx_main_v15 (ix3 j R g) k = ix3 j k g := by
    funext a
    match a with
    | ⟨0, _⟩ => rfl
    | ⟨1, _⟩ => rfl
    | ⟨2, _⟩ => rfl
  rw [el, er, v7_at, v14_at BE W hb]

/-- The gated product before the mask. -/
theorem v42_at (BE : IVec S160 32) (X : IVec S81920x8x128 32) (W : FVec Ideal S32x2048x4096 .f32) (B : FVec Ideal S32x4096 .f32) (hb : ∀ j, (BE j).toNat < 32)
    (j : Fin 160) (R : Fin 512) (d : Fin 2048) (g u : Fin 4096) (hg : g.val = d.val) (hu : u.val = 2048 + d.val) :
    val_main_v42 (F := Ideal) BE X W B (ix3 j R d) =
      swi ((∑ k : Fin 2048, xval (words X j R) k * W (ix3 (expert BE j) k g)) + B (ix2 (expert BE j) g))
        ((∑ k : Fin 2048, xval (words X j R) k * W (ix3 (expert BE j) k u)) + B (ix2 (expert BE j) u)) := by
  have eg : val_main_v26 (F := Ideal) BE X W B (ix3 j R d) = (∑ k : Fin 2048, xval (words X j R) k * W (ix3 (expert BE j) k g)) + B (ix2 (expert BE j) g) := by
    rw [val_main_v26_apply, ← v25_at BE X W B hb]
    refine congrArg _ (funext fun a => Fin.ext ?_)
    match a with
    | ⟨0, _⟩ => rfl
    | ⟨1, _⟩ => rfl
    | ⟨2, _⟩ => exact hg.symm
  have eu : val_main_v27 (F := Ideal) BE X W B (ix3 j R d) = (∑ k : Fin 2048, xval (words X j R) k * W (ix3 (expert BE j) k u)) + B (ix2 (expert BE j) u) := by
    rw [val_main_v27_apply, ← v25_at BE X W B hb]
    refine congrArg _ (funext fun a => Fin.ext ?_)
    match a with
    | ⟨0, _⟩ => rfl
    | ⟨1, _⟩ => rfl
    | ⟨2, _⟩ => exact hu.symm
  rw [← eg, ← eu]
  rw [val_main_v42_apply, val_main_v32_apply, val_main_v30_apply, val_main_call0_v4_apply, val_main_call0_v3_apply, val_main_cst_6_apply,
    val_main_call0_v2_apply, val_main_call0_v1_apply, val_main_call0_v0_apply, val_main_cst_5_apply, val_main_v31_apply, val_main_cst_7_apply,
    val_main_v41_apply, val_main_v40_apply, val_main_v39_apply, val_main_cst_10_apply, val_main_v38_apply, val_main_v37_apply, val_main_cst_9_apply,
    val_main_v36_apply, val_main_v35_apply, val_main_v34_apply, val_main_v33_apply, val_main_cst_8_apply, val_main_v29_apply, val_main_v28_apply, val_main_cst_apply]
  generalize val_main_v26 (F := Ideal) BE X W B (ix3 j R d) = G
  generalize val_main_v27 (F := Ideal) BE X W B (ix3 j R d) = U
  unfold swi
  rw [← Ideal.ofBits_one_f32, sub_eq_add_neg, zero_add]
  rfl

/-- The mask's bit of a piece: set where the block's rows in use reach the piece. -/
theorem v53_at (BR : IVec S160 32) (hr : ∀ j, (BR j).toNat ≤ 512) (j : Fin 160) (p : Fin 8) :
    val_main_v53 (F := Ideal) BR (ix2 j p) = BitVec.ofBool (decide ((7 - p.val) * 64 < (BR (ix1 j)).toNat)) := by
  rw [val_main_v53_apply, val_main_v51_apply, val_main_v44_apply, val_main_v52_apply, val_main_v50_apply, val_main_v49_apply, val_main_v47_apply,
    val_main_v46_apply, val_main_c_11_apply, val_main_v45_apply, val_main_v48_apply, val_main_c_12_apply, WordCmp.cmpi_sgt_eq]
  have e : idx_main_v44 (idx_main_v51 (ix2 j p)) = ix1 j := by funext a; obtain rfl : a = 0 := Subsingleton.elim _ _; rfl
  rw [e]
  have h : (BR (ix1 j)).toInt = (BR (ix1 j)).toNat := BitVec.toInt_eq_toNat_of_lt (by have := hr (ix1 j); omega)
  have hp : (IntOp.muli (IntOp.subi 7#32 (BitVec.ofNat 32 p.val)) 64#32).toInt = (((7 - p.val) * 64 : ℕ) : ℤ) :=
    (by decide : ∀ p : Fin 8, (IntOp.muli (IntOp.subi 7#32 (BitVec.ofNat 32 p.val)) 64#32).toInt = (((7 - p.val) * 64 : ℕ) : ℤ)) p
  refine congrArg BitVec.ofBool (decide_eq_decide.mpr ?_)
  refine (show _ ↔ (IntOp.muli (IntOp.subi 7#32 (BitVec.ofNat 32 p.val)) 64#32).toInt < (BR (ix1 j)).toInt from Iff.rfl).trans ?_
  rw [h, hp]
  exact Int.ofNat_lt

/-- A selection by a decided proposition's bit. -/
theorem sel (p : Prop) [Decidable p] (a b : EReal) : Scalar.select (BitVec.ofBool (decide p)) a b = if p then a else b := by
  by_cases h : p
  · rw [decide_eq_true h, if_pos h]; rfl
  · rw [decide_eq_false h, if_neg h]; rfl

/-- The reference's result is the array of gated products. -/
theorem ref_eq (BE BR : IVec S160 32) (X : IVec S81920x8x128 32) (W : FVec Ideal S32x2048x4096 .f32) (B : FVec Ideal S32x4096 .f32)
    (hb : ∀ j, (BE j).toNat < 32) (hr : ∀ j, (BR j).toNat ≤ 512) : val_main_v57 (F := Ideal) BE BR X W B = act BE BR X W B := by
  funext y
  have y0 : (y 0).val < 81920 := (y 0).isLt
  have y1 : (y 1).val < 2048 := (y 1).isLt
  rw [val_main_v57_apply]
  refine (show _ = val_main_v56 (F := Ideal) BE BR X W B y from rfl).trans ?_
  rw [val_main_v56_apply, val_main_v55_apply, val_main_call1_v1_apply, val_main_v54_apply, val_main_call1_v2_apply, val_main_call1_v0_apply, val_main_cst_13_apply, val_main_v43_apply]
  have em : idx_main_v54 (idx_main_call1_v1 (idx_main_v56 y)) = ix2 (⟨(y 0).val / 512, by omega⟩ : Fin 160) (⟨(y 0).val % 512 / 64, by omega⟩ : Fin 8) := by
    funext a
    refine Fin.ext ?_
    match a with
    | ⟨0, _⟩ => show ((y 0).val * 2048 + (y 1).val) / 1048576 = (y 0).val / 512; omega
    | ⟨1, _⟩ => show ((y 0).val * 2048 + (y 1).val) / 131072 % 8 = (y 0).val % 512 / 64; omega
  have ep : idx_main_v43 (idx_main_v56 y) = ix3 (⟨(y 0).val / 512, by omega⟩ : Fin 160) (⟨(y 0).val % 512, by omega⟩ : Fin 512) (⟨(y 1).val, y1⟩ : Fin 2048) := by
    have key : ((((y 0).val * 2048 + (y 1).val) / 1048576 * 8 + ((y 0).val * 2048 + (y 1).val) / 131072 % 8) * 64 + ((y 0).val * 2048 + (y 1).val) / 2048 % 64) * 2048
        + ((y 0).val * 2048 + (y 1).val) % 2048 = (y 0).val * 2048 + (y 1).val := by omega
    funext a
    refine Fin.ext ?_
    match a with
    | ⟨0, _⟩ =>
      refine (congrArg (· / 1048576) key).trans ?_
      show ((y 0).val * 2048 + (y 1).val) / 1048576 = (y 0).val / 512; omega
    | ⟨1, _⟩ =>
      refine (congrArg (· / 2048 % 512) key).trans ?_
      show ((y 0).val * 2048 + (y 1).val) / 2048 % 512 = (y 0).val % 512; omega
    | ⟨2, _⟩ =>
      refine (congrArg (· % 2048) key).trans ?_
      show ((y 0).val * 2048 + (y 1).val) % 2048 = (y 1).val; omega
  rw [em, ep, v53_at BR hr, v42_at BE X W B hb _ _ (⟨(y 1).val, y1⟩ : Fin 2048) (⟨(y 1).val, by omega⟩ : Fin 4096) (⟨2048 + (y 1).val, by omega⟩ : Fin 4096) rfl rfl, sel]
  unfold act actAt
  refine if_congr Iff.rfl rfl ?_
  exact Ideal.ofBits_zero_f32

end Cert.Gu.Ref
end
-- ==== Proof.GateUp.lean ====
/- The claims of the gate/up call: its frames, and that the launch leaves the reference's result. -/
module

public import proofs.«01_k».proof.Proof.GuPre
public import proofs.«01_k».proof.Proof.GuPOk
public import proofs.«01_k».proof.Proof.GuRef
public import Idealize.ShloMosaic.Lib.Claim
public import Idealize.ShloMosaic.Adequacy
public import Idealize.ShloMosaic.Init

@[expose] public section

set_option maxRecDepth 65536

noncomputable section

namespace Cert.Gu

open Idealize.ShloMosaic Idealize.SL.Sem

/-- Under the precondition the launch runs and leaves its arguments. -/
theorem frame_p : Cert.quiescent_KernelGu (hKernelGu := Cert.KernelGu.Gen.facts) (hPre_tables := preFacts) := fun m ρ h =>
  haveI := preFacts
  Cert.KernelGu.Hand.frame m ρ (Cert.KernelGu.Hand.ok_of m (expert_lt _ _ _ _ _ (h 0).1)) (Cert.KernelGu.Hand.rows_of m (rows_le _ _ _ _ _ (h 0).2))

/-- The same of the idealized program. -/
theorem frame_pi : Cert.quiescent_KernelGuIdeal (hKernelGuIdeal := Cert.KernelGuIdeal.Gen.facts) (hPre_tables := preFacts) := fun m ρ h =>
  haveI := preFacts
  Cert.KernelGuIdeal.Hand.frame m ρ (Cert.KernelGuIdeal.Hand.ok_of m (expert_lt _ _ _ _ _ (h 0).1)) (Cert.KernelGuIdeal.Hand.rows_of m (rows_le _ _ _ _ _ (h 0).2))

/-- The reference runs and leaves its arguments. -/
theorem frame_ri : Cert.quiescent_ReferenceGuIdeal (hReferenceGuIdeal := Cert.ReferenceGuIdeal.Gen.facts) := fun m ρ _ =>
  (θ_run Cert.ReferenceGuIdeal.defs _ _).mono (fun r h => ⟨fun c => (h c).2, Idealize.ShloMosaic.sem_eq_zero_of_no_sems (by decide) r.2⟩)
    (Cert.ReferenceGuIdeal.Value.run (F := Ideal) m ρ)

/-- The same where the precondition is assumed. -/
theorem frame_ri_tables : Cert.quiescent_ReferenceGuIdeal_pre_tables (hReferenceGuIdeal := Cert.ReferenceGuIdeal.Gen.facts) (hPre_tables := preFacts) := fun m ρ _ =>
  (θ_run Cert.ReferenceGuIdeal.defs _ _).mono (fun r h => ⟨fun c => (h c).2, Idealize.ShloMosaic.sem_eq_zero_of_no_sems (by decide) r.2⟩)
    (Cert.ReferenceGuIdeal.Value.run (F := Ideal) m ρ)

/-- No operation was rewritten. -/
theorem preserves : Cert.preserves_KernelGu_KernelGuIdeal := trivial

/-- From tables in range, the launch leaves the reference's result. -/
theorem algebraic : Cert.algebraic_KernelGuIdeal_ReferenceGuIdeal (hKernelGuIdeal := Cert.KernelGuIdeal.Gen.facts)
    (hReferenceGuIdeal := Cert.ReferenceGuIdeal.Gen.facts) (hPre_tables := preFacts) := by
  intro m ρ m' ρ' hpre hargs
  haveI := preFacts
  have hb := expert_lt _ _ _ _ _ (hpre 0).1
  have hr := rows_le _ _ _ _ _ (hpre 0).2
  have hO := Cert.KernelGuIdeal.Hand.ok_of m hb
  have hR := Cert.KernelGuIdeal.Hand.rows_of m hr
  have key : ∀ c : Dev Cert.KernelGuIdeal.nD, ((Cert.KernelGuIdeal.Hand.dats m hO hR 0 c).arrAt 5 (Cert.KernelGuIdeal.Hand.cfgM m hO).N : Vec Ideal Cert.KernelGuIdeal.S81920x2048 .bf16)
      = Cert.ReferenceGuIdeal.Read.val_main_v57 (F := Ideal) (m' ((c.tc : Thread Cert.ReferenceGuIdeal.nD Cert.ReferenceGuIdeal.τ).loc Cert.ReferenceGuIdeal.main_arg0))
        (m' ((c.tc : Thread Cert.ReferenceGuIdeal.nD Cert.ReferenceGuIdeal.τ).loc Cert.ReferenceGuIdeal.main_arg1))
        (m' ((c.tc : Thread Cert.ReferenceGuIdeal.nD Cert.ReferenceGuIdeal.τ).loc Cert.ReferenceGuIdeal.main_arg2))
        (m' ((c.tc : Thread Cert.ReferenceGuIdeal.nD Cert.ReferenceGuIdeal.τ).loc Cert.ReferenceGuIdeal.main_arg3))
        (m' ((c.tc : Thread Cert.ReferenceGuIdeal.nD Cert.ReferenceGuIdeal.τ).loc Cert.ReferenceGuIdeal.main_arg4)) := fun c => by
    obtain rfl : c = 0 := Subsingleton.elim _ _
    obtain ⟨a0, a1, a2, a3, a4⟩ := hargs 0
    refine (arr_eq m hO hR hb).trans ?_
    rw [a0, a1, a2, a3, a4]
    exact (Ref.ref_eq _ _ _ _ _ hb hr).symm
  refine ⟨fun c => (Cert.KernelGuIdeal.Hand.dats m hO hR 0 c).arrAt 5 (Cert.KernelGuIdeal.Hand.cfgM m hO).N, run_blocks m hO ρ hR,
    (θ_run Cert.ReferenceGuIdeal.defs _ _).mono (fun r h c => ⟨((h c).1.trans (Cert.ReferenceGuIdeal.Read.val_main_v57_eq _ _)).trans (key c).symm, (h c).2⟩) (Cert.ReferenceGuIdeal.Value.run (F := Ideal) m' ρ')⟩

end Cert.Gu

end
-- ==== Proof.lean ====
/- The proof of the certificate's claim: the frames, the named constants, and that the kernels compute the layer's input projections, its differential attention and its experts' gated products. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention
public import proofs.«01_k».proof.Proof.InR
public import proofs.«01_k».proof.Proof.InD
public import proofs.«01_k».proof.Proof.GateUp
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelInR.Gen.facts, Cert.KernelInRIdeal.Gen.facts, Cert.ReferenceInRIdeal.Gen.facts,
    Cert.KernelInD.Gen.facts, Cert.KernelInDIdeal.Gen.facts, Cert.ReferenceInDIdeal.Gen.facts,
    Cert.KernelGu.Gen.facts, Cert.KernelGuIdeal.Gen.facts, Cert.ReferenceGuIdeal.Gen.facts, Cert.Attn.preFacts, Cert.Gu.preFacts,
    Cert.Attn.frame_p, Cert.Attn.frame_pi, Cert.Attn.frame_pi_finite, Cert.Attn.frame_ri, Cert.Attn.frame_ri_finite,
    Cert.InR.frame_p, Cert.InR.frame_pi, Cert.InR.frame_ri, Cert.InD.frame_p, Cert.InD.frame_pi, Cert.InD.frame_ri,
    Cert.Gu.frame_p, Cert.Gu.frame_pi, Cert.Gu.frame_ri, Cert.Gu.frame_ri_tables,
    Cert.Attn.preserves, Cert.Attn.algebraic, Cert.InR.preserves, Cert.InR.algebraic, Cert.InD.preserves, Cert.InD.algebraic,
    Cert.Gu.preserves, Cert.Gu.algebraic⟩

end Cert.Proof

end
